-- ==== Defs.lean ====
def Pre_Kernel [hPre_experts_exist : Cert.Pre_experts_exist.Facts] (m : (ℓ : Loc Cert.Kernel.nD Cert.Kernel.τ Cert.Kernel.sig) → Buf (Elt Bits) ℓ) : Prop :=
  ∀ c : Dev Cert.Kernel.nD,
    (Cert.Pre_experts_exist.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_experts_exist : Cert.Pre_experts_exist.Facts] (m : (ℓ : Loc Cert.KernelIdeal.nD Cert.KernelIdeal.τ Cert.KernelIdeal.sig) → Buf (Elt Ideal) ℓ) : Prop :=
  ∀ c : Dev Cert.KernelIdeal.nD,
    (Cert.Pre_experts_exist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_experts_exist [hPre_experts_exist : Cert.Pre_experts_exist.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_experts_exist.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def Pre_FfnDense (m : (ℓ : Loc Cert.FfnDense.nD Cert.FfnDense.τ Cert.FfnDense.sig) → Buf (Elt Bits) ℓ) : Prop :=
  True

def Pre_FfnDenseIdeal (m : (ℓ : Loc Cert.FfnDenseIdeal.nD Cert.FfnDenseIdeal.τ Cert.FfnDenseIdeal.sig) → Buf (Elt Ideal) ℓ) : Prop :=
  True

def Pre_FfnDenseReferenceIdeal (m : (ℓ : Loc Cert.FfnDenseReferenceIdeal.nD Cert.FfnDenseReferenceIdeal.τ Cert.FfnDenseReferenceIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_above_mask [hPre_above_mask : Cert.Pre_above_mask.Facts] (m : (ℓ : Loc Cert.RouterIdeal.nD Cert.RouterIdeal.τ Cert.RouterIdeal.sig) → Buf (Elt Ideal) ℓ) : Prop :=
  ∀ c : Dev Cert.RouterIdeal.nD,
    (Cert.Pre_above_mask.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1)) (m ((c.tc : Thread Cert.RouterIdeal.nD Cert.RouterIdeal.τ).loc Cert.RouterIdeal.main_arg2))) = (fun _ => 1#1)

def Pre_RouterReferenceIdeal (m : (ℓ : Loc Cert.RouterReferenceIdeal.nD Cert.RouterReferenceIdeal.τ Cert.RouterReferenceIdeal.sig) → Buf (Elt Ideal) ℓ) : Prop :=
  True

def Pre_RouterReferenceIdeal_above_mask [hPre_above_mask : Cert.Pre_above_mask.Facts] (m : (ℓ : Loc Cert.RouterReferenceIdeal.nD Cert.RouterReferenceIdeal.τ Cert.RouterReferenceIdeal.sig) → Buf (Elt Ideal) ℓ) : Prop :=
  ∀ c : Dev Cert.RouterReferenceIdeal.nD,
    (Cert.Pre_above_mask.fn (F := Ideal) (m ((c.tc : Thread Cert.RouterReferenceIdeal.nD Cert.RouterReferenceIdeal.τ).loc Cert.RouterReferenceIdeal.main_arg0)) (m ((c.tc : Thread Cert.RouterReferenceIdeal.nD Cert.RouterReferenceIdeal.τ).loc Cert.RouterReferenceIdeal.main_arg1)) (m ((c.tc : Thread Cert.RouterReferenceIdeal.nD Cert.RouterReferenceIdeal.τ).loc Cert.RouterReferenceIdeal.main_arg2))) = (fun _ => 1#1)

def quiescent_Kernel [hKernel : Cert.Kernel.Facts] [hPre_experts_exist : Cert.Pre_experts_exist.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_experts_exist : Cert.Pre_experts_exist.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_experts_exist [hReferenceIdeal : Cert.ReferenceIdeal.Facts] [hPre_experts_exist : Cert.Pre_experts_exist.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_experts_exist m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3))
      ∧ r.2.sem = fun _ => 0)

def quiescent_FfnDense [hFfnDense : Cert.FfnDense.Facts] : Prop :=
  ∀ (m : (ℓ : Loc Cert.FfnDense.nD Cert.FfnDense.τ Cert.FfnDense.sig) → Buf (Elt Bits) ℓ) (g : Dev Cert.FfnDense.nD → PrngReg), Pre_FfnDense m →
    θ_run (Cert.FfnDense.defs (F := Bits)) (onTc (τ := Cert.FfnDense.τ) (Cert.FfnDense.main (F := Bits))) ⟨m, fun _ => 0, g⟩ (fun r => (∀ c : Dev Cert.FfnDense.nD,
      r.2.mem ((c.tc : Thread Cert.FfnDense.nD Cert.FfnDense.τ).loc Cert.FfnDense.main_arg0) = m ((c.tc : Thread Cert.FfnDense.nD Cert.FfnDense.τ).loc Cert.FfnDense.main_arg0)
      ∧ r.2.mem ((c.tc : Thread Cert.FfnDense.nD Cert.FfnDense.τ).loc Cert.FfnDense.main_arg1) = m ((c.tc : Thread Cert.FfnDense.nD Cert.FfnDense.τ).loc Cert.FfnDense.main_arg1)
      ∧ r.2.mem ((c.tc : Thread Cert.FfnDense.nD Cert.FfnDense.τ).loc Cert.FfnDense.main_arg2) = m ((c.tc : Thread Cert.FfnDense.nD Cert.FfnDense.τ).loc Cert.FfnDense.main_arg2)
      ∧ r.2.mem ((c.tc : Thread Cert.FfnDense.nD Cert.FfnDense.τ).loc Cert.FfnDense.main_arg3) = m ((c.tc : Thread Cert.FfnDense.nD Cert.FfnDense.τ).loc Cert.FfnDense.main_arg3)
      ∧ r.2.mem ((c.tc : Thread Cert.FfnDense.nD Cert.FfnDense.τ).loc Cert.FfnDense.main_arg4) = m ((c.tc : Thread Cert.FfnDense.nD Cert.FfnDense.τ).loc Cert.FfnDense.main_arg4))
      ∧ r.2.sem = fun _ => 0)

def quiescent_FfnDenseIdeal [hFfnDenseIdeal : Cert.FfnDenseIdeal.Facts] : Prop :=
  ∀ (m : (ℓ : Loc Cert.FfnDenseIdeal.nD Cert.FfnDenseIdeal.τ Cert.FfnDenseIdeal.sig) → Buf (Elt Ideal) ℓ) (g : Dev Cert.FfnDenseIdeal.nD → PrngReg), Pre_FfnDenseIdeal m →
    θ_run (Cert.FfnDenseIdeal.defs (F := Ideal)) (onTc (τ := Cert.FfnDenseIdeal.τ) (Cert.FfnDenseIdeal.main (F := Ideal))) ⟨m, fun _ => 0, g⟩ (fun r => (∀ c : Dev Cert.FfnDenseIdeal.nD,
      r.2.mem ((c.tc : Thread Cert.FfnDenseIdeal.nD Cert.FfnDenseIdeal.τ).loc Cert.FfnDenseIdeal.main_arg0) = m ((c.tc : Thread Cert.FfnDenseIdeal.nD Cert.FfnDenseIdeal.τ).loc Cert.FfnDenseIdeal.main_arg0)
      ∧ r.2.mem ((c.tc : Thread Cert.FfnDenseIdeal.nD Cert.FfnDenseIdeal.τ).loc Cert.FfnDenseIdeal.main_arg1) = m ((c.tc : Thread Cert.FfnDenseIdeal.nD Cert.FfnDenseIdeal.τ).loc Cert.FfnDenseIdeal.main_arg1)
      ∧ r.2.mem ((c.tc : Thread Cert.FfnDenseIdeal.nD Cert.FfnDenseIdeal.τ).loc Cert.FfnDenseIdeal.main_arg2) = m ((c.tc : Thread Cert.FfnDenseIdeal.nD Cert.FfnDenseIdeal.τ).loc Cert.FfnDenseIdeal.main_arg2)
      ∧ r.2.mem ((c.tc : Thread Cert.FfnDenseIdeal.nD Cert.FfnDenseIdeal.τ).loc Cert.FfnDenseIdeal.main_arg3) = m ((c.tc : Thread Cert.FfnDenseIdeal.nD Cert.FfnDenseIdeal.τ).loc Cert.FfnDenseIdeal.main_arg3)
      ∧ r.2.mem ((c.tc : Thread Cert.FfnDenseIdeal.nD Cert.FfnDenseIdeal.τ).loc Cert.FfnDenseIdeal.main_arg4) = m ((c.tc : Thread Cert.FfnDenseIdeal.nD Cert.FfnDenseIdeal.τ).loc Cert.FfnDenseIdeal.main_arg4))
      ∧ r.2.sem = fun _ => 0)

def quiescent_FfnDenseReferenceIdeal [hFfnDenseReferenceIdeal : Cert.FfnDenseReferenceIdeal.Facts] : Prop :=
  ∀ (m : (ℓ : Loc Cert.FfnDenseReferenceIdeal.nD Cert.FfnDenseReferenceIdeal.τ Cert.FfnDenseReferenceIdeal.sig) → Buf (Elt Ideal) ℓ) (g : Dev Cert.FfnDenseReferenceIdeal.nD → PrngReg), Pre_FfnDenseReferenceIdeal m →
    θ_run (Cert.FfnDenseReferenceIdeal.defs (F := Ideal)) (onTc (τ := Cert.FfnDenseReferenceIdeal.τ) (Cert.FfnDenseReferenceIdeal.main (F := Ideal))) ⟨m, fun _ => 0, g⟩ (fun r => (∀ c : Dev Cert.FfnDenseReferenceIdeal.nD,
      r.2.mem ((c.tc : Thread Cert.FfnDenseReferenceIdeal.nD Cert.FfnDenseReferenceIdeal.τ).loc Cert.FfnDenseReferenceIdeal.main_arg0) = m ((c.tc : Thread Cert.FfnDenseReferenceIdeal.nD Cert.FfnDenseReferenceIdeal.τ).loc Cert.FfnDenseReferenceIdeal.main_arg0)
      ∧ r.2.mem ((c.tc : Thread Cert.FfnDenseReferenceIdeal.nD Cert.FfnDenseReferenceIdeal.τ).loc Cert.FfnDenseReferenceIdeal.main_arg1) = m ((c.tc : Thread Cert.FfnDenseReferenceIdeal.nD Cert.FfnDenseReferenceIdeal.τ).loc Cert.FfnDenseReferenceIdeal.main_arg1)
      ∧ r.2.mem ((c.tc : Thread Cert.FfnDenseReferenceIdeal.nD Cert.FfnDenseReferenceIdeal.τ).loc Cert.FfnDenseReferenceIdeal.main_arg2) = m ((c.tc : Thread Cert.FfnDenseReferenceIdeal.nD Cert.FfnDenseReferenceIdeal.τ).loc Cert.FfnDenseReferenceIdeal.main_arg2)
      ∧ r.2.mem ((c.tc : Thread Cert.FfnDenseReferenceIdeal.nD Cert.FfnDenseReferenceIdeal.τ).loc Cert.FfnDenseReferenceIdeal.main_arg3) = m ((c.tc : Thread Cert.FfnDenseReferenceIdeal.nD Cert.FfnDenseReferenceIdeal.τ).loc Cert.FfnDenseReferenceIdeal.main_arg3)
      ∧ r.2.mem ((c.tc : Thread Cert.FfnDenseReferenceIdeal.nD Cert.FfnDenseReferenceIdeal.τ).loc Cert.FfnDenseReferenceIdeal.main_arg4) = m ((c.tc : Thread Cert.FfnDenseReferenceIdeal.nD Cert.FfnDenseReferenceIdeal.τ).loc Cert.FfnDenseReferenceIdeal.main_arg4))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ r.2.sem = fun _ => 0)

def quiescent_RouterIdeal_pre_above_mask [hRouterIdeal : Cert.RouterIdeal.Facts] [hPre_above_mask : Cert.Pre_above_mask.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_above_mask m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ r.2.sem = fun _ => 0)

def quiescent_RouterReferenceIdeal [hRouterReferenceIdeal : Cert.RouterReferenceIdeal.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1)
      ∧ r.2.mem ((c.tc : Thread Cert.RouterReferenceIdeal.nD Cert.RouterReferenceIdeal.τ).loc Cert.RouterReferenceIdeal.main_arg2) = m ((c.tc : Thread Cert.RouterReferenceIdeal.nD Cert.RouterReferenceIdeal.τ).loc Cert.RouterReferenceIdeal.main_arg2))
      ∧ r.2.sem = fun _ => 0)

def quiescent_RouterReferenceIdeal_pre_above_mask [hRouterReferenceIdeal : Cert.RouterReferenceIdeal.Facts] [hPre_above_mask : Cert.Pre_above_mask.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal_above_mask m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1)
      ∧ r.2.mem ((c.tc : Thread Cert.RouterReferenceIdeal.nD Cert.RouterReferenceIdeal.τ).loc Cert.RouterReferenceIdeal.main_arg2) = m ((c.tc : Thread Cert.RouterReferenceIdeal.nD Cert.RouterReferenceIdeal.τ).loc Cert.RouterReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_experts_exist : Cert.Pre_experts_exist.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v137) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)) →
    ∃ (v0 : (c : Dev Cert.CombineIdeal.nD) → Buf (Elt Ideal) ((c.tc : Thread Cert.CombineIdeal.nD Cert.CombineIdeal.τ).loc Cert.CombineIdeal.main_v1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v1) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v16) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3))

def preserves_FfnDense_FfnDenseIdeal : Prop :=
  True

def algebraic_FfnDenseIdeal_FfnDenseReferenceIdeal [hFfnDenseIdeal : Cert.FfnDenseIdeal.Facts] [hFfnDenseReferenceIdeal : Cert.FfnDenseReferenceIdeal.Facts] : Prop :=
  ∀ (m : (ℓ : Loc Cert.FfnDenseIdeal.nD Cert.FfnDenseIdeal.τ Cert.FfnDenseIdeal.sig) → Buf (Elt Ideal) ℓ) (g : Dev Cert.FfnDenseIdeal.nD → PrngReg)
    (m' : (ℓ : Loc Cert.FfnDenseReferenceIdeal.nD Cert.FfnDenseReferenceIdeal.τ Cert.FfnDenseReferenceIdeal.sig) → Buf (Elt Ideal) ℓ) (g' : Dev Cert.FfnDenseReferenceIdeal.nD → PrngReg), Pre_FfnDenseIdeal m →
    (∀ c : Dev Cert.FfnDenseIdeal.nD,
      m' ((c.tc : Thread Cert.FfnDenseReferenceIdeal.nD Cert.FfnDenseReferenceIdeal.τ).loc Cert.FfnDenseReferenceIdeal.main_arg0) = m ((c.tc : Thread Cert.FfnDenseIdeal.nD Cert.FfnDenseIdeal.τ).loc Cert.FfnDenseIdeal.main_arg0)
      ∧ m' ((c.tc : Thread Cert.FfnDenseReferenceIdeal.nD Cert.FfnDenseReferenceIdeal.τ).loc Cert.FfnDenseReferenceIdeal.main_arg1) = m ((c.tc : Thread Cert.FfnDenseIdeal.nD Cert.FfnDenseIdeal.τ).loc Cert.FfnDenseIdeal.main_arg1)
      ∧ m' ((c.tc : Thread Cert.FfnDenseReferenceIdeal.nD Cert.FfnDenseReferenceIdeal.τ).loc Cert.FfnDenseReferenceIdeal.main_arg2) = m ((c.tc : Thread Cert.FfnDenseIdeal.nD Cert.FfnDenseIdeal.τ).loc Cert.FfnDenseIdeal.main_arg2)
      ∧ m' ((c.tc : Thread Cert.FfnDenseReferenceIdeal.nD Cert.FfnDenseReferenceIdeal.τ).loc Cert.FfnDenseReferenceIdeal.main_arg3) = m ((c.tc : Thread Cert.FfnDenseIdeal.nD Cert.FfnDenseIdeal.τ).loc Cert.FfnDenseIdeal.main_arg3)
      ∧ m' ((c.tc : Thread Cert.FfnDenseReferenceIdeal.nD Cert.FfnDenseReferenceIdeal.τ).loc Cert.FfnDenseReferenceIdeal.main_arg4) = m ((c.tc : Thread Cert.FfnDenseIdeal.nD Cert.FfnDenseIdeal.τ).loc Cert.FfnDenseIdeal.main_arg4)) →
    ∃ (v0 : (c : Dev Cert.FfnDenseIdeal.nD) → Buf (Elt Ideal) ((c.tc : Thread Cert.FfnDenseIdeal.nD Cert.FfnDenseIdeal.τ).loc Cert.FfnDenseIdeal.main_v7)),
      θ_run (Cert.FfnDenseIdeal.defs (F := Ideal)) (onTc (τ := Cert.FfnDenseIdeal.τ) (Cert.FfnDenseIdeal.main (F := Ideal))) ⟨m, fun _ => 0, g⟩ (fun r => ∀ c : Dev Cert.FfnDenseIdeal.nD,
          r.2.mem ((c.tc : Thread Cert.FfnDenseIdeal.nD Cert.FfnDenseIdeal.τ).loc Cert.FfnDenseIdeal.main_v7) = v0 c
          ∧ r.2.mem ((c.tc : Thread Cert.FfnDenseIdeal.nD Cert.FfnDenseIdeal.τ).loc Cert.FfnDenseIdeal.main_arg0) = m ((c.tc : Thread Cert.FfnDenseIdeal.nD Cert.FfnDenseIdeal.τ).loc Cert.FfnDenseIdeal.main_arg0)
          ∧ r.2.mem ((c.tc : Thread Cert.FfnDenseIdeal.nD Cert.FfnDenseIdeal.τ).loc Cert.FfnDenseIdeal.main_arg1) = m ((c.tc : Thread Cert.FfnDenseIdeal.nD Cert.FfnDenseIdeal.τ).loc Cert.FfnDenseIdeal.main_arg1)
          ∧ r.2.mem ((c.tc : Thread Cert.FfnDenseIdeal.nD Cert.FfnDenseIdeal.τ).loc Cert.FfnDenseIdeal.main_arg2) = m ((c.tc : Thread Cert.FfnDenseIdeal.nD Cert.FfnDenseIdeal.τ).loc Cert.FfnDenseIdeal.main_arg2)
          ∧ r.2.mem ((c.tc : Thread Cert.FfnDenseIdeal.nD Cert.FfnDenseIdeal.τ).loc Cert.FfnDenseIdeal.main_arg3) = m ((c.tc : Thread Cert.FfnDenseIdeal.nD Cert.FfnDenseIdeal.τ).loc Cert.FfnDenseIdeal.main_arg3)
          ∧ r.2.mem ((c.tc : Thread Cert.FfnDenseIdeal.nD Cert.FfnDenseIdeal.τ).loc Cert.FfnDenseIdeal.main_arg4) = m ((c.tc : Thread Cert.FfnDenseIdeal.nD Cert.FfnDenseIdeal.τ).loc Cert.FfnDenseIdeal.main_arg4))
      ∧ θ_run (Cert.FfnDenseReferenceIdeal.defs (F := Ideal)) (onTc (τ := Cert.FfnDenseReferenceIdeal.τ) (Cert.FfnDenseReferenceIdeal.main (F := Ideal))) ⟨m', fun _ => 0, g'⟩ (fun r => ∀ c : Dev Cert.FfnDenseReferenceIdeal.nD,
          r.2.mem ((c.tc : Thread Cert.FfnDenseReferenceIdeal.nD Cert.FfnDenseReferenceIdeal.τ).loc Cert.FfnDenseReferenceIdeal.main_v18) = v0 c
          ∧ r.2.mem ((c.tc : Thread Cert.FfnDenseReferenceIdeal.nD Cert.FfnDenseReferenceIdeal.τ).loc Cert.FfnDenseReferenceIdeal.main_arg0) = m' ((c.tc : Thread Cert.FfnDenseReferenceIdeal.nD Cert.FfnDenseReferenceIdeal.τ).loc Cert.FfnDenseReferenceIdeal.main_arg0)
          ∧ r.2.mem ((c.tc : Thread Cert.FfnDenseReferenceIdeal.nD Cert.FfnDenseReferenceIdeal.τ).loc Cert.FfnDenseReferenceIdeal.main_arg1) = m' ((c.tc : Thread Cert.FfnDenseReferenceIdeal.nD Cert.FfnDenseReferenceIdeal.τ).loc Cert.FfnDenseReferenceIdeal.main_arg1)
          ∧ r.2.mem ((c.tc : Thread Cert.FfnDenseReferenceIdeal.nD Cert.FfnDenseReferenceIdeal.τ).loc Cert.FfnDenseReferenceIdeal.main_arg2) = m' ((c.tc : Thread Cert.FfnDenseReferenceIdeal.nD Cert.FfnDenseReferenceIdeal.τ).loc Cert.FfnDenseReferenceIdeal.main_arg2)
          ∧ r.2.mem ((c.tc : Thread Cert.FfnDenseReferenceIdeal.nD Cert.FfnDenseReferenceIdeal.τ).loc Cert.FfnDenseReferenceIdeal.main_arg3) = m' ((c.tc : Thread Cert.FfnDenseReferenceIdeal.nD Cert.FfnDenseReferenceIdeal.τ).loc Cert.FfnDenseReferenceIdeal.main_arg3)
          ∧ r.2.mem ((c.tc : Thread Cert.FfnDenseReferenceIdeal.nD Cert.FfnDenseReferenceIdeal.τ).loc Cert.FfnDenseReferenceIdeal.main_arg4) = m' ((c.tc : Thread Cert.FfnDenseReferenceIdeal.nD Cert.FfnDenseReferenceIdeal.τ).loc Cert.FfnDenseReferenceIdeal.main_arg4))

def preserves_Router_RouterIdeal : Prop :=
  True

def algebraic_RouterIdeal_RouterReferenceIdeal_pre_above_mask [hRouterIdeal : Cert.RouterIdeal.Facts] [hRouterReferenceIdeal : Cert.RouterReferenceIdeal.Facts] [hPre_above_mask : Cert.Pre_above_mask.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterReferenceIdeal.nD Cert.RouterReferenceIdeal.τ Cert.RouterReferenceIdeal.sig) → Buf (Elt Ideal) ℓ) (g' : Dev Cert.RouterReferenceIdeal.nD → PrngReg), Pre_RouterIdeal_above_mask m →
    (∀ c : Dev Cert.RouterIdeal.nD,
      m' ((c.tc : Thread Cert.RouterReferenceIdeal.nD Cert.RouterReferenceIdeal.τ).loc Cert.RouterReferenceIdeal.main_arg0) = m ((c.tc : Thread Cert.RouterIdeal.nD Cert.RouterIdeal.τ).loc Cert.RouterIdeal.main_arg0)
      ∧ m' ((c.tc : Thread Cert.RouterReferenceIdeal.nD Cert.RouterReferenceIdeal.τ).loc Cert.RouterReferenceIdeal.main_arg1) = m ((c.tc : Thread Cert.RouterIdeal.nD Cert.RouterIdeal.τ).loc Cert.RouterIdeal.main_arg1)
      ∧ m' ((c.tc : Thread Cert.RouterReferenceIdeal.nD Cert.RouterReferenceIdeal.τ).loc Cert.RouterReferenceIdeal.main_arg2) = m ((c.tc : Thread Cert.RouterIdeal.nD Cert.RouterIdeal.τ).loc Cert.RouterIdeal.main_arg2)) →
    ∃ (v0 : (c : Dev Cert.RouterIdeal.nD) → Buf (Elt Ideal) ((c.tc : Thread Cert.RouterIdeal.nD Cert.RouterIdeal.τ).loc Cert.RouterIdeal.main_v2_0)) (v1 : (c : Dev Cert.RouterIdeal.nD) → Buf (Elt Ideal) ((c.tc : Thread Cert.RouterIdeal.nD Cert.RouterIdeal.τ).loc Cert.RouterIdeal.main_v2_1)) (v2 : (c : Dev Cert.RouterIdeal.nD) → Buf (Elt Ideal) ((c.tc : Thread Cert.RouterIdeal.nD Cert.RouterIdeal.τ).loc Cert.RouterIdeal.main_v2_2)) (v3 : (c : Dev Cert.RouterIdeal.nD) → Buf (Elt Ideal) ((c.tc : Thread Cert.RouterIdeal.nD Cert.RouterIdeal.τ).loc Cert.RouterIdeal.main_v2_3)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v2_0) = v0 c
          ∧ r.2.mem ((c.tc : Thread Cert.RouterIdeal.nD Cert.RouterIdeal.τ).loc Cert.RouterIdeal.main_v2_1) = v1 c
          ∧ r.2.mem ((c.tc : Thread Cert.RouterIdeal.nD Cert.RouterIdeal.τ).loc Cert.RouterIdeal.main_v2_2) = v2 c
          ∧ r.2.mem ((c.tc : Thread Cert.RouterIdeal.nD Cert.RouterIdeal.τ).loc Cert.RouterIdeal.main_v2_3) = v3 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ θ_run (Cert.RouterReferenceIdeal.defs (F := Ideal)) (onTc (τ := Cert.RouterReferenceIdeal.τ) (Cert.RouterReferenceIdeal.main (F := Ideal))) ⟨m', fun _ => 0, g'⟩ (fun r => ∀ c : Dev Cert.RouterReferenceIdeal.nD,
          r.2.mem ((c.tc : Thread Cert.RouterReferenceIdeal.nD Cert.RouterReferenceIdeal.τ).loc Cert.RouterReferenceIdeal.main_v42) = v0 c
          ∧ r.2.mem ((c.tc : Thread Cert.RouterReferenceIdeal.nD Cert.RouterReferenceIdeal.τ).loc Cert.RouterReferenceIdeal.main_v37) = v1 c
          ∧ r.2.mem ((c.tc : Thread Cert.RouterReferenceIdeal.nD Cert.RouterReferenceIdeal.τ).loc Cert.RouterReferenceIdeal.main_v29) = v2 c
          ∧ r.2.mem ((c.tc : Thread Cert.RouterReferenceIdeal.nD Cert.RouterReferenceIdeal.τ).loc Cert.RouterReferenceIdeal.main_v41) = v3 c
          ∧ r.2.mem ((c.tc : Thread Cert.RouterReferenceIdeal.nD Cert.RouterReferenceIdeal.τ).loc Cert.RouterReferenceIdeal.main_arg0) = m' ((c.tc : Thread Cert.RouterReferenceIdeal.nD Cert.RouterReferenceIdeal.τ).loc Cert.RouterReferenceIdeal.main_arg0)
          ∧ r.2.mem ((c.tc : Thread Cert.RouterReferenceIdeal.nD Cert.RouterReferenceIdeal.τ).loc Cert.RouterReferenceIdeal.main_arg1) = m' ((c.tc : Thread Cert.RouterReferenceIdeal.nD Cert.RouterReferenceIdeal.τ).loc Cert.RouterReferenceIdeal.main_arg1)
          ∧ r.2.mem ((c.tc : Thread Cert.RouterReferenceIdeal.nD Cert.RouterReferenceIdeal.τ).loc Cert.RouterReferenceIdeal.main_arg2) = m' ((c.tc : Thread Cert.RouterReferenceIdeal.nD Cert.RouterReferenceIdeal.τ).loc Cert.RouterReferenceIdeal.main_arg2))

def Claim : Prop :=
  ∃ (hKernel : Cert.Kernel.Facts) (hKernelIdeal : Cert.KernelIdeal.Facts) (hReferenceIdeal : Cert.ReferenceIdeal.Facts) (hCombine : Cert.Combine.Facts) (hCombineIdeal : Cert.CombineIdeal.Facts) (hCombineReferenceIdeal : Cert.CombineReferenceIdeal.Facts) (hFfnDense : Cert.FfnDense.Facts) (hFfnDenseIdeal : Cert.FfnDenseIdeal.Facts) (hFfnDenseReferenceIdeal : Cert.FfnDenseReferenceIdeal.Facts) (hRouter : Cert.Router.Facts) (hRouterIdeal : Cert.RouterIdeal.Facts) (hRouterReferenceIdeal : Cert.RouterReferenceIdeal.Facts) (hPre_experts_exist : Cert.Pre_experts_exist.Facts) (hPre_above_mask : Cert.Pre_above_mask.Facts),
    quiescent_Kernel (hKernel := hKernel) (hPre_experts_exist := hPre_experts_exist)
    ∧ quiescent_KernelIdeal (hKernelIdeal := hKernelIdeal) (hPre_experts_exist := hPre_experts_exist)
    ∧ quiescent_ReferenceIdeal (hReferenceIdeal := hReferenceIdeal)
    ∧ quiescent_ReferenceIdeal_pre_experts_exist (hReferenceIdeal := hReferenceIdeal) (hPre_experts_exist := hPre_experts_exist)
    ∧ quiescent_Combine (hCombine := hCombine)
    ∧ quiescent_CombineIdeal (hCombineIdeal := hCombineIdeal)
    ∧ quiescent_CombineReferenceIdeal (hCombineReferenceIdeal := hCombineReferenceIdeal)
    ∧ quiescent_FfnDense (hFfnDense := hFfnDense)
    ∧ quiescent_FfnDenseIdeal (hFfnDenseIdeal := hFfnDenseIdeal)
    ∧ quiescent_FfnDenseReferenceIdeal (hFfnDenseReferenceIdeal := hFfnDenseReferenceIdeal)
    ∧ quiescent_Router (hRouter := hRouter)
    ∧ quiescent_RouterIdeal (hRouterIdeal := hRouterIdeal)
    ∧ quiescent_RouterIdeal_pre_above_mask (hRouterIdeal := hRouterIdeal) (hPre_above_mask := hPre_above_mask)
    ∧ quiescent_RouterReferenceIdeal (hRouterReferenceIdeal := hRouterReferenceIdeal)
    ∧ quiescent_RouterReferenceIdeal_pre_above_mask (hRouterReferenceIdeal := hRouterReferenceIdeal) (hPre_above_mask := hPre_above_mask)
    ∧ preserves_Kernel_KernelIdeal
    ∧ algebraic_KernelIdeal_ReferenceIdeal (hKernelIdeal := hKernelIdeal) (hReferenceIdeal := hReferenceIdeal) (hPre_experts_exist := hPre_experts_exist)
    ∧ preserves_Combine_CombineIdeal
    ∧ algebraic_CombineIdeal_CombineReferenceIdeal (hCombineIdeal := hCombineIdeal) (hCombineReferenceIdeal := hCombineReferenceIdeal)
    ∧ preserves_FfnDense_FfnDenseIdeal
    ∧ algebraic_FfnDenseIdeal_FfnDenseReferenceIdeal (hFfnDenseIdeal := hFfnDenseIdeal) (hFfnDenseReferenceIdeal := hFfnDenseReferenceIdeal)
    ∧ preserves_Router_RouterIdeal
    ∧ algebraic_RouterIdeal_RouterReferenceIdeal_pre_above_mask (hRouterIdeal := hRouterIdeal) (hRouterReferenceIdeal := hRouterReferenceIdeal) (hPre_above_mask := hPre_above_mask)
-- ==== Pre_above_mask.lean ====
abbrev S32768x1024 : Shape := ⟨2, ![32768, 1024]⟩
abbrev S1024 : Shape := ⟨1, ![1024]⟩
abbrev S1024x8 : Shape := ⟨2, ![1024, 8]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x8 : Shape := ⟨2, ![32768, 8]⟩

class Facts : Prop where
  reducesTo_S32768x1024_S32768_d1 : S32768x1024.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x1024_0_1 : S32768x1.BroadcastsInDim S32768x1024 (![0, 1] : Fin 2 → Fin S32768x1024.rank)
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S32768x8 : S_.BroadcastsInDim S32768x8 (![] : Fin 0 → Fin S32768x8.rank)
  reducesTo_S32768x8_S_d0_1 : S32768x8.ReducesTo [0, 1] S_
  dot_S32768x1024_S1024x8_S32768x8_1_0_0_1_n_n_wf : DotDims.WF S32768x1024 S1024x8 S32768x8 [1] [0] [0] [1] [] []

variable [Facts]

def dot_S32768x1024_S1024x8_S32768x8_1_0_0_1_n_n : DotDims S32768x1024 S1024x8 S32768x8 where
  lhsContracting := [1]
  rhsContracting := [0]
  lhsNonContracting := [0]
  rhsNonContracting := [1]
  lhsBatch := []
  rhsBatch := []
  wf := dot_S32768x1024_S1024x8_S32768x8_1_0_0_1_n_n_wf
def fn_part1 {F : FTy → Type} [FloatOps F] (main_v18 : IVec S32768x8 1) : IVec S_ 1 :=
  let main_c : IVec S_ 1 := constantI S_ 1 1#1
  let main_v19 : IVec S_ 1 := (fun x v => Host.reduce IntOp.andi x v reducesTo_S32768x8_S_d0_1 h_S_) main_v18 main_c
  main_v19

def fn {F : FTy → Type} [FloatOps F] (main_arg0 : FVec F S32768x1024 .f32) (main_arg1 : FVec F S1024 .f32) (main_arg2 : FVec F S1024x8 .f32) : IVec S_ 1 :=
  let main_v0 : FVec F S32768x1024 .f32 := mulf main_arg0 main_arg0
  let main_cst : FVec F S_ .f32 := constant S_ .f32 0x00000000#32
  let main_v1 : FVec F S32768 .f32 := (fun x v => Host.reduceAdd x v reducesTo_S32768x1024_S32768_d1 h_S_) main_v0 main_cst
  let main_v2 : FVec F S32768x1 .f32 := broadcastInDim S32768x1 ![0] bcast_S32768_S32768x1_0 main_v1
  let main_cst_0 : FVec F S_ .f32 := constant S_ .f32 0x44800000#32
  let main_v3 : FVec F S32768x1 .f32 := broadcastInDim S32768x1 ![] bcast_S_S32768x1 main_cst_0
  let main_v4 : FVec F S32768x1 .f32 := Host.divf main_v2 main_v3
  let main_cst_1 : FVec F S_ .f32 := constant S_ .f32 0x358637BD#32
  let main_v5 : FVec F S32768x1 .f32 := broadcastInDim S32768x1 ![] bcast_S_S32768x1 main_cst_1
  let main_v6 : FVec F S32768x1 .f32 := addf main_v4 main_v5
  let main_v7 : FVec F S32768x1 .f32 := Host.rsqrt main_v6
  let main_v8 : FVec F S32768x1024 .f32 := broadcastInDim S32768x1024 ![0, 1] bcast_S32768x1_S32768x1024_0_1 main_v7
  let main_v9 : FVec F S32768x1024 .f32 := mulf main_arg0 main_v8
  let main_v10 : FVec F S1x1024 .f32 := broadcastInDim S1x1024 ![1] bcast_S1024_S1x1024_1 main_arg1
  let main_v11 : FVec F S32768x1024 .f32 := broadcastInDim S32768x1024 ![0, 1] bcast_S1x1024_S32768x1024_0_1 main_v10
  let main_v12 : FVec F S32768x1024 .f32 := mulf main_v9 main_v11
  let main_v13 : FVec F S32768x8 .f32 := (fun l r => Host.dotGeneral dot_S32768x1024_S1024x8_S32768x8_1_0_0_1_n_n none l r) main_v12 main_arg2
  let main_cst_2 : FVec F S_ .f32 := constant S_ .f32 0xF149F2CA#32
  let main_v14 : FVec F S32768x8 .f32 := broadcastInDim S32768x8 ![] bcast_S_S32768x8 main_cst_2
  let main_v15 : IVec S32768x8 1 := cmpf .ogt main_v13 main_v14
  let main_cst_3 : FVec F S_ .f32 := constant S_ .f32 0x7F800000#32
  let main_v16 : FVec F S32768x8 .f32 := broadcastInDim S32768x8 ![] bcast_S_S32768x8 main_cst_3
  let main_v17 : IVec S32768x8 1 := cmpf .olt main_v13 main_v16
  let main_v18 : IVec S32768x8 1 := andi main_v15 main_v17
  fn_part1 (F := F) main_v18
-- ==== Pre_experts_exist.lean ====
abbrev S70144x1024 : Shape := ⟨2, ![70144, 1024]⟩
abbrev S70144 : Shape := ⟨1, ![70144]⟩
abbrev S137 : Shape := ⟨1, ![137]⟩
abbrev S_ : Shape := ⟨0, ![]⟩
abbrev S8x1024x3584 : Shape := ⟨3, ![8, 1024, 3584]⟩
abbrev S8x3584x1024 : Shape := ⟨3, ![8, 3584, 1024]⟩

class Facts : Prop where
  bcast_S_S137 : S_.BroadcastsInDim S137 (![] : Fin 0 → Fin S137.rank)

variable [Facts]

def fn {F : FTy → Type} [FloatOps F] (main_arg0 : FVec F S70144x1024 .bf16) (main_arg1 : FVec F S70144 .f32) (main_arg2 : IVec S137 32) (main_arg3 : IVec S_ 32) (main_arg4 : FVec F S8x1024x3584 .f32) (main_arg5 : FVec F S8x1024x3584 .f32) (main_arg6 : FVec F S8x3584x1024 .f32) : IVec S137 1 :=
  let main_c : IVec S_ 32 := constantI S_ 32 0#32
  let main_v0 : IVec S137 32 := broadcastInDim S137 ![] bcast_S_S137 main_c
  let main_v1 : IVec S137 1 := cmpi .sge main_arg2 main_v0
  let main_c_0 : IVec S_ 32 := constantI S_ 32 8#32
  let main_v2 : IVec S137 32 := broadcastInDim S137 ![] bcast_S_S137 main_c_0
  let main_v3 : IVec S137 1 := cmpi .slt main_arg2 main_v2
  let main_v4 : IVec S137 1 := andi main_v1 main_v3
  main_v4
-- ==== Kernel.lean ====
abbrev S70144x1024 : Shape := ⟨2, ![70144, 1024]⟩
abbrev S70144 : Shape := ⟨1, ![70144]⟩
abbrev S137 : Shape := ⟨1, ![137]⟩
abbrev S_ : Shape := ⟨0, ![]⟩
abbrev S8x1024x3584 : Shape := ⟨3, ![8, 1024, 3584]⟩
abbrev S8x3584x1024 : Shape := ⟨3, ![8, 3584, 1024]⟩
abbrev S70144x1 : Shape := ⟨2, ![70144, 1]⟩
abbrev S1 : Shape := ⟨1, ![1]⟩
abbrev S512x1024 : Shape := ⟨2, ![512, 1024]⟩
abbrev S512x1 : Shape := ⟨2, ![512, 1]⟩
abbrev S1x1024x512 : Shape := ⟨3, ![1, 1024, 512]⟩
abbrev S1x512x1024 : Shape := ⟨3, ![1, 512, 1024]⟩
abbrev S1024x512 : Shape := ⟨2, ![1024, 512]⟩
abbrev S512x512 : Shape := ⟨2, ![512, 512]⟩

abbrev nBuf : Space → Nat
  | .hbm => 11
  | .vmem => 13
  | .smem => 2
  | _ => 0

abbrev bufTy : (tb : Table) → Fin (tcTables nBuf tb) → BufTy
  | .hbm, ⟨0, _⟩ => ⟨S70144x1024, .bf16⟩
  | .hbm, ⟨1, _⟩ => ⟨S70144, .f32⟩
  | .hbm, ⟨2, _⟩ => ⟨S_, .i32⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S70144x1, .f32⟩
  | .hbm, ⟨7, _⟩ => ⟨S8x1024x3584, .bf16⟩
  | .hbm, ⟨8, _⟩ => ⟨S8x1024x3584, .bf16⟩
  | .hbm, ⟨9, _⟩ => ⟨S8x3584x1024, .bf16⟩
  | .hbm, ⟨10, _⟩ => ⟨S70144x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1, .f32⟩
  | .local _ .vmem, ⟨3, _⟩ => ⟨S512x1, .f32⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x512x1024, .bf16⟩
  | .local _ .vmem, ⟨9, _⟩ => ⟨S1x512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .smem, ⟨0, _⟩ => ⟨S137, .i32⟩
  | .local _ .smem, ⟨1, _⟩ => ⟨S1, .i32⟩
  | _, _ => ⟨S70144x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_arg2 : Ref sig .tc := ⟨.smem, 0, rfl⟩
abbrev main_v1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![137, 7], ![false, false]⟩

abbrev pre0 : Pipeline.Prefetch sig := ⟨2, ![main_arg2.idx, main_v1.idx], fun | 0 => main_arg2.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond4 (i : grid0.Coords) : BitVec 1 :=
  let arg1 : BitVec 32 := BitVec.ofNat 32 (i 1).val
  let c6_i32 : BitVec 32 := 6#32
  let v4 : BitVec 1 := Scalar.cmpi .eq arg1 c6_i32
  let v5 : BitVec 32 := Scalar.extui v4
  let c0_i32_0 : BitVec 32 := 0#32
  let v6 : BitVec 1 := Scalar.cmpi .ne v5 c0_i32_0
  v6

def k0_cond5 (i : grid0.Coords) (v0 : BitVec 32) : BitVec 1 :=
  let arg0 : BitVec 32 := BitVec.ofNat 32 (i 0).val
  let v1 : BitVec 1 := Scalar.cmpi .slt arg0 v0
  let v7 : BitVec 32 := Scalar.extui v1
  let c0_i32_1 : BitVec 32 := 0#32
  let v8 : BitVec 1 := Scalar.cmpi .ne v7 c0_i32_1
  v8

def k0_cond6 (i : grid0.Coords) (v0 : BitVec 32) : BitVec 1 :=
  let arg0 : BitVec 32 := BitVec.ofNat 32 (i 0).val
  let v1 : BitVec 1 := Scalar.cmpi .slt arg0 v0
  let v_true : BitVec 1 := 1#1
  let v9 : BitVec 1 := Scalar.xori v1 v_true
  let v10 : BitVec 32 := Scalar.extui v9
  let c0_i32_2 : BitVec 32 := 0#32
  let v11 : BitVec 1 := Scalar.cmpi .ne v10 c0_i32_2
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (k0_off1_inb : ∀ i : grid0.Coords, ∀ a, (k0_off1 i) a + S1.size a ≤ S137.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S137) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S137.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S137) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, c0_i32.toNat, v4.toNat]

def cc0_transform_4 (k0_off1_inb : ∀ i : grid0.Coords, ∀ a, (k0_off1 i) a + S1.size a ≤ S137.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S137) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c6_i32 : BitVec 32 := 6#32
  let v4 : BitVec 32 := Scalar.select v3 arg1 c6_i32
  let c0_i32 : BitVec 32 := 0#32
  let c0_i32_0 : BitVec 32 := 0#32
  ![v1.toNat, v4.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S70144x1024 : Shape := ⟨2, ![70144, 1024]⟩
abbrev S70144 : Shape := ⟨1, ![70144]⟩
abbrev S137 : Shape := ⟨1, ![137]⟩
abbrev S_ : Shape := ⟨0, ![]⟩
abbrev S8x1024x3584 : Shape := ⟨3, ![8, 1024, 3584]⟩
abbrev S8x3584x1024 : Shape := ⟨3, ![8, 3584, 1024]⟩
abbrev S137x512 : Shape := ⟨2, ![137, 512]⟩
abbrev S70144x1 : Shape := ⟨2, ![70144, 1]⟩
abbrev S8 : Shape := ⟨1, ![8]⟩
abbrev S1x8 : Shape := ⟨2, ![1, 8]⟩
abbrev S70144x8 : Shape := ⟨2, ![70144, 8]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S70144x3584 : Shape := ⟨2, ![70144, 3584]⟩

abbrev nBuf : Space → Nat
  | .hbm => 234
  | .vmem => 0
  | .smem => 0
  | _ => 0

abbrev hbmTy0_0 (i : Nat) : BufTy := match i % 128 with
  | 0 => ⟨S70144x1024, .bf16⟩
  | 1 => ⟨S70144, .f32⟩
  | 2 => ⟨S137, .i32⟩
  | 3 => ⟨S_, .i32⟩
  | 4 => ⟨S8x1024x3584, .f32⟩
  | 5 => ⟨S8x1024x3584, .f32⟩
  | 6 => ⟨S8x3584x1024, .f32⟩
  | 7 => ⟨S70144x1024, .f32⟩
  | 8 => ⟨S70144, .i32⟩
  | 9 => ⟨S_, .i32⟩
  | 10 => ⟨S_, .i32⟩
  | 11 => ⟨S70144, .i32⟩
  | 12 => ⟨S70144, .i32⟩
  | 13 => ⟨S70144, .i32⟩
  | 14 => ⟨S_, .i32⟩
  | 15 => ⟨S70144, .i32⟩
  | 16 => ⟨S70144, .i1⟩
  | 17 => ⟨S70144, .i32⟩
  | 18 => ⟨S70144, .i32⟩
  | 19 => ⟨S_, .i32⟩
  | 20 => ⟨S70144, .i32⟩
  | 21 => ⟨S70144, .i1⟩
  | 22 => ⟨S70144, .i1⟩
  | 23 => ⟨S_, .i32⟩
  | 24 => ⟨S70144, .i32⟩
  | 25 => ⟨S70144, .i32⟩
  | 26 => ⟨S70144, .i32⟩
  | 27 => ⟨S137x512, .i32⟩
  | 28 => ⟨S70144, .i32⟩
  | 29 => ⟨S70144, .i32⟩
  | 30 => ⟨S70144, .i1⟩
  | 31 => ⟨S_, .f32⟩
  | 32 => ⟨S_, .f32⟩
  | 33 => ⟨S70144, .f32⟩
  | 34 => ⟨S70144, .f32⟩
  | 35 => ⟨S70144x1, .i32⟩
  | 36 => ⟨S8, .i32⟩
  | 37 => ⟨S1x8, .i32⟩
  | 38 => ⟨S70144x8, .i32⟩
  | 39 => ⟨S70144x8, .i32⟩
  | 40 => ⟨S70144x8, .i1⟩
  | 41 => ⟨S70144x1, .f32⟩
  | 42 => ⟨S_, .f32⟩
  | 43 => ⟨S_, .f32⟩
  | 44 => ⟨S70144x8, .f32⟩
  | 45 => ⟨S70144x8, .f32⟩
  | 46 => ⟨S70144x8, .f32⟩
  | 47 => ⟨S_, .f32⟩
  | 48 => ⟨S70144x1024, .f32⟩
  | 49 => ⟨S70144x1, .f32⟩
  | 50 => ⟨S1x1024x3584, .f32⟩
  | 51 => ⟨S1024x3584, .f32⟩
  | 52 => ⟨S1x1024x3584, .f32⟩
  | 53 => ⟨S1024x3584, .f32⟩
  | 54 => ⟨S1x3584x1024, .f32⟩
  | 55 => ⟨S3584x1024, .f32⟩
  | 56 => ⟨S70144x3584, .f32⟩
  | 57 => ⟨S70144x3584, .f32⟩
  | 58 => ⟨S70144x3584, .f32⟩
  | 59 => ⟨S_, .f32⟩
  | 60 => ⟨S70144x3584, .f32⟩
  | 61 => ⟨S70144x3584, .f32⟩
  | 62 => ⟨S_, .f32⟩
  | 63 => ⟨S70144x3584, .f32⟩
  | 64 => ⟨S70144x3584, .f32⟩
  | 65 => ⟨S70144x3584, .f32⟩
  | 66 => ⟨S70144x3584, .f32⟩
  | 67 => ⟨S70144x3584, .f32⟩
  | 68 => ⟨S70144x1024, .f32⟩
  | 69 => ⟨S70144x1024, .f32⟩
  | 70 => ⟨S70144x1024, .f32⟩
  | 71 => ⟨S70144x1024, .f32⟩
  | 72 => ⟨S70144x1, .f32⟩
  | 73 => ⟨S1x1024x3584, .f32⟩
  | 74 => ⟨S1024x3584, .f32⟩
  | 75 => ⟨S1x1024x3584, .f32⟩
  | 76 => ⟨S1024x3584, .f32⟩
  | 77 => ⟨S1x3584x1024, .f32⟩
  | 78 => ⟨S3584x1024, .f32⟩
  | 79 => ⟨S70144x3584, .f32⟩
  | 80 => ⟨S70144x3584, .f32⟩
  | 81 => ⟨S70144x3584, .f32⟩
  | 82 => ⟨S_, .f32⟩
  | 83 => ⟨S70144x3584, .f32⟩
  | 84 => ⟨S70144x3584, .f32⟩
  | 85 => ⟨S_, .f32⟩
  | 86 => ⟨S70144x3584, .f32⟩
  | 87 => ⟨S70144x3584, .f32⟩
  | 88 => ⟨S70144x3584, .f32⟩
  | 89 => ⟨S70144x3584, .f32⟩
  | 90 => ⟨S70144x3584, .f32⟩
  | 91 => ⟨S70144x1024, .f32⟩
  | 92 => ⟨S70144x1024, .f32⟩
  | 93 => ⟨S70144x1024, .f32⟩
  | 94 => ⟨S70144x1024, .f32⟩
  | 95 => ⟨S70144x1, .f32⟩
  | 96 => ⟨S1x1024x3584, .f32⟩
  | 97 => ⟨S1024x3584, .f32⟩
  | 98 => ⟨S1x1024x3584, .f32⟩
  | 99 => ⟨S1024x3584, .f32⟩
  | 100 => ⟨S1x3584x1024, .f32⟩
  | 101 => ⟨S3584x1024, .f32⟩
  | 102 => ⟨S70144x3584, .f32⟩
  | 103 => ⟨S70144x3584, .f32⟩
  | 104 => ⟨S70144x3584, .f32⟩
  | 105 => ⟨S_, .f32⟩
  | 106 => ⟨S70144x3584, .f32⟩
  | 107 => ⟨S70144x3584, .f32⟩
  | 108 => ⟨S_, .f32⟩
  | 109 => ⟨S70144x3584, .f32⟩
  | 110 => ⟨S70144x3584, .f32⟩
  | 111 => ⟨S70144x3584, .f32⟩
  | 112 => ⟨S70144x3584, .f32⟩
  | 113 => ⟨S70144x3584, .f32⟩
  | 114 => ⟨S70144x1024, .f32⟩
  | 115 => ⟨S70144x1024, .f32⟩
  | 116 => ⟨S70144x1024, .f32⟩
  | 117 => ⟨S70144x1024, .f32⟩
  | 118 => ⟨S70144x1, .f32⟩
  | 119 => ⟨S1x1024x3584, .f32⟩
  | 120 => ⟨S1024x3584, .f32⟩
  | 121 => ⟨S1x1024x3584, .f32⟩
  | 122 => ⟨S1024x3584, .f32⟩
  | 123 => ⟨S1x3584x1024, .f32⟩
  | 124 => ⟨S3584x1024, .f32⟩
  | 125 => ⟨S70144x3584, .f32⟩
  | 126 => ⟨S70144x3584, .f32⟩
  | 127 => ⟨S70144x3584, .f32⟩
  | _ => ⟨S70144x1024, .bf16⟩

abbrev hbmTy0_1 (i : Nat) : BufTy := match i % 128 with
  | 0 => ⟨S_, .f32⟩
  | 1 => ⟨S70144x3584, .f32⟩
  | 2 => ⟨S70144x3584, .f32⟩
  | 3 => ⟨S_, .f32⟩
  | 4 => ⟨S70144x3584, .f32⟩
  | 5 => ⟨S70144x3584, .f32⟩
  | 6 => ⟨S70144x3584, .f32⟩
  | 7 => ⟨S70144x3584, .f32⟩
  | 8 => ⟨S70144x3584, .f32⟩
  | 9 => ⟨S70144x1024, .f32⟩
  | 10 => ⟨S70144x1024, .f32⟩
  | 11 => ⟨S70144x1024, .f32⟩
  | 12 => ⟨S70144x1024, .f32⟩
  | 13 => ⟨S70144x1, .f32⟩
  | 14 => ⟨S1x1024x3584, .f32⟩
  | 15 => ⟨S1024x3584, .f32⟩
  | 16 => ⟨S1x1024x3584, .f32⟩
  | 17 => ⟨S1024x3584, .f32⟩
  | 18 => ⟨S1x3584x1024, .f32⟩
  | 19 => ⟨S3584x1024, .f32⟩
  | 20 => ⟨S70144x3584, .f32⟩
  | 21 => ⟨S70144x3584, .f32⟩
  | 22 => ⟨S70144x3584, .f32⟩
  | 23 => ⟨S_, .f32⟩
  | 24 => ⟨S70144x3584, .f32⟩
  | 25 => ⟨S70144x3584, .f32⟩
  | 26 => ⟨S_, .f32⟩
  | 27 => ⟨S70144x3584, .f32⟩
  | 28 => ⟨S70144x3584, .f32⟩
  | 29 => ⟨S70144x3584, .f32⟩
  | 30 => ⟨S70144x3584, .f32⟩
  | 31 => ⟨S70144x3584, .f32⟩
  | 32 => ⟨S70144x1024, .f32⟩
  | 33 => ⟨S70144x1024, .f32⟩
  | 34 => ⟨S70144x1024, .f32⟩
  | 35 => ⟨S70144x1024, .f32⟩
  | 36 => ⟨S70144x1, .f32⟩
  | 37 => ⟨S1x1024x3584, .f32⟩
  | 38 => ⟨S1024x3584, .f32⟩
  | 39 => ⟨S1x1024x3584, .f32⟩
  | 40 => ⟨S1024x3584, .f32⟩
  | 41 => ⟨S1x3584x1024, .f32⟩
  | 42 => ⟨S3584x1024, .f32⟩
  | 43 => ⟨S70144x3584, .f32⟩
  | 44 => ⟨S70144x3584, .f32⟩
  | 45 => ⟨S70144x3584, .f32⟩
  | 46 => ⟨S_, .f32⟩
  | 47 => ⟨S70144x3584, .f32⟩
  | 48 => ⟨S70144x3584, .f32⟩
  | 49 => ⟨S_, .f32⟩
  | 50 => ⟨S70144x3584, .f32⟩
  | 51 => ⟨S70144x3584, .f32⟩
  | 52 => ⟨S70144x3584, .f32⟩
  | 53 => ⟨S70144x3584, .f32⟩
  | 54 => ⟨S70144x3584, .f32⟩
  | 55 => ⟨S70144x1024, .f32⟩
  | 56 => ⟨S70144x1024, .f32⟩
  | 57 => ⟨S70144x1024, .f32⟩
  | 58 => ⟨S70144x1024, .f32⟩
  | 59 => ⟨S70144x1, .f32⟩
  | 60 => ⟨S1x1024x3584, .f32⟩
  | 61 => ⟨S1024x3584, .f32⟩
  | 62 => ⟨S1x1024x3584, .f32⟩
  | 63 => ⟨S1024x3584, .f32⟩
  | 64 => ⟨S1x3584x1024, .f32⟩
  | 65 => ⟨S3584x1024, .f32⟩
  | 66 => ⟨S70144x3584, .f32⟩
  | 67 => ⟨S70144x3584, .f32⟩
  | 68 => ⟨S70144x3584, .f32⟩
  | 69 => ⟨S_, .f32⟩
  | 70 => ⟨S70144x3584, .f32⟩
  | 71 => ⟨S70144x3584, .f32⟩
  | 72 => ⟨S_, .f32⟩
  | 73 => ⟨S70144x3584, .f32⟩
  | 74 => ⟨S70144x3584, .f32⟩
  | 75 => ⟨S70144x3584, .f32⟩
  | 76 => ⟨S70144x3584, .f32⟩
  | 77 => ⟨S70144x3584, .f32⟩
  | 78 => ⟨S70144x1024, .f32⟩
  | 79 => ⟨S70144x1024, .f32⟩
  | 80 => ⟨S70144x1024, .f32⟩
  | 81 => ⟨S70144x1024, .f32⟩
  | 82 => ⟨S70144x1, .f32⟩
  | 83 => ⟨S1x1024x3584, .f32⟩
  | 84 => ⟨S1024x3584, .f32⟩
  | 85 => ⟨S1x1024x3584, .f32⟩
  | 86 => ⟨S1024x3584, .f32⟩
  | 87 => ⟨S1x3584x1024, .f32⟩
  | 88 => ⟨S3584x1024, .f32⟩
  | 89 => ⟨S70144x3584, .f32⟩
  | 90 => ⟨S70144x3584, .f32⟩
  | 91 => ⟨S70144x3584, .f32⟩
  | 92 => ⟨S_, .f32⟩
  | 93 => ⟨S70144x3584, .f32⟩
  | 94 => ⟨S70144x3584, .f32⟩
  | 95 => ⟨S_, .f32⟩
  | 96 => ⟨S70144x3584, .f32⟩
  | 97 => ⟨S70144x3584, .f32⟩
  | 98 => ⟨S70144x3584, .f32⟩
  | 99 => ⟨S70144x3584, .f32⟩
  | 100 => ⟨S70144x3584, .f32⟩
  | 101 => ⟨S70144x1024, .f32⟩
  | 102 => ⟨S70144x1024, .f32⟩
  | 103 => ⟨S70144x1024, .f32⟩
  | 104 => ⟨S70144x1024, .f32⟩
  | 105 => ⟨S70144x1024, .bf16⟩
  | _ => ⟨S70144x1024, .bf16⟩

abbrev hbmTy (i : Nat) : BufTy := match i / 128 with
  | 0 => hbmTy0_0 i
  | 1 => hbmTy0_1 i
  | _ => ⟨S70144x1024, .bf16⟩

abbrev bufTy : (tb : Table) → Fin (tcTables nBuf tb) → BufTy
  | .hbm, ⟨i, _⟩ => hbmTy i
  | _, _ => ⟨S70144x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_call1_v0 : Ref sig .tc := ⟨.hbm, 32, rfl⟩
abbrev main_call1_v1 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_cst_0 : Ref sig .tc := ⟨.hbm, 42, rfl⟩
abbrev main_call2_v0 : Ref sig .tc := ⟨.hbm, 43, rfl⟩
abbrev main_call2_v1 : Ref sig .tc := ⟨.hbm, 44, rfl⟩
abbrev main_call2_v2 : Ref sig .tc := ⟨.hbm, 45, rfl⟩
abbrev main_v15 : Ref sig .tc := ⟨.hbm, 46, rfl⟩
abbrev main_cst_1 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_call3_v0 : Ref sig .tc := ⟨.hbm, 57, rfl⟩
abbrev main_call3_v1 : Ref sig .tc := ⟨.hbm, 58, rfl⟩
abbrev main_call3_cst : Ref sig .tc := ⟨.hbm, 59, rfl⟩
abbrev main_call3_v2 : Ref sig .tc := ⟨.hbm, 60, rfl⟩
abbrev main_call3_v3 : Ref sig .tc := ⟨.hbm, 61, rfl⟩
abbrev main_call3_cst_0 : Ref sig .tc := ⟨.hbm, 62, rfl⟩
abbrev main_call3_v4 : Ref sig .tc := ⟨.hbm, 63, rfl⟩
abbrev main_call3_v5 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_call4_v0 : Ref sig .tc := ⟨.hbm, 80, rfl⟩
abbrev main_call4_v1 : Ref sig .tc := ⟨.hbm, 81, rfl⟩
abbrev main_call4_cst : Ref sig .tc := ⟨.hbm, 82, rfl⟩
abbrev main_call4_v2 : Ref sig .tc := ⟨.hbm, 83, rfl⟩
abbrev main_call4_v3 : Ref sig .tc := ⟨.hbm, 84, rfl⟩
abbrev main_call4_cst_0 : Ref sig .tc := ⟨.hbm, 85, rfl⟩
abbrev main_call4_v4 : Ref sig .tc := ⟨.hbm, 86, rfl⟩
abbrev main_call4_v5 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_call5_v0 : Ref sig .tc := ⟨.hbm, 103, rfl⟩
abbrev main_call5_v1 : Ref sig .tc := ⟨.hbm, 104, rfl⟩
abbrev main_call5_cst : Ref sig .tc := ⟨.hbm, 105, rfl⟩
abbrev main_call5_v2 : Ref sig .tc := ⟨.hbm, 106, rfl⟩
abbrev main_call5_v3 : Ref sig .tc := ⟨.hbm, 107, rfl⟩
abbrev main_call5_cst_0 : Ref sig .tc := ⟨.hbm, 108, rfl⟩
abbrev main_call5_v4 : Ref sig .tc := ⟨.hbm, 109, rfl⟩
abbrev main_call5_v5 : Ref sig .tc := ⟨.hbm, 110, rfl⟩
abbrev main_v55 : Ref sig .tc := ⟨.hbm, 111, rfl⟩
abbrev main_v56 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_call6_v0 : Ref sig .tc := ⟨.hbm, 126, rfl⟩
abbrev main_call6_v1 : Ref sig .tc := ⟨.hbm, 127, rfl⟩
abbrev main_call6_cst : Ref sig .tc := ⟨.hbm, 128, rfl⟩
abbrev main_call6_v2 : Ref sig .tc := ⟨.hbm, 129, rfl⟩
abbrev main_call6_v3 : Ref sig .tc := ⟨.hbm, 130, rfl⟩
abbrev main_call6_cst_0 : Ref sig .tc := ⟨.hbm, 131, rfl⟩
abbrev main_call6_v4 : Ref sig .tc := ⟨.hbm, 132, rfl⟩
abbrev main_call6_v5 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_call7_v0 : Ref sig .tc := ⟨.hbm, 149, rfl⟩
abbrev main_call7_v1 : Ref sig .tc := ⟨.hbm, 150, rfl⟩
abbrev main_call7_cst : Ref sig .tc := ⟨.hbm, 151, rfl⟩
abbrev main_call7_v2 : Ref sig .tc := ⟨.hbm, 152, rfl⟩
abbrev main_call7_v3 : Ref sig .tc := ⟨.hbm, 153, rfl⟩
abbrev main_call7_cst_0 : Ref sig .tc := ⟨.hbm, 154, rfl⟩
abbrev main_call7_v4 : Ref sig .tc := ⟨.hbm, 155, rfl⟩
abbrev main_call7_v5 : Ref sig .tc := ⟨.hbm, 156, rfl⟩
abbrev main_v85 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_v90 : Ref sig .tc := ⟨.hbm, 162, rfl⟩
abbrev main_v91 : Ref sig .tc := ⟨.hbm, 163, rfl⟩
abbrev main_v92 : Ref sig .tc := ⟨.hbm, 164, rfl⟩
abbrev main_v93 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_call8_v0 : Ref sig .tc := ⟨.hbm, 172, rfl⟩
abbrev main_call8_v1 : Ref sig .tc := ⟨.hbm, 173, rfl⟩
abbrev main_call8_cst : Ref sig .tc := ⟨.hbm, 174, rfl⟩
abbrev main_call8_v2 : Ref sig .tc := ⟨.hbm, 175, rfl⟩
abbrev main_call8_v3 : Ref sig .tc := ⟨.hbm, 176, rfl⟩
abbrev main_call8_cst_0 : Ref sig .tc := ⟨.hbm, 177, rfl⟩
abbrev main_call8_v4 : Ref sig .tc := ⟨.hbm, 178, rfl⟩
abbrev main_call8_v5 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_v107 : Ref sig .tc := ⟨.hbm, 187, rfl⟩
abbrev main_v108 : Ref sig .tc := ⟨.hbm, 188, rfl⟩
abbrev main_v109 : Ref sig .tc := ⟨.hbm, 189, rfl⟩
abbrev main_v110 : Ref sig .tc := ⟨.hbm, 190, rfl⟩
abbrev main_v111 : Ref sig .tc := ⟨.hbm, 191, rfl⟩
abbrev main_v112 : Ref sig .tc := ⟨.hbm, 192, rfl⟩
abbrev main_v113 : Ref sig .tc := ⟨.hbm, 193, rfl⟩
abbrev main_v114 : Ref sig .tc := ⟨.hbm, 194, rfl⟩
abbrev main_call9_v0 : Ref sig .tc := ⟨.hbm, 195, rfl⟩
abbrev main_call9_v1 : Ref sig .tc := ⟨.hbm, 196, rfl⟩
abbrev main_call9_cst : Ref sig .tc := ⟨.hbm, 197, rfl⟩
abbrev main_call9_v2 : Ref sig .tc := ⟨.hbm, 198, rfl⟩
abbrev main_call9_v3 : Ref sig .tc := ⟨.hbm, 199, rfl⟩
abbrev main_call9_cst_0 : Ref sig .tc := ⟨.hbm, 200, rfl⟩
abbrev main_call9_v4 : Ref sig .tc := ⟨.hbm, 201, rfl⟩
abbrev main_call9_v5 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_v122 : Ref sig .tc := ⟨.hbm, 210, rfl⟩
abbrev main_v123 : Ref sig .tc := ⟨.hbm, 211, rfl⟩
abbrev main_v124 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_v128 : Ref sig .tc := ⟨.hbm, 216, rfl⟩
abbrev main_v129 : Ref sig .tc := ⟨.hbm, 217, rfl⟩
abbrev main_call10_v0 : Ref sig .tc := ⟨.hbm, 218, rfl⟩
abbrev main_call10_v1 : Ref sig .tc := ⟨.hbm, 219, rfl⟩
abbrev main_call10_cst : Ref sig .tc := ⟨.hbm, 220, rfl⟩
abbrev main_call10_v2 : Ref sig .tc := ⟨.hbm, 221, rfl⟩
abbrev main_call10_v3 : Ref sig .tc := ⟨.hbm, 222, rfl⟩
abbrev main_call10_cst_0 : Ref sig .tc := ⟨.hbm, 223, rfl⟩
abbrev main_call10_v4 : Ref sig .tc := ⟨.hbm, 224, rfl⟩
abbrev main_call10_v5 : Ref sig .tc := ⟨.hbm, 225, rfl⟩
abbrev main_v130 : Ref sig .tc := ⟨.hbm, 226, rfl⟩
abbrev main_v131 : Ref sig .tc := ⟨.hbm, 227, rfl⟩
abbrev main_v132 : Ref sig .tc := ⟨.hbm, 228, rfl⟩
abbrev main_v133 : Ref sig .tc := ⟨.hbm, 229, rfl⟩
abbrev main_v134 : Ref sig .tc := ⟨.hbm, 230, rfl⟩
abbrev main_v135 : Ref sig .tc := ⟨.hbm, 231, rfl⟩
abbrev main_v136 : Ref sig .tc := ⟨.hbm, 232, rfl⟩
abbrev main_v137 : Ref sig .tc := ⟨.hbm, 233, rfl⟩

abbrev nD : Nat := 1
abbrev τ : Topo := Topo.v7x

variable {F : FTy → Type} [FloatOps F]
-- ==== Combine.lean ====
abbrev S32768x1024 : Shape := ⟨2, ![32768, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 6
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .bf16⟩
  | .hbm, ⟨3, _⟩ => ⟨S1024, .f32⟩
  | .hbm, ⟨4, _⟩ => ⟨S1x1024, .f32⟩
  | .hbm, ⟨5, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== CombineReferenceIdeal.lean ====
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S32768x1024, .bf16⟩
  | .hbm, ⟨3, _⟩ => ⟨S1024, .f32⟩
  | .hbm, ⟨4, _⟩ => ⟨S32768x1024, .f32⟩
  | .hbm, ⟨5, _⟩ => ⟨S32768x1024, .f32⟩
  | .hbm, ⟨6, _⟩ => ⟨S32768x1024, .f32⟩
  | .hbm, ⟨7, _⟩ => ⟨S32768x1024, .f32⟩
  | .hbm, ⟨8, _⟩ => ⟨S32768x1024, .f32⟩
  | .hbm, ⟨9, _⟩ => ⟨S_, .f32⟩
  | .hbm, ⟨10, _⟩ => ⟨S32768, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1, .f32⟩
  | .hbm, ⟨19, _⟩ => ⟨S32768x1024, .f32⟩
  | .hbm, ⟨20, _⟩ => ⟨S32768x1024, .f32⟩
  | .hbm, ⟨21, _⟩ => ⟨S1x1024, .f32⟩
  | .hbm, ⟨22, _⟩ => ⟨S32768x1024, .f32⟩
  | .hbm, ⟨23, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== FfnDense.lean ====
abbrev S32768x1024 : Shape := ⟨2, ![32768, 1024]⟩
abbrev S1024 : Shape := ⟨1, ![1024]⟩
abbrev S1024x2752 : Shape := ⟨2, ![1024, 2752]⟩
abbrev S2752x1024 : Shape := ⟨2, ![2752, 1024]⟩
abbrev S_ : Shape := ⟨0, ![]⟩
abbrev S1024x2816 : Shape := ⟨2, ![1024, 2816]⟩
abbrev S2816x1024 : Shape := ⟨2, ![2816, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 19
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2752, .f32⟩
  | .hbm, ⟨3, _⟩ => ⟨S1024x2752, .f32⟩
  | .hbm, ⟨4, _⟩ => ⟨S2752x1024, .f32⟩
  | .hbm, ⟨5, _⟩ => ⟨S_, .i32⟩
  | .hbm, ⟨6, _⟩ => ⟨S_, .f32⟩
  | .hbm, ⟨7, _⟩ => ⟨S1024x2816, .f32⟩
  | .hbm, ⟨8, _⟩ => ⟨S1024x2816, .bf16⟩
  | .hbm, ⟨9, _⟩ => ⟨S_, .i32⟩
  | .hbm, ⟨10, _⟩ => ⟨S_, .f32⟩
  | .hbm, ⟨11, _⟩ => ⟨S1024x2816, .f32⟩
  | .hbm, ⟨12, _⟩ => ⟨S1024x2816, .bf16⟩
  | .hbm, ⟨13, _⟩ => ⟨S_, .i32⟩
  | .hbm, ⟨14, _⟩ => ⟨S_, .f32⟩
  | .hbm, ⟨15, _⟩ => ⟨S2816x1024, .f32⟩
  | .hbm, ⟨16, _⟩ => ⟨S2816x1024, .bf16⟩
  | .hbm, ⟨17, _⟩ => ⟨S1x1024, .f32⟩
  | .hbm, ⟨18, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_call1_v0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_call2_v0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnDenseReferenceIdeal.lean ====
abbrev S32768x1024 : Shape := ⟨2, ![32768, 1024]⟩
abbrev S1024 : Shape := ⟨1, ![1024]⟩
abbrev S1024x2752 : Shape := ⟨2, ![1024, 2752]⟩
abbrev S2752x1024 : Shape := ⟨2, ![2752, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2752 : Shape := ⟨2, ![32768, 2752]⟩

abbrev nBuf : Space → Nat
  | .hbm => 35
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2752, .f32⟩
  | .hbm, ⟨3, _⟩ => ⟨S1024x2752, .f32⟩
  | .hbm, ⟨4, _⟩ => ⟨S2752x1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x2752, .f32⟩
  | .hbm, ⟨22, _⟩ => ⟨S32768x2752, .f32⟩
  | .hbm, ⟨23, _⟩ => ⟨S32768x2752, .f32⟩
  | .hbm, ⟨24, _⟩ => ⟨S_, .f32⟩
  | .hbm, ⟨25, _⟩ => ⟨S32768x2752, .f32⟩
  | .hbm, ⟨26, _⟩ => ⟨S32768x2752, .f32⟩
  | .hbm, ⟨27, _⟩ => ⟨S_, .f32⟩
  | .hbm, ⟨28, _⟩ => ⟨S32768x2752, .f32⟩
  | .hbm, ⟨29, _⟩ => ⟨S32768x2752, .f32⟩
  | .hbm, ⟨30, _⟩ => ⟨S32768x2752, .f32⟩
  | .hbm, ⟨31, _⟩ => ⟨S32768x2752, .f32⟩
  | .hbm, ⟨32, _⟩ => ⟨S32768x2752, .f32⟩
  | .hbm, ⟨33, _⟩ => ⟨S32768x1024, .f32⟩
  | .hbm, ⟨34, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Router.lean ====
abbrev S32768x1024 : Shape := ⟨2, ![32768, 1024]⟩
abbrev S1024 : Shape := ⟨1, ![1024]⟩
abbrev S1024x8 : Shape := ⟨2, ![1024, 8]⟩
abbrev S256x256 : Shape := ⟨2, ![256, 256]⟩
abbrev S1x1024 : Shape := ⟨2, ![1, 1024]⟩
abbrev S8x1024 : Shape := ⟨2, ![8, 1024]⟩
abbrev S32768x8 : Shape := ⟨2, ![32768, 8]⟩
abbrev S128x1x128 : Shape := ⟨3, ![128, 1, 128]⟩
abbrev S256x1024 : Shape := ⟨2, ![256, 1024]⟩
abbrev S256x8 : Shape := ⟨2, ![256, 8]⟩
abbrev S1x1x128 : Shape := ⟨3, ![1, 1, 128]⟩
abbrev S1x128 : Shape := ⟨2, ![1, 128]⟩
abbrev S256 : Shape := ⟨1, ![256]⟩
abbrev S256x1 : Shape := ⟨2, ![256, 1]⟩
abbrev S256x128 : Shape := ⟨2, ![256, 128]⟩
abbrev S128 : Shape := ⟨1, ![128]⟩

abbrev nBuf : Space → Nat
  | .hbm => 10
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x8, .f32⟩
  | .hbm, ⟨3, _⟩ => ⟨S256x256, .bf16⟩
  | .hbm, ⟨4, _⟩ => ⟨S1x1024, .f32⟩
  | .hbm, ⟨5, _⟩ => ⟨S8x1024, .f32⟩
  | .hbm, ⟨6, _⟩ => ⟨S32768x1024, .bf16⟩
  | .hbm, ⟨7, _⟩ => ⟨S32768x8, .i32⟩
  | .hbm, ⟨8, _⟩ => ⟨S32768x8, .f32⟩
  | .hbm, ⟨9, _⟩ => ⟨S128x1x128, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S8x1024, .f32⟩
  | .local _ .vmem, ⟨4, _⟩ => ⟨S256x256, .bf16⟩
  | .local _ .vmem, ⟨5, _⟩ => ⟨S256x1024, .bf16⟩
  | .local _ .vmem, ⟨6, _⟩ => ⟨S256x1024, .bf16⟩
  | .local _ .vmem, ⟨7, _⟩ => ⟨S256x8, .i32⟩
  | .local _ .vmem, ⟨8, _⟩ => ⟨S256x8, .i32⟩
  | .local _ .vmem, ⟨9, _⟩ => ⟨S256x8, .f32⟩
  | .local _ .vmem, ⟨10, _⟩ => ⟨S256x8, .f32⟩
  | .local _ .vmem, ⟨11, _⟩ => ⟨S1x1x128, .f32⟩
  | .local _ .vmem, ⟨12, _⟩ => ⟨S1x1x128, .f32⟩
  | .local _ .vmem, ⟨13, _⟩ => ⟨S1x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x8 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RouterReferenceIdeal.lean ====
abbrev S32768x1024 : Shape := ⟨2, ![32768, 1024]⟩
abbrev S1024 : Shape := ⟨1, ![1024]⟩
abbrev S1024x8 : Shape := ⟨2, ![1024, 8]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x8 : Shape := ⟨2, ![32768, 8]⟩
abbrev S32768x2 : Shape := ⟨2, ![32768, 2]⟩
abbrev S32768x2x1 : Shape := ⟨3, ![32768, 2, 1]⟩
abbrev S1x1x8 : Shape := ⟨3, ![1, 1, 8]⟩
abbrev S32768x2x8 : Shape := ⟨3, ![32768, 2, 8]⟩
abbrev S128x1x256x8 : Shape := ⟨4, ![128, 1, 256, 8]⟩
abbrev S128x1x1x8 : Shape := ⟨4, ![128, 1, 1, 8]⟩
abbrev S128x1x8 : Shape := ⟨3, ![128, 1, 8]⟩
abbrev S128x1x128 : Shape := ⟨3, ![128, 1, 128]⟩

abbrev nBuf : Space → Nat
  | .hbm => 70
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x8, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x8, .f32⟩
  | .hbm, ⟨20, _⟩ => ⟨S32768x2, .f32⟩
  | .hbm, ⟨21, _⟩ => ⟨S32768x2, .i32⟩
  | .hbm, ⟨22, _⟩ => ⟨S_, .f32⟩
  | .hbm, ⟨23, _⟩ => ⟨S32768, .f32⟩
  | .hbm, ⟨24, _⟩ => ⟨S_, .f32⟩
  | .hbm, ⟨25, _⟩ => ⟨S32768, .f32⟩
  | .hbm, ⟨26, _⟩ => ⟨S32768, .f32⟩
  | .hbm, ⟨27, _⟩ => ⟨S32768x1, .f32⟩
  | .hbm, ⟨28, _⟩ => ⟨S32768x2, .f32⟩
  | .hbm, ⟨29, _⟩ => ⟨S32768x2, .f32⟩
  | .hbm, ⟨30, _⟩ => ⟨S32768x2, .f32⟩
  | .hbm, ⟨31, _⟩ => ⟨S_, .f32⟩
  | .hbm, ⟨32, _⟩ => ⟨S32768, .f32⟩
  | .hbm, ⟨33, _⟩ => ⟨S32768x1, .f32⟩
  | .hbm, ⟨34, _⟩ => ⟨S32768x2, .f32⟩
  | .hbm, ⟨35, _⟩ => ⟨S32768x2, .f32⟩
  | .hbm, ⟨36, _⟩ => ⟨S32768x2x1, .i32⟩
  | .hbm, ⟨37, _⟩ => ⟨S1x1x8, .i32⟩
  | .hbm, ⟨38, _⟩ => ⟨S32768x2x8, .i32⟩
  | .hbm, ⟨39, _⟩ => ⟨S32768x2x8, .i32⟩
  | .hbm, ⟨40, _⟩ => ⟨S32768x2x8, .i1⟩
  | .hbm, ⟨41, _⟩ => ⟨S32768x2x8, .f32⟩
  | .hbm, ⟨42, _⟩ => ⟨S32768x2x1, .f32⟩
  | .hbm, ⟨43, _⟩ => ⟨S32768x2x8, .f32⟩
  | .hbm, ⟨44, _⟩ => ⟨S32768x2x8, .f32⟩
  | .hbm, ⟨45, _⟩ => ⟨S_, .f32⟩
  | .hbm, ⟨46, _⟩ => ⟨S32768x8, .f32⟩
  | .hbm, ⟨47, _⟩ => ⟨S_, .f32⟩
  | .hbm, ⟨48, _⟩ => ⟨S32768x8, .f32⟩
  | .hbm, ⟨49, _⟩ => ⟨S_, .f32⟩
  | .hbm, ⟨50, _⟩ => ⟨S_, .f32⟩
  | .hbm, ⟨51, _⟩ => ⟨S32768x8, .f32⟩
  | .hbm, ⟨52, _⟩ => ⟨S_, .f32⟩
  | .hbm, ⟨53, _⟩ => ⟨S32768x8, .f32⟩
  | .hbm, ⟨54, _⟩ => ⟨S32768x8, .i1⟩
  | .hbm, ⟨55, _⟩ => ⟨S_, .f32⟩
  | .hbm, ⟨56, _⟩ => ⟨S32768x8, .f32⟩
  | .hbm, ⟨57, _⟩ => ⟨S32768x8, .f32⟩
  | .hbm, ⟨58, _⟩ => ⟨S_, .f32⟩
  | .hbm, ⟨59, _⟩ => ⟨S_, .f32⟩
  | .hbm, ⟨60, _⟩ => ⟨S32768x8, .f32⟩
  | .hbm, ⟨61, _⟩ => ⟨S32768x8, .f32⟩
  | .hbm, ⟨62, _⟩ => ⟨S32768x8, .i32⟩
  | .hbm, ⟨63, _⟩ => ⟨S128x1x256x8, .f32⟩
  | .hbm, ⟨64, _⟩ => ⟨S128x1x1x8, .f32⟩
  | .hbm, ⟨65, _⟩ => ⟨S128x1x8, .f32⟩
  | .hbm, ⟨66, _⟩ => ⟨S_, .i32⟩
  | .hbm, ⟨67, _⟩ => ⟨S_, .f32⟩
  | .hbm, ⟨68, _⟩ => ⟨S128x1x128, .f32⟩
  | .hbm, ⟨69, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_values : Ref sig .tc := ⟨.hbm, 20, rfl⟩
abbrev main_indices : Ref sig .tc := ⟨.hbm, 21, rfl⟩
abbrev main_cst_2 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_call1_call0_cst : Ref sig .tc := ⟨.hbm, 49, rfl⟩
abbrev main_call1_call0_v0 : Ref sig .tc := ⟨.hbm, 50, rfl⟩
abbrev main_v31 : Ref sig .tc := ⟨.hbm, 51, rfl⟩
abbrev main_cst_7 : Ref sig .tc := ⟨.hbm, 52, rfl⟩
abbrev main_v32 : Ref sig .tc := ⟨.hbm, 53, rfl⟩
abbrev main_v33 : Ref sig .tc := ⟨.hbm, 54, rfl⟩
abbrev main_cst_8 : Ref sig .tc := ⟨.hbm, 55, rfl⟩
abbrev main_v34 : Ref sig .tc := ⟨.hbm, 56, rfl⟩
abbrev main_v35 : Ref sig .tc := ⟨.hbm, 57, rfl⟩
abbrev main_cst_9 : Ref sig .tc := ⟨.hbm, 58, rfl⟩
abbrev main_call2_v0 : Ref sig .tc := ⟨.hbm, 59, rfl⟩
abbrev main_call2_v1 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_c : Ref sig .tc := ⟨.hbm, 66, rfl⟩
abbrev main_call3_v0 : Ref sig .tc := ⟨.hbm, 67, rfl⟩
abbrev main_v41 : Ref sig .tc := ⟨.hbm, 68, rfl⟩
abbrev main_v42 : Ref sig .tc := ⟨.hbm, 69, rfl⟩

abbrev nD : Nat := 1
abbrev τ : Topo := Topo.v7x

variable {F : FTy → Type} [FloatOps F]
-- ==== Proof.Grouped.Setup.lean ====
/-
  The launch of the grouped expert call: what the buffers hold when the pipelined call is entered, the two
  prefetched tables (the expert of every tile, the number of tiles in use), and the blocks the windows stage.
-/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Pipeline.Kit

@[expose] public section

set_option maxRecDepth 16384

noncomputable section

namespace Cert.KernelIdeal.Grouped

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The host operations before the call -/

/-- The buffers of core `c` when the call is entered: the launch memory after the five host operations. -/
abbrev entry (c : Dev nD) (b : Ref sig .tc) : Buf (Elt F) ((c : Thread nD τ).loc b) :=
  StableHlo.after hostOps0 (fun b => m (c, b)) b

theorem hostOps_fresh : (hostOps0 : List (HloOp τ sig (Elt F))).Forall fun op => op.fresh = ∅ := by
  simp only [List.Forall]; repeat' constructor

set_option maxHeartbeats 800000 in
/-- The main function is its host operations, then the call. -/
theorem main_prefix (𝒱₀ : Variants) :
    Pipeline.HMainP (Ix := Unit) (Name := ℕ) (U := UR sig nD τ) (Lvl := ℕ) pcfgs 0 defs₀ 𝒱₀ m (main (F := F)) (entry m) :=
  Pipeline.hmainP_prefix pcfgs 0 defs₀ 𝒱₀ m main hostOps0 hostOps0_sub hostOps_fresh main_chain

/-- A buffer none of the five host operations writes is found at the call as it was launched. -/
theorem entry_kept (c : Dev nD) (b : Ref sig .tc)
    (h0 : b ≠ main_v0) (h1 : b ≠ main_v1) (h2 : b ≠ main_v2) (h3 : b ≠ main_v3) (h4 : b ≠ main_v4) :
    entry m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.unary_writes, StableHlo.reshape_writes, Finset.mem_singleton]
    exact ⟨StableHlo.devRef_ne_of_ne h0, StableHlo.devRef_ne_of_ne h1, StableHlo.devRef_ne_of_ne h2,
      StableHlo.devRef_ne_of_ne h3, StableHlo.devRef_ne_of_ne h4⟩))

/-! ## The prefetched tables -/

/-- The two tables' contents when the call is entered (there is one device). -/
def tables : pre0.Contents (Elt F) := fun j => entry m (0 : Dev nD) (pre0.ref j)

theorem entry_tables (c : Dev nD) (j : Fin 2) : entry m c (pre0.ref j) = tables m j := by
  obtain rfl : c = 0 := Subsingleton.elim _ _; rfl

/-- The side condition of the call: every block an index map reads from a table is inside its array. -/
abbrev Fits : Prop := ok0 (F := F) (tables m)

abbrev adm (hO : Fits m) : (pcfg0 (F := F)).Adm := ⟨tables m, hO⟩
abbrev cfgAt (hO : Fits m) : Pipeline.Cfg sig Λ₀ := cfg0 (adm m hO)

/-- The tables as the body is handed them. -/
abbrev expertTable : Memref sig .tc .smem S137 .i32 := Memref.whole main_arg2
abbrev usedTable : Memref sig .tc .smem S1 .i32 := Memref.whole main_v1

/-- A table held at half the full share (the pipeline keeps the other half). -/
abbrev tableHeld (c : Dev nD) {S : Shape} {e : EltTy} (M : Memref sig .tc .smem S e)
    (f : Buf (Elt F) (M.view.loc (c : Thread nD τ))) : sProp 𝕄 :=
  M.view.loc (c : Thread nD τ) ↦{fullShare.right} f

/-- What the call hands the body of its tables, table by table. -/
theorem tables_held (c : Dev nD) :
    (Pipeline.ΦT pre0 (tables m) c : sProp 𝕄)
      = iprop(tableHeld c expertTable (tables m 0) ∗ tableHeld c usedTable (tables m 1)) := by
  unfold Pipeline.ΦT Pipeline.prefHeld
  rw [show (Finset.univ : Finset (Fin 2)) = insert (0 : Fin 2) {(1 : Fin 2)} from by decide,
    bigSep_insert (by decide), bigSep_singleton]
  rfl

/-- The number of tiles in use, as the second table holds it. -/
def usedWord (f : Vec F S1 .i32) : BitVec 32 := f (fun a => ⟨0, by revert a; decide⟩)

theorem usedWord_eq (f : Vec F S1 .i32) (x : S1.Idx) : f x = usedWord f := by
  unfold usedWord
  refine congrArg f (funext fun a => Fin.ext ?_)
  have h := (x a).isLt
  have h1 : S1.size a = 1 := (by decide : ∀ a : Fin S1.rank, S1.size a = 1) a
  simp only
  omega

/-! ## The windows' blocks -/

/-- Window `w`'s block at point `t`, read off its array as the call finds it. -/
def iblk (hO : Fits m) (c : Dev nD) (w : Fin (cfgAt m hO).W) (t : Fin (cfgAt m hO).N) :
    (((cfgAt m hO).win w).xblock ((cfgAt m hO).grid.coords t)).Idx → Elt F ((cfgAt m hO).win w).elt :=
  (((cfgAt m hO).win w).blk t).view.read (Elt F) (entry m c (Pipeline.arrRef spec0 w))

/-- The staging memrefs of the windows at point `t`. -/
abbrev st_x (hO : Fits m) (t : Fin (cfgAt m hO).N) : Memref sig .tc .vmem S512x1024 .bf16 := spec0_0.stage ((cfgAt m hO).slots t 0)
abbrev st_g (hO : Fits m) (t : Fin (cfgAt m hO).N) : Memref sig .tc .vmem S512x1 .f32 := spec0_1.stage ((cfgAt m hO).slots t 1)
abbrev st_w1 (hO : Fits m) (t : Fin (cfgAt m hO).N) : Memref sig .tc .vmem S1x1024x512 .bf16 := spec0_2.stage ((cfgAt m hO).slots t 2)
abbrev st_w3 (hO : Fits m) (t : Fin (cfgAt m hO).N) : Memref sig .tc .vmem S1x1024x512 .bf16 := spec0_3.stage ((cfgAt m hO).slots t 3)
abbrev st_w2 (hO : Fits m) (t : Fin (cfgAt m hO).N) : Memref sig .tc .vmem S1x512x1024 .bf16 := spec0_4.stage ((cfgAt m hO).slots t 4)
abbrev st_y (hO : Fits m) (t : Fin (cfgAt m hO).N) : Memref sig .tc .vmem S512x1024 .bf16 := spec0_5.stage ((cfgAt m hO).slots t 5)

/-- The accumulator, a scratch buffer of the call's own. -/
abbrev accRef : Memref sig .tc .vmem S512x1024 .f32 := Memref.whole cc0_scratch0

/-- The body at point `t`, on what the pipeline calls it with. -/
abbrev bodyAt (hO : Fits m) (t : Fin (cfgAt m hO).N) : Prog (TpuEff nD τ sig (Elt F) Λ₀ .tc) PUnit :=
  cc0_moe_ffn (grid0.coords t) expertTable (Memref.isWhole_whole _) usedTable (Memref.isWhole_whole _)
    (st_x m hO t) (hstage0_0 (((cfgAt m hO).slots t 0).cast nbuf0_0)) (st_g m hO t) (hstage0_1 (((cfgAt m hO).slots t 1).cast nbuf0_1))
    (st_w1 m hO t) (hstage0_2 (((cfgAt m hO).slots t 2).cast nbuf0_2)) (st_w3 m hO t) (hstage0_3 (((cfgAt m hO).slots t 3).cast nbuf0_3))
    (st_w2 m hO t) (hstage0_4 (((cfgAt m hO).slots t 4).cast nbuf0_4)) (st_y m hO t) (hstage0_5 (((cfgAt m hO).slots t 5).cast nbuf0_5))
    accRef (Memref.isWhole_whole _)

/-- What the call's invariant holds of its own: the accumulator at some contents, and the generator register. -/
theorem scratch_held (c : Dev nD) :
    (Pipeline.ΦA spec0 c : sProp 𝕄)
      = iprop(iprop((∃ d, owns (c : Thread nD τ) accRef fullShare d)) ∗ (∃ r, prngReg c r)) := by
  unfold Pipeline.ΦA; rw [scopedRest0_eq]; simp only [accRef, owns_whole]; try rfl

/-! ## The conditions of the body -/

/-- Tile `i 0` is in use. -/
abbrev Used (i : grid0.Coords) (n : BitVec 32) : Prop := Scalar.cmpi .slt (BitVec.ofNat 32 (i 0).val) n = 1#1

theorem coord0 (t : Fin grid0.N) : (grid0.coords t 0).val = t.val / 7 := by
  have ht : t.val < 959 := Nat.lt_of_lt_of_eq t.isLt N_0
  have e0 : (grid0.coords t 0).val = t.val / 7 % 137 := Pipeline.Grid.coords_val t 0 (by decide) rfl
  omega
theorem coord1 (t : Fin grid0.N) : (grid0.coords t 1).val = t.val % 7 := by
  have e1 : (grid0.coords t 1).val = t.val / 1 % 7 := Pipeline.Grid.coords_val t 1 (by decide) rfl
  omega

abbrev isFirst (i : grid0.Coords) : Prop := Scalar.cmpi .ne (Scalar.extui (Scalar.cmpi .eq (BitVec.ofNat 32 (i 1).val) 0#32)) 0#32 = 1#1
abbrev isLater (i : grid0.Coords) : Prop := Scalar.cmpi .ne (Scalar.extui (Scalar.cmpi .sgt (BitVec.ofNat 32 (i 1).val) 0#32)) 0#32 = 1#1
abbrev isLast (i : grid0.Coords) : Prop := k0_cond4 i = 1#1

theorem isFirst_iff (t : Fin grid0.N) : isFirst (grid0.coords t) ↔ t.val % 7 = 0 := by
  have e1 := coord1 t
  have := Nat.mod_lt t.val (show 0 < 7 by decide)
  simp only [isFirst, e1]
  word_cmp
theorem isLater_iff (t : Fin grid0.N) : isLater (grid0.coords t) ↔ t.val % 7 ≠ 0 := by
  have e1 := coord1 t
  have h7 := Nat.mod_lt t.val (show 0 < 7 by decide)
  simp only [isLater, e1]
  generalize t.val % 7 = k at h7
  revert h7; revert k; decide
theorem isLast_iff (t : Fin grid0.N) : isLast (grid0.coords t) ↔ t.val % 7 = 6 := by
  have e1 := coord1 t
  have := Nat.mod_lt t.val (show 0 < 7 by decide)
  simp only [isLast, k0_cond4, e1]
  word_cmp

/-- The widened bit of a condition is nonzero exactly when the bit is set. -/
theorem bit_ne_zero (b : BitVec 1) : (Scalar.cmpi .ne (Scalar.extui b : BitVec 32) 0#32 = 1#1) ↔ b = 1#1 := by
  revert b; decide
theorem flip_ne_zero (b : BitVec 1) : (Scalar.cmpi .ne (Scalar.extui (Scalar.xori b 1#1) : BitVec 32) 0#32 = 1#1) ↔ ¬ b = 1#1 := by
  revert b; decide

theorem cond5_iff (i : grid0.Coords) (n : BitVec 32) : k0_cond5 i n = 1#1 ↔ Used i n := bit_ne_zero _
theorem cond6_iff (i : grid0.Coords) (n : BitVec 32) : k0_cond6 i n = 1#1 ↔ ¬ Used i n := flip_ne_zero _

/-! ## Where the windows are idle -/

/-- The result's window is idle exactly off the last step of a tile: one of the two stores runs there. -/
theorem idle_y (hO : Fits m) (t : Fin (cfgAt m hO).N) :
    (cfgAt m hO).idle 5 (grid0.coords t) = !decide (t.val % 7 = 6) := by
  show (!(k0_cond4 (grid0.coords t) == 1#1 && k0_cond5 (grid0.coords t) ((tables m).atD 1 ![0]) == 1#1)
    && !(k0_cond4 (grid0.coords t) == 1#1 && k0_cond6 (grid0.coords t) ((tables m).atD 1 ![0]) == 1#1)) = _
  have h5 := cond5_iff (grid0.coords t) ((tables m).atD 1 ![0])
  have h6 := cond6_iff (grid0.coords t) ((tables m).atD 1 ![0])
  have h4 := isLast_iff t
  by_cases hl : t.val % 7 = 6
  · have h4' : k0_cond4 (grid0.coords t) = 1#1 := h4.mpr hl
    by_cases hu : Used (grid0.coords t) ((tables m).atD 1 ![0])
    · rw [h4', h5.mpr hu]; simp [hl]
    · rw [h4', h6.mpr hu]; simp [hl]
  · have h4' : ¬ k0_cond4 (grid0.coords t) = 1#1 := fun h => hl (h4.mp h)
    have : (k0_cond4 (grid0.coords t) == 1#1) = false := by simpa using h4'
    rw [this]; simp [hl]

/-- The result's block is written back exactly at the last step of a tile. -/
theorem flush_y (hO : Fits m) (t : Fin (cfgAt m hO).N) : ((cfgAt m hO).win 5).flush t = true ↔ t.val % 7 = 6 :=
  (fun t => Pipeline.Window.flushOf_reads cc0_transform_5 reads0_5 hreads0_5 0 (by decide) (by decide)
    (Pipeline.Window.sep_of_coord cc0_transform_5 0 0 (fun _ => rfl) (by decide)) (P := 7) (m := 6) (by decide) rfl t :
    ∀ t : Fin grid0.N, Pipeline.Window.flushOf grid0 true cc0_transform_5 t = true ↔ t.val % 7 = 6) t

end Cert.KernelIdeal.Grouped

end
-- ==== Proof.Grouped.Runs.lean ====
/-
  What one grid point of the grouped expert kernel does to the buffers it is given: the point's five cases (is the tile in
  use, is the hidden block the first, one in the middle, the last), each run once.
-/
module

public import proofs.«01_k».proof.Proof.Grouped.Setup
public import Idealize.ShloMosaic.Lib.VecWindow
public import Idealize.ShloMosaic.Lib.Pipeline.Value

@[expose] public section

set_option maxRecDepth 16384

noncomputable section

namespace Cert.KernelIdeal.Grouped

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The word a point loads from the second table is the number of tiles in use. -/
theorem readUsed (nu : Vec F S1 .i32) (r : Rect S1) (x : r.toLoadRect.shape.Idx) :
    View.readAt (Elt F) usedTable.view r.toLoadRect nu x = usedWord nu := usedWord_eq nu _

theorem zero2 : (![0, 0] : Fin 2 → ℕ) = fun _ => 0 := funext fun a => by fin_cases a <;> rfl
theorem zero3 : (![0, 0, 0] : Fin 3 → ℕ) = fun _ => 0 := funext fun a => by fin_cases a <;> rfl

/-- Everything a point's run holds: the five input blocks, the output block, the accumulator and the two tables. -/
def Held (c : Dev nD)
    (a4 : Memref sig .tc .vmem S512x1024 .bf16) (a5 : Memref sig .tc .vmem S512x1 .f32) (a6 : Memref sig .tc .vmem S1x1024x512 .bf16)
    (a7 : Memref sig .tc .vmem S1x1024x512 .bf16) (a8 : Memref sig .tc .vmem S1x512x1024 .bf16)
    (a9 : Memref sig .tc .vmem S512x1024 .bf16) (a10 : Memref sig .tc .vmem S512x1024 .f32)
    (x : Vec F S512x1024 .bf16) (g : Vec F S512x1 .f32) (u1 : Vec F S1x1024x512 .bf16) (u3 : Vec F S1x1024x512 .bf16)
    (u2 : Vec F S1x512x1024 .bf16) (y : Vec F S512x1024 .bf16) (acc : Vec F S512x1024 .f32)
    (te : Vec F S137 .i32) (nu : Vec F S1 .i32) : sProp 𝕄 :=
  iprop(owns (c : Thread nD τ) a4 fullShare x ∗ owns (c : Thread nD τ) a5 fullShare g ∗ owns (c : Thread nD τ) a6 fullShare u1
    ∗ owns (c : Thread nD τ) a7 fullShare u3 ∗ owns (c : Thread nD τ) a8 fullShare u2 ∗ owns (c : Thread nD τ) a9 fullShare y
    ∗ owns (c : Thread nD τ) a10 fullShare acc ∗ tableHeld c expertTable te ∗ tableHeld c usedTable nu)

variable (c : Dev nD) (i : grid0.Coords)
  (a4 : Memref sig .tc .vmem S512x1024 .bf16) (w4 : a4.IsWhole) (a5 : Memref sig .tc .vmem S512x1 .f32) (w5 : a5.IsWhole)
  (a6 : Memref sig .tc .vmem S1x1024x512 .bf16) (w6 : a6.IsWhole) (a7 : Memref sig .tc .vmem S1x1024x512 .bf16) (w7 : a7.IsWhole)
  (a8 : Memref sig .tc .vmem S1x512x1024 .bf16) (w8 : a8.IsWhole) (a9 : Memref sig .tc .vmem S512x1024 .bf16) (w9 : a9.IsWhole)
  (a10 : Memref sig .tc .vmem S512x1024 .f32) (w10 : a10.IsWhole)
  (x : Vec F S512x1024 .bf16) (g : Vec F S512x1 .f32) (u1 : Vec F S1x1024x512 .bf16) (u3 : Vec F S1x1024x512 .bf16)
  (u2 : Vec F S1x512x1024 .bf16) (y : Vec F S512x1024 .bf16) (acc : Vec F S512x1024 .f32)
  (te : Vec F S137 .i32) (nu : Vec F S1 .i32)

/-- The kernel's body at a point, over any whole buffers. -/
abbrev bodyOver : Prog (TpuEff nD τ sig (Elt F) Λ₀ .tc) PUnit :=
  cc0_moe_ffn i expertTable (Memref.isWhole_whole _) usedTable (Memref.isWhole_whole _) a4 w4 a5 w5 a6 w6 a7 w7 a8 w8 a9 w9 a10 w10

set_option maxHeartbeats 2000000 in
/-- A tile in use, its first hidden block: the accumulator ends holding the block's product. -/
theorem run_first (hu : Used i (usedWord nu)) (h0 : isFirst i) (h1 : ¬ isLater i) (h2 : ¬ isLast i)
    (E : Set ℕ) (K : PUnit → sProp 𝕄) :
    iprop(Held c a4 a5 a6 a7 a8 a9 a10 x g u1 u3 u2 y acc te nu
        ∗ (Held c a4 a5 a6 a7 a8 a9 a10 x g u1 u3 u2 y (k0_pay2 x u1 u3 u2) te nu -∗ K ⟨⟩))
      ⊢ wp frame (wpE (defs₀ (F := F)) Variants.none c none) E
          (bodyOver i a4 w4 a5 w5 a6 w6 a7 w7 a8 w8 a9 w9 a10 w10) K := by
  unfold bodyOver
  simp only [cc0_moe_ffn_eq_skeleton]; unfold cc0_moe_ffn_skel
  unfold Held owns
  iintro ⟨⟨⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, HT0, HT1⟩, Hk⟩
  obtain rfl := w4.eq_unread e4; obtain rfl := w5.eq_unread e5; obtain rfl := w6.eq_unread e6; obtain rfl := w7.eq_unread e7
  obtain rfl := w8.eq_unread e8; obtain rfl := w9.eq_unread e9; obtain rfl := w10.eq_unread e10
  sl_exec (disch := first
    | sl_exact h0 | sl_exact h1 | sl_exact h2
    | (unfold run_first.sl.v3 run_first.sl.v2 run_first.sl.v1 run_first.sl.r
       rw [readUsed, bit_ne_zero]
       exact hu))
  sl_step
  iapply Hk
  isplitl [H4]
  · iexists _; isplitr; swap; iexact H4; ipureintro; exact w4.read_unread _
  isplitl [H5]
  · iexists _; isplitr; swap; iexact H5; ipureintro; exact w5.read_unread _
  isplitl [H6]
  · iexists _; isplitr; swap; iexact H6; ipureintro; exact w6.read_unread _
  isplitl [H7]
  · iexists _; isplitr; swap; iexact H7; ipureintro; exact w7.read_unread _
  isplitl [H8]
  · iexists _; isplitr; swap; iexact H8; ipureintro; exact w8.read_unread _
  isplitl [H9]
  · iexists _; isplitr; swap; iexact H9; ipureintro
    exact w9.read_unread _
  isplitl [H10]
  · iexists _; isplitr; swap; iexact H10; ipureintro
    rw [View.read_writes_full]
    simp only [View.readAt_eq_ld, w4.read_unread, w5.read_unread, w6.read_unread, w7.read_unread, w8.read_unread, w10.read_unread, View.ld_unit_zero (S := S512x1024) zero2, View.ld_unit_zero (S := S512x1) zero2, View.ld_unit_zero (S := S1x1024x512) zero3, View.ld_unit_zero (S := S1x512x1024) zero3]
  isplitl [HT0]
  · iexact HT0
  iexact HT1

set_option maxHeartbeats 2000000 in
/-- A tile in use, a hidden block in the middle: its product is added to the accumulator. -/
theorem run_middle (hu : Used i (usedWord nu)) (h0 : ¬ isFirst i) (h1 : isLater i) (h2 : ¬ isLast i)
    (E : Set ℕ) (K : PUnit → sProp 𝕄) :
    iprop(Held c a4 a5 a6 a7 a8 a9 a10 x g u1 u3 u2 y acc te nu
        ∗ (Held c a4 a5 a6 a7 a8 a9 a10 x g u1 u3 u2 y (k0_pay3 x u1 u3 u2 acc) te nu -∗ K ⟨⟩))
      ⊢ wp frame (wpE (defs₀ (F := F)) Variants.none c none) E
          (bodyOver i a4 w4 a5 w5 a6 w6 a7 w7 a8 w8 a9 w9 a10 w10) K := by
  unfold bodyOver
  simp only [cc0_moe_ffn_eq_skeleton]; unfold cc0_moe_ffn_skel
  unfold Held owns
  iintro ⟨⟨⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, HT0, HT1⟩, Hk⟩
  obtain rfl := w4.eq_unread e4; obtain rfl := w5.eq_unread e5; obtain rfl := w6.eq_unread e6; obtain rfl := w7.eq_unread e7
  obtain rfl := w8.eq_unread e8; obtain rfl := w9.eq_unread e9; obtain rfl := w10.eq_unread e10
  sl_exec (disch := first
    | sl_exact h0 | sl_exact h1 | sl_exact h2
    | (unfold run_middle.sl.v3 run_middle.sl.v2 run_middle.sl.v1 run_middle.sl.r
       rw [readUsed, bit_ne_zero]
       exact hu))
  sl_step
  iapply Hk
  isplitl [H4]
  · iexists _; isplitr; swap; iexact H4; ipureintro; exact w4.read_unread _
  isplitl [H5]
  · iexists _; isplitr; swap; iexact H5; ipureintro; exact w5.read_unread _
  isplitl [H6]
  · iexists _; isplitr; swap; iexact H6; ipureintro; exact w6.read_unread _
  isplitl [H7]
  · iexists _; isplitr; swap; iexact H7; ipureintro; exact w7.read_unread _
  isplitl [H8]
  · iexists _; isplitr; swap; iexact H8; ipureintro; exact w8.read_unread _
  isplitl [H9]
  · iexists _; isplitr; swap; iexact H9; ipureintro
    exact w9.read_unread _
  isplitl [H10]
  · iexists _; isplitr; swap; iexact H10; ipureintro
    rw [View.read_writes_full]
    simp only [View.readAt_eq_ld, w4.read_unread, w5.read_unread, w6.read_unread, w7.read_unread, w8.read_unread, w10.read_unread, View.ld_unit_zero (S := S512x1024) zero2, View.ld_unit_zero (S := S512x1) zero2, View.ld_unit_zero (S := S1x1024x512) zero3, View.ld_unit_zero (S := S1x512x1024) zero3]
  isplitl [HT0]
  · iexact HT0
  iexact HT1

set_option maxHeartbeats 2000000 in
/-- A tile in use, its last hidden block: the finished accumulator times the gates goes to the output block. -/
theorem run_last (hu : Used i (usedWord nu)) (h0 : ¬ isFirst i) (h1 : isLater i) (h2 : isLast i)
    (E : Set ℕ) (K : PUnit → sProp 𝕄) :
    iprop(Held c a4 a5 a6 a7 a8 a9 a10 x g u1 u3 u2 y acc te nu
        ∗ (Held c a4 a5 a6 a7 a8 a9 a10 x g u1 u3 u2 (k0_pay4 (k0_pay3 x u1 u3 u2 acc) g) (k0_pay3 x u1 u3 u2 acc) te nu -∗ K ⟨⟩))
      ⊢ wp frame (wpE (defs₀ (F := F)) Variants.none c none) E
          (bodyOver i a4 w4 a5 w5 a6 w6 a7 w7 a8 w8 a9 w9 a10 w10) K := by
  unfold bodyOver
  simp only [cc0_moe_ffn_eq_skeleton]; unfold cc0_moe_ffn_skel
  unfold Held owns
  iintro ⟨⟨⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, HT0, HT1⟩, Hk⟩
  obtain rfl := w4.eq_unread e4; obtain rfl := w5.eq_unread e5; obtain rfl := w6.eq_unread e6; obtain rfl := w7.eq_unread e7
  obtain rfl := w8.eq_unread e8; obtain rfl := w9.eq_unread e9; obtain rfl := w10.eq_unread e10
  have h5 : k0_cond5 i (usedWord nu) = 1#1 := (cond5_iff _ _).mpr hu
  have h6 : ¬ k0_cond6 i (usedWord nu) = 1#1 := fun h => (cond6_iff _ _).mp h hu
  sl_exec (disch := first
    | sl_exact h0 | sl_exact h1 | sl_exact h2
    | (unfold run_last.sl.v3 run_last.sl.v2 run_last.sl.v1 run_last.sl.r
       rw [readUsed, bit_ne_zero]
       exact hu)
    | (unfold run_last.sl.r
       rw [readUsed]
       first | sl_exact h5 | sl_exact h6))
  sl_step
  iapply Hk
  isplitl [H4]
  · iexists _; isplitr; swap; iexact H4; ipureintro; exact w4.read_unread _
  isplitl [H5]
  · iexists _; isplitr; swap; iexact H5; ipureintro; exact w5.read_unread _
  isplitl [H6]
  · iexists _; isplitr; swap; iexact H6; ipureintro; exact w6.read_unread _
  isplitl [H7]
  · iexists _; isplitr; swap; iexact H7; ipureintro; exact w7.read_unread _
  isplitl [H8]
  · iexists _; isplitr; swap; iexact H8; ipureintro; exact w8.read_unread _
  isplitl [H9]
  · iexists _; isplitr; swap; iexact H9; ipureintro
    rw [View.read_writes_full]
    sl_unfold_words
    try rw [View.readCov_unit_zero (S := S512x1024) _ zero2]
    simp only [View.readAt_eq_ld, w4.read_unread, w5.read_unread, w6.read_unread, w7.read_unread, w8.read_unread, w10.read_unread, View.ld_unit_zero (S := S512x1024) zero2, View.ld_unit_zero (S := S512x1) zero2, View.ld_unit_zero (S := S1x1024x512) zero3, View.ld_unit_zero (S := S1x512x1024) zero3]
  isplitl [H10]
  · iexists _; isplitr; swap; iexact H10; ipureintro
    sl_unfold_words
    rw [View.read_writes_full]
    simp only [View.readAt_eq_ld, w4.read_unread, w5.read_unread, w6.read_unread, w7.read_unread, w8.read_unread, w10.read_unread, View.ld_unit_zero (S := S512x1024) zero2, View.ld_unit_zero (S := S512x1) zero2, View.ld_unit_zero (S := S1x1024x512) zero3, View.ld_unit_zero (S := S1x512x1024) zero3]
  isplitl [HT0]
  · iexact HT0
  iexact HT1

set_option maxHeartbeats 2000000 in
/-- A tile not in use, a hidden block before the last: nothing is written. -/
theorem run_idle (hu : ¬ Used i (usedWord nu)) (h0 : ¬ isLast i) (h1 : True) (h2 : True)
    (E : Set ℕ) (K : PUnit → sProp 𝕄) :
    iprop(Held c a4 a5 a6 a7 a8 a9 a10 x g u1 u3 u2 y acc te nu
        ∗ (Held c a4 a5 a6 a7 a8 a9 a10 x g u1 u3 u2 y acc te nu -∗ K ⟨⟩))
      ⊢ wp frame (wpE (defs₀ (F := F)) Variants.none c none) E
          (bodyOver i a4 w4 a5 w5 a6 w6 a7 w7 a8 w8 a9 w9 a10 w10) K := by
  unfold bodyOver
  simp only [cc0_moe_ffn_eq_skeleton]; unfold cc0_moe_ffn_skel
  unfold Held owns
  iintro ⟨⟨⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, HT0, HT1⟩, Hk⟩
  obtain rfl := w4.eq_unread e4; obtain rfl := w5.eq_unread e5; obtain rfl := w6.eq_unread e6; obtain rfl := w7.eq_unread e7
  obtain rfl := w8.eq_unread e8; obtain rfl := w9.eq_unread e9; obtain rfl := w10.eq_unread e10
  sl_exec (disch := first
    | sl_exact h0 | sl_exact h1 | sl_exact h2
    | (unfold run_idle.sl.v3 run_idle.sl.v2 run_idle.sl.v1 run_idle.sl.r
       rw [readUsed, bit_ne_zero]
       exact hu))
  sl_step
  iapply Hk
  isplitl [H4]
  · iexists _; isplitr; swap; iexact H4; ipureintro; exact w4.read_unread _
  isplitl [H5]
  · iexists _; isplitr; swap; iexact H5; ipureintro; exact w5.read_unread _
  isplitl [H6]
  · iexists _; isplitr; swap; iexact H6; ipureintro; exact w6.read_unread _
  isplitl [H7]
  · iexists _; isplitr; swap; iexact H7; ipureintro; exact w7.read_unread _
  isplitl [H8]
  · iexists _; isplitr; swap; iexact H8; ipureintro; exact w8.read_unread _
  isplitl [H9]
  · iexists _; isplitr; swap; iexact H9; ipureintro
    exact w9.read_unread _
  isplitl [H10]
  · iexists _; isplitr; swap; iexact H10; ipureintro
    exact w10.read_unread _
  isplitl [HT0]
  · iexact HT0
  iexact HT1

set_option maxHeartbeats 2000000 in
/-- A tile not in use, the last hidden block: zeros go to the output block. -/
theorem run_blank (hu : ¬ Used i (usedWord nu)) (h0 : isLast i) (h1 : True) (h2 : True)
    (E : Set ℕ) (K : PUnit → sProp 𝕄) :
    iprop(Held c a4 a5 a6 a7 a8 a9 a10 x g u1 u3 u2 y acc te nu
        ∗ (Held c a4 a5 a6 a7 a8 a9 a10 x g u1 u3 u2 (k0_pay5 (F := F)) acc te nu -∗ K ⟨⟩))
      ⊢ wp frame (wpE (defs₀ (F := F)) Variants.none c none) E
          (bodyOver i a4 w4 a5 w5 a6 w6 a7 w7 a8 w8 a9 w9 a10 w10) K := by
  unfold bodyOver
  simp only [cc0_moe_ffn_eq_skeleton]; unfold cc0_moe_ffn_skel
  unfold Held owns
  iintro ⟨⟨⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, HT0, HT1⟩, Hk⟩
  obtain rfl := w4.eq_unread e4; obtain rfl := w5.eq_unread e5; obtain rfl := w6.eq_unread e6; obtain rfl := w7.eq_unread e7
  obtain rfl := w8.eq_unread e8; obtain rfl := w9.eq_unread e9; obtain rfl := w10.eq_unread e10
  have h5 : ¬ k0_cond5 i (usedWord nu) = 1#1 := fun h => hu ((cond5_iff _ _).mp h)
  have h6 : k0_cond6 i (usedWord nu) = 1#1 := (cond6_iff _ _).mpr hu
  sl_exec (disch := first
    | sl_exact h0 | sl_exact h1 | sl_exact h2
    | (unfold run_blank.sl.v3 run_blank.sl.v2 run_blank.sl.v1 run_blank.sl.r
       rw [readUsed, bit_ne_zero]
       exact hu)
    | (unfold run_blank.sl.r
       rw [readUsed]
       first | sl_exact h5 | sl_exact h6))
  sl_step
  iapply Hk
  isplitl [H4]
  · iexists _; isplitr; swap; iexact H4; ipureintro; exact w4.read_unread _
  isplitl [H5]
  · iexists _; isplitr; swap; iexact H5; ipureintro; exact w5.read_unread _
  isplitl [H6]
  · iexists _; isplitr; swap; iexact H6; ipureintro; exact w6.read_unread _
  isplitl [H7]
  · iexists _; isplitr; swap; iexact H7; ipureintro; exact w7.read_unread _
  isplitl [H8]
  · iexists _; isplitr; swap; iexact H8; ipureintro; exact w8.read_unread _
  isplitl [H9]
  · iexists _; isplitr; swap; iexact H9; ipureintro
    rw [View.read_writes_full]
  isplitl [H10]
  · iexists _; isplitr; swap; iexact H10; ipureintro
    exact w10.read_unread _
  isplitl [HT0]
  · iexact HT0
  iexact HT1

end Cert.KernelIdeal.Grouped

end
-- ==== Proof.Grouped.Frame.lean ====
/-
  The whole call: what the accumulator holds point by point, the proof data of the pipelined call, its body's triple at
  every point, and the run of the main function: every array ends at what the call's write-backs leave in it.
-/
module

public import proofs.«01_k».proof.Proof.Grouped.Runs
public import Idealize.ShloMosaic.Lib.Quiescent

@[expose] public section

set_option maxRecDepth 16384

noncomputable section

namespace Cert.KernelIdeal.Grouped

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the accumulator and the output block hold -/

/-- Tile `k` is one of the tiles in use. -/
def UsedTile (k : ℕ) : Prop := Scalar.cmpi .slt (BitVec.ofNat 32 k) (usedWord (tables m 1)) = 1#1

theorem used_iff (t : Fin grid0.N) : Used (grid0.coords t) (usedWord (tables m 1)) ↔ UsedTile m (t.val / 7) := by
  unfold UsedTile Used; rw [coord0]

/-- The five input blocks at a point, at their plain types. -/
abbrev blk_x (hO : Fits m) (c : Dev nD) (t : Fin (cfgAt m hO).N) : Vec F S512x1024 .bf16 := iblk m hO c 0 t
abbrev blk_g (hO : Fits m) (c : Dev nD) (t : Fin (cfgAt m hO).N) : Vec F S512x1 .f32 := iblk m hO c 1 t
abbrev blk_w1 (hO : Fits m) (c : Dev nD) (t : Fin (cfgAt m hO).N) : Vec F S1x1024x512 .bf16 := iblk m hO c 2 t
abbrev blk_w3 (hO : Fits m) (c : Dev nD) (t : Fin (cfgAt m hO).N) : Vec F S1x1024x512 .bf16 := iblk m hO c 3 t
abbrev blk_w2 (hO : Fits m) (c : Dev nD) (t : Fin (cfgAt m hO).N) : Vec F S1x512x1024 .bf16 := iblk m hO c 4 t

/-- The running sum over a tile's hidden blocks, after point `n`: started anew at each tile's first block. -/
def runningSum (hO : Fits m) (c : Dev nD) : (n : ℕ) → n < (cfgAt m hO).N → Vec F S512x1024 .f32
  | 0, h => k0_pay2 (blk_x m hO c ⟨0, h⟩) (blk_w1 m hO c ⟨0, h⟩) (blk_w3 m hO c ⟨0, h⟩) (blk_w2 m hO c ⟨0, h⟩)
  | n + 1, h =>
    if (n + 1) % 7 = 0 then
      k0_pay2 (blk_x m hO c ⟨n + 1, h⟩) (blk_w1 m hO c ⟨n + 1, h⟩) (blk_w3 m hO c ⟨n + 1, h⟩) (blk_w2 m hO c ⟨n + 1, h⟩)
    else
      k0_pay3 (blk_x m hO c ⟨n + 1, h⟩) (blk_w1 m hO c ⟨n + 1, h⟩) (blk_w3 m hO c ⟨n + 1, h⟩) (blk_w2 m hO c ⟨n + 1, h⟩)
        (runningSum hO c n (Nat.lt_of_succ_lt h))

theorem runningSum_first (hO : Fits m) (c : Dev nD) (t : Fin (cfgAt m hO).N) (h : t.val % 7 = 0) :
    runningSum m hO c t.val t.isLt = k0_pay2 (blk_x m hO c t) (blk_w1 m hO c t) (blk_w3 m hO c t) (blk_w2 m hO c t) := by
  obtain ⟨n, hn⟩ := t
  cases n with
  | zero => rfl
  | succ n => exact if_pos h

theorem runningSum_later (hO : Fits m) (c : Dev nD) (t : Fin (cfgAt m hO).N) (h : t.val % 7 ≠ 0) :
    runningSum m hO c t.val t.isLt = k0_pay3 (blk_x m hO c t) (blk_w1 m hO c t) (blk_w3 m hO c t) (blk_w2 m hO c t)
      (runningSum m hO c (t.val - 1) (by have := t.isLt; omega)) := by
  obtain ⟨n, hn⟩ := t
  cases n with
  | zero => exact absurd rfl h
  | succ n => exact if_neg h

open Classical in
/-- The output block of a point (looked at only at a tile's last point): the gated sum, or zeros for a tile not in use. -/
def outBlock (hO : Fits m) (c : Dev nD) (t : Fin (cfgAt m hO).N) : Vec F S512x1024 .bf16 :=
  if UsedTile m (t.val / 7) then k0_pay4 (runningSum m hO c t.val t.isLt) (blk_g m hO c t) else k0_pay5 (F := F)

/-- What is known of the accumulator before point `n`: inside a tile in use it is the running sum so far. -/
def Carried (hO : Fits m) (c : Dev nD) (n : ℕ) (d : Vec F S512x1024 .f32) : Prop :=
  ∀ h : n - 1 < (cfgAt m hO).N, n % 7 ≠ 0 → UsedTile m (n / 7) → d = runningSum m hO c (n - 1) h

/-- The invariant before point `n`. -/
def Between (hO : Fits m) (c : Dev nD) (n : ℕ) : sProp 𝕄 :=
  iprop(iprop((∃ d, iprop(⌜Carried m hO c n d⌝ ∗ owns (c : Thread nD τ) accRef fullShare d)) ∗ (∃ r, prngReg c r))
    ∗ iprop(tableHeld c expertTable (tables m 0) ∗ tableHeld c usedTable (tables m 1)))

/-! ## The proof data -/

def dats (hO : Fits m) (_ : Fin 1) (c : Dev nD) : Dat τ (Elt F) Unit ℕ (UR sig nD τ) ℕ (cfgAt m hO) c where
  A w := entry m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outBlock m hO c t
  Φ t := Between m hO c t.val
  q _ := fullShare
  owed _ := 0

theorem arrays_entry (hO : Fits m) (c : Dev nD) (w : Fin (cfgAt m hO).W) :
    (dats m hO 0 c).A w = entry m c (Pipeline.arrRef spec0 w) := by
  dsimp only [dats]

theorem after_x (hO : Fits m) (c : Dev nD) (t : Fin (cfgAt m hO).N) : (dats m hO 0 c).after 0 t = iblk m hO c 0 t := by dsimp only [dats]; try rfl
theorem after_g (hO : Fits m) (c : Dev nD) (t : Fin (cfgAt m hO).N) : (dats m hO 0 c).after 1 t = iblk m hO c 1 t := by dsimp only [dats]; try rfl
theorem after_w1 (hO : Fits m) (c : Dev nD) (t : Fin (cfgAt m hO).N) : (dats m hO 0 c).after 2 t = iblk m hO c 2 t := by dsimp only [dats]; try rfl
theorem after_w3 (hO : Fits m) (c : Dev nD) (t : Fin (cfgAt m hO).N) : (dats m hO 0 c).after 3 t = iblk m hO c 3 t := by dsimp only [dats]; try rfl
theorem after_w2 (hO : Fits m) (c : Dev nD) (t : Fin (cfgAt m hO).N) : (dats m hO 0 c).after 4 t = iblk m hO c 4 t := by dsimp only [dats]; try rfl
theorem after_y (hO : Fits m) (c : Dev nD) (t : Fin (cfgAt m hO).N) : (dats m hO 0 c).after 5 t = outBlock m hO c t := by dsimp only [dats]; try rfl

/-- An input's staging buffer holds its block at every point, whether fetched there or kept from before. -/
theorem before_x (hO : Fits m) (c : Dev nD) (t : Fin (cfgAt m hO).N) (d) : (dats m hO 0 c).before 0 t d = iblk m hO c 0 t :=
  ((dats m hO 0 c).before_in_eq_fetched 0 rfl (fun _ => rfl) (fun _ _ _ => rfl)
    (fun t => by rw [after_x]; unfold Dat.blockOf iblk; rw [arrays_entry]; try rfl) t d).trans
    (by unfold Dat.fetched Dat.blockOf iblk; rw [arrays_entry]; try rfl)
theorem before_g (hO : Fits m) (c : Dev nD) (t : Fin (cfgAt m hO).N) (d) : (dats m hO 0 c).before 1 t d = iblk m hO c 1 t :=
  ((dats m hO 0 c).before_in_eq_fetched 1 rfl (fun _ => rfl) (fun _ _ _ => rfl)
    (fun t => by rw [after_g]; unfold Dat.blockOf iblk; rw [arrays_entry]; try rfl) t d).trans
    (by unfold Dat.fetched Dat.blockOf iblk; rw [arrays_entry]; try rfl)
theorem before_w1 (hO : Fits m) (c : Dev nD) (t : Fin (cfgAt m hO).N) (d) : (dats m hO 0 c).before 2 t d = iblk m hO c 2 t :=
  ((dats m hO 0 c).before_in_eq_fetched 2 rfl (fun _ => rfl) (fun _ _ _ => rfl)
    (fun t => by rw [after_w1]; unfold Dat.blockOf iblk; rw [arrays_entry]; try rfl) t d).trans
    (by unfold Dat.fetched Dat.blockOf iblk; rw [arrays_entry]; try rfl)
theorem before_w3 (hO : Fits m) (c : Dev nD) (t : Fin (cfgAt m hO).N) (d) : (dats m hO 0 c).before 3 t d = iblk m hO c 3 t :=
  ((dats m hO 0 c).before_in_eq_fetched 3 rfl (fun _ => rfl) (fun _ _ _ => rfl)
    (fun t => by rw [after_w3]; unfold Dat.blockOf iblk; rw [arrays_entry]; try rfl) t d).trans
    (by unfold Dat.fetched Dat.blockOf iblk; rw [arrays_entry]; try rfl)
theorem before_w2 (hO : Fits m) (c : Dev nD) (t : Fin (cfgAt m hO).N) (d) : (dats m hO 0 c).before 4 t d = iblk m hO c 4 t :=
  ((dats m hO 0 c).before_in_eq_fetched 4 rfl (fun _ => rfl) (fun _ _ _ => rfl)
    (fun t => by rw [after_w2]; unfold Dat.blockOf iblk; rw [arrays_entry]; try rfl) t d).trans
    (by unfold Dat.fetched Dat.blockOf iblk; rw [arrays_entry]; try rfl)

/-! ## The body at every point -/

/-- What the body is called with at point `t`, -/
def bodyPre (hO : Fits m) (c : Dev nD) (t : Fin (cfgAt m hO).N) : sProp 𝕄 :=
  iprop((dats m hO 0 c).Φ t.castSucc ∗ (dats m hO 0 c).owesAt () t.castSucc
    ∗ (∃ d, owns (c : Thread nD τ) (st_x m hO t) fullShare ((dats m hO 0 c).before 0 t d))
    ∗ (∃ d, owns (c : Thread nD τ) (st_g m hO t) fullShare ((dats m hO 0 c).before 1 t d))
    ∗ (∃ d, owns (c : Thread nD τ) (st_w1 m hO t) fullShare ((dats m hO 0 c).before 2 t d))
    ∗ (∃ d, owns (c : Thread nD τ) (st_w3 m hO t) fullShare ((dats m hO 0 c).before 3 t d))
    ∗ (∃ d, owns (c : Thread nD τ) (st_w2 m hO t) fullShare ((dats m hO 0 c).before 4 t d))
    ∗ (∃ d, owns (c : Thread nD τ) (st_y m hO t) fullShare ((dats m hO 0 c).before 5 t d)))

/-- and what it returns. -/
def bodyPost (hO : Fits m) (c : Dev nD) (t : Fin (cfgAt m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t)

/-- What a point's run must be shown to do: from whatever the accumulator holds (known inside a tile in use) and whatever
    the output block holds, it leaves the running sum where that is known, and the output block at a tile's last point. -/
theorem point_run (hO : Fits m) (c : Dev nD) (t : Fin (cfgAt m hO).N) (acc : Vec F S512x1024 .f32) (y : Vec F S512x1024 .bf16)
    (hacc : Carried m hO c t.val acc) (K : PUnit → sProp 𝕄) :
    iprop(Held c (st_x m hO t) (st_g m hO t) (st_w1 m hO t) (st_w3 m hO t) (st_w2 m hO t) (st_y m hO t) accRef
          (blk_x m hO c t) (blk_g m hO c t) (blk_w1 m hO c t) (blk_w3 m hO c t) (blk_w2 m hO c t) y acc (tables m 0) (tables m 1)
        ∗ ((∃ acc' y', iprop(⌜Carried m hO c (t.val + 1) acc' ∧ (t.val % 7 = 6 → y' = outBlock m hO c t)
            ∧ (t.val % 7 ≠ 6 → y' = y)⌝
            ∗ Held c (st_x m hO t) (st_g m hO t) (st_w1 m hO t) (st_w3 m hO t) (st_w2 m hO t) (st_y m hO t) accRef
              (blk_x m hO c t) (blk_g m hO c t) (blk_w1 m hO c t) (blk_w3 m hO c t) (blk_w2 m hO c t) y' acc' (tables m 0) (tables m 1))) -∗ K ⟨⟩))
      ⊢ wp frame (wpE (defs₀ (F := F)) Variants.none c none) Set.univ (bodyAt m hO t) K := by
  have hN : t.val < 959 := lt_of_lt_of_eq t.isLt (show (cfgAt m hO).N = 959 from N_0)
  have hdiv : (t.val + 1) % 7 ≠ 0 → (t.val + 1) / 7 = t.val / 7 := by intro h; omega
  by_cases hu : UsedTile m (t.val / 7)
  · have hu' := (used_iff m t).mpr hu
    have sum_next : ∀ d, d = runningSum m hO c t.val t.isLt → Carried m hO c (t.val + 1) d := fun d hd _ _ _ => hd
    by_cases h0 : t.val % 7 = 0
    · iintro ⟨HH, Hk⟩
      iapply (run_first c (grid0.coords t) _ _ _ _ _ _ _ _ _ _ _ _ _ _ _ _ _ _ _ _ _ _ _ hu' ((isFirst_iff t).mpr h0)
        (fun h => (isLater_iff t).mp h h0) (fun h => by have := (isLast_iff t).mp h; omega))
      isplitl [HH]; · iexact HH
      iintro HH
      iapply Hk
      iexists _; iexists _
      isplitr; swap; · iexact HH
      ipureintro
      exact ⟨sum_next _ (runningSum_first m hO c t h0).symm, fun h => by omega, fun _ => rfl⟩
    · have hsum : acc = runningSum m hO c (t.val - 1) (by have := t.isLt; omega) := hacc _ h0 hu
      subst hsum
      have hnew := runningSum_later m hO c t h0
      by_cases h2 : t.val % 7 = 6
      · iintro ⟨HH, Hk⟩
        iapply (run_last c (grid0.coords t) _ _ _ _ _ _ _ _ _ _ _ _ _ _ _ _ _ _ _ _ _ _ _ hu' (fun h => h0 ((isFirst_iff t).mp h))
          ((isLater_iff t).mpr h0) ((isLast_iff t).mpr h2))
        isplitl [HH]; · iexact HH
        iintro HH
        iapply Hk
        iexists _; iexists _
        isplitr; swap; · iexact HH
        ipureintro
        refine ⟨sum_next _ hnew.symm, fun _ => ?_, fun h => absurd h2 h⟩
        unfold outBlock
        rw [if_pos hu, hnew]
      · iintro ⟨HH, Hk⟩
        iapply (run_middle c (grid0.coords t) _ _ _ _ _ _ _ _ _ _ _ _ _ _ _ _ _ _ _ _ _ _ _ hu' (fun h => h0 ((isFirst_iff t).mp h))
          ((isLater_iff t).mpr h0) (fun h => h2 ((isLast_iff t).mp h)))
        isplitl [HH]; · iexact HH
        iintro HH
        iapply Hk
        iexists _; iexists _
        isplitr; swap; · iexact HH
        ipureintro
        exact ⟨sum_next _ hnew.symm, fun h => absurd h h2, fun _ => rfl⟩
  · have hu' : ¬ Used (grid0.coords t) (usedWord (tables m 1)) := fun h => hu ((used_iff m t).mp h)
    have unknown : ∀ d, Carried m hO c (t.val + 1) d := fun d _ h7 h => absurd (hdiv h7 ▸ h) hu
    by_cases h2 : t.val % 7 = 6
    · iintro ⟨HH, Hk⟩
      iapply (run_blank c (grid0.coords t) _ _ _ _ _ _ _ _ _ _ _ _ _ _ _ _ _ _ _ _ _ _ _ hu' ((isLast_iff t).mpr h2) trivial trivial)
      isplitl [HH]; · iexact HH
      iintro HH
      iapply Hk
      iexists _; iexists _
      isplitr; swap; · iexact HH
      ipureintro
      refine ⟨unknown _, fun _ => ?_, fun h => absurd h2 h⟩
      unfold outBlock
      rw [if_neg hu]
    · iintro ⟨HH, Hk⟩
      iapply (run_idle c (grid0.coords t) _ _ _ _ _ _ _ _ _ _ _ _ _ _ _ _ _ _ _ _ _ _ _ hu' (fun h => h2 ((isLast_iff t).mp h)) trivial trivial)
      isplitl [HH]; · iexact HH
      iintro HH
      iapply Hk
      iexists _; iexists _
      isplitr; swap; · iexact HH
      ipureintro
      exact ⟨unknown _, fun h => absurd h h2, fun _ => rfl⟩

theorem live_x (hO : Fits m) (t : Fin (cfgAt m hO).N) : (cfgAt m hO).idle 0 (grid0.coords t) = false := rfl
theorem live_g (hO : Fits m) (t : Fin (cfgAt m hO).N) : (cfgAt m hO).idle 1 (grid0.coords t) = false := rfl
theorem live_w1 (hO : Fits m) (t : Fin (cfgAt m hO).N) : (cfgAt m hO).idle 2 (grid0.coords t) = false := rfl
theorem live_w3 (hO : Fits m) (t : Fin (cfgAt m hO).N) : (cfgAt m hO).idle 3 (grid0.coords t) = false := rfl
theorem live_w2 (hO : Fits m) (t : Fin (cfgAt m hO).N) : (cfgAt m hO).idle 4 (grid0.coords t) = false := rfl

set_option maxHeartbeats 2000000 in
/-- The body at any point. -/
theorem sound_body (hO : Fits m) (c : Dev nD) (t : Fin (cfgAt m hO).N) :
    bodyPre m hO c t ⊢ wp frame (wpE (defs₀ (F := F)) Variants.none c none) Set.univ (bodyAt m hO t) (fun _ => bodyPost m hO c t) := by
  unfold bodyPre bodyPost
  simp only [before_x, before_g, before_w1, before_w3, before_w2]
  rw [show (dats m hO 0 c).owesAt () t.succ = (dats m hO 0 c).owesAt () t.castSucc from rfl]
  rw [show (dats m hO 0 c).Φ t.succ = Between m hO c (t.val + 1) from rfl, show (dats m hO 0 c).Φ t.castSucc = Between m hO c t.val from rfl]
  unfold Between
  rw [show (dats m hO 0 c).leavesExact 0 t = owns (c : Thread nD τ) (st_x m hO t) fullShare (blk_x m hO c t) from by
      unfold Dat.leavesExact; rw [live_x m hO t, after_x]; try rfl]
  rw [show (dats m hO 0 c).leavesExact 1 t = owns (c : Thread nD τ) (st_g m hO t) fullShare (blk_g m hO c t) from by
      unfold Dat.leavesExact; rw [live_g m hO t, after_g]; try rfl]
  rw [show (dats m hO 0 c).leavesExact 2 t = owns (c : Thread nD τ) (st_w1 m hO t) fullShare (blk_w1 m hO c t) from by
      unfold Dat.leavesExact; rw [live_w1 m hO t, after_w1]; try rfl]
  rw [show (dats m hO 0 c).leavesExact 3 t = owns (c : Thread nD τ) (st_w3 m hO t) fullShare (blk_w3 m hO c t) from by
      unfold Dat.leavesExact; rw [live_w3 m hO t, after_w3]; try rfl]
  rw [show (dats m hO 0 c).leavesExact 4 t = owns (c : Thread nD τ) (st_w2 m hO t) fullShare (blk_w2 m hO c t) from by
      unfold Dat.leavesExact; rw [live_w2 m hO t, after_w2]; try rfl]
  by_cases h2 : t.val % 7 = 6
  · rw [show (dats m hO 0 c).leavesExact 5 t = owns (c : Thread nD τ) (st_y m hO t) fullShare (outBlock m hO c t) from by
      unfold Dat.leavesExact; rw [show (cfgAt m hO).idle 5 (grid0.coords t) = false by rw [idle_y]; simp [h2], after_y]; try rfl]
    iintro ⟨⟨⟨⟨%acc, %hacc, HS⟩, Hg⟩, ⟨HT0, HT1⟩⟩, Ho, ⟨%d0, H0⟩, ⟨%d1, H1⟩, ⟨%d2, H2⟩, ⟨%d3, H3⟩, ⟨%d4, H4⟩, ⟨%d5, H5⟩⟩
    iapply (point_run m hO c t acc _ hacc)
    isplitl [H0 H1 H2 H3 H4 H5 HS HT0 HT1]
    · unfold Held
      isplitl [H0]; · iexact H0
      isplitl [H1]; · iexact H1
      isplitl [H2]; · iexact H2
      isplitl [H3]; · iexact H3
      isplitl [H4]; · iexact H4
      isplitl [H5]; · iexact H5
      isplitl [HS]; · iexact HS
      isplitl [HT0]; · iexact HT0
      iexact HT1
    unfold Held
    iintro ⟨%acc', %y', %hnew, H0, H1, H2, H3, H4, H5, HS, HT0, HT1⟩
    obtain ⟨hacc', hy, -⟩ := hnew
    obtain rfl := hy h2
    isplitl [HS Hg HT0 HT1]
    · isplitl [HS Hg]
      · isplitl [HS]
        · iexists _; isplitr; swap; · iexact HS
          ipureintro; exact hacc'
        iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    iexact H5
  · rw [Dat.leavesExact_idle (dats m hO 0 c) 5 t (by rw [idle_y]; simp [h2])
      (by rw [Bool.eq_false_iff]; exact fun h => h2 ((flush_y m hO t).mp h))]
    iintro ⟨⟨⟨⟨%acc, %hacc, HS⟩, Hg⟩, ⟨HT0, HT1⟩⟩, Ho, ⟨%d0, H0⟩, ⟨%d1, H1⟩, ⟨%d2, H2⟩, ⟨%d3, H3⟩, ⟨%d4, H4⟩, ⟨%d5, H5⟩⟩
    iapply (point_run m hO c t acc _ hacc)
    isplitl [H0 H1 H2 H3 H4 H5 HS HT0 HT1]
    · unfold Held
      isplitl [H0]; · iexact H0
      isplitl [H1]; · iexact H1
      isplitl [H2]; · iexact H2
      isplitl [H3]; · iexact H3
      isplitl [H4]; · iexact H4
      isplitl [H5]; · iexact H5
      isplitl [HS]; · iexact HS
      isplitl [HT0]; · iexact HT0
      iexact HT1
    unfold Held
    iintro ⟨%acc', %y', %hnew, H0, H1, H2, H3, H4, H5, HS, HT0, HT1⟩
    obtain ⟨hacc', -, hy⟩ := hnew
    obtain rfl := hy h2
    isplitl [HS Hg HT0 HT1]
    · isplitl [HS Hg]
      · isplitl [HS]
        · iexists _; isplitr; swap; · iexact HS
          ipureintro; exact hacc'
        iexact Hg
      isplitl [HT0]; · iexact HT0
      iexact HT1
    isplitl [Ho]; · iexact Ho
    isplitl [H0]; · iexact H0
    isplitl [H1]; · iexact H1
    isplitl [H2]; · iexact H2
    isplitl [H3]; · iexact H3
    isplitl [H4]; · iexact H4
    iexists _; iexact H5

/-- The body table's row at a point's slots is the body as stated above. -/
theorem body_row (hO : Fits m) (t : Fin (cfgAt m hO).N) :
    defs₀ (F := F) .tc (cfgAt m hO).body ((cfgAt m hO).bodyArgs t ((cfgAt m hO).slots t)) = bodyAt m hO t := by
  unfold defs₀; rw [Defs.onTc_tc]

theorem body_obligation (hO : Fits m) (c : Dev nD) :
    BodyObligation (dats (F := F) m hO 0 c) (defs₀ (F := F)) Variants.none () Set.univ := fun t => by
  rw [bigSep_W0, bigSep_W0, body_row m hO]
  exact triple_restated (sound_body m hO c t) rfl .rfl fun _ => .rfl

/-- What the launch hands the call is the invariant before the first point, -/
theorem enter (hO : Fits m) (c : Dev nD) :
    iprop(Pipeline.ΦA spec0 c ∗ Pipeline.ΦT pre0 (tables m) c) ⊢ (dats m hO 0 c).Φ 0 := by
  rw [show (dats m hO 0 c).Φ 0 = Between m hO c 0 from rfl, tables_held, scratch_held]
  unfold Between
  iintro ⟨⟨⟨%d, HS⟩, Hg⟩, HT⟩
  isplitl [HS Hg]
  · isplitl [HS]
    · iexists _; isplitr; swap; · iexact HS
      ipureintro
      exact fun _ h => absurd rfl h
    iexact Hg
  iexact HT

/-- and after the last point the invariant gives back the scratch. -/
theorem leave (hO : Fits m) (c : Dev nD) : (dats m hO 0 c).Φ (Fin.last (cfgAt m hO).N) ⊢ Pipeline.ΦA spec0 c := by
  rw [show (dats m hO 0 c).Φ (Fin.last (cfgAt m hO).N) = Between m hO c (cfgAt m hO).N from rfl, scratch_held]
  unfold Between
  iintro ⟨⟨⟨%d, %hd, HS⟩, Hg⟩, -⟩
  isplitl [HS]
  · iexists _; iexact HS
  iexact Hg

/-! ## The run and the frame -/

set_option backward.isDefEq.respectTransparency.types false in
/-- The launch: every array ends at what the proof data say, and every semaphore counter at zero. -/
theorem run_main (hO : Fits m) : θ_run defs (onTc (τ := τ) (main (F := F))) (s₀ m ρ)
    (fun r => (Pipeline.FramePost (Pipeline.pin pcfgs fun _ => adm m hO) (dats m hO) 0 (entry m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := entry m) (hmain := main_prefix m Variants.none) (hA := arrays_entry m hO) (hpf := entry_tables m)
    (hin := enter m hO) (hout := leave m hO)

/-- What every run of the main function ends with: the result array as the call's write-backs leave it, the seven arguments as they were,
    the counters at zero. -/
theorem run (hO : Fits m) : θ_run defs (onTc (τ := τ) (main (F := F))) ⟨m, fun _ => 0, ρ⟩ (fun r => (∀ c : Dev nD,
      r.2.mem ((c.tc : Thread nD τ).loc main_v5) = (dats m hO 0 c).arrAt 5 (cfgAt m hO).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨(h.1 c).1 5,
      ((h.1 c).1 0).trans (((dats m hO 0 c).arrAt_in 0 rfl _).trans ((arrays_entry m hO c 0).trans
        (entry_kept m c main_arg0 (by decide) (by decide) (by decide) (by decide) (by decide)))),
      ((h.1 c).2 main_arg1 (by decide : main_arg1 ∈ Pipeline.restRefs sig spec0)).trans (entry_kept m c main_arg1 (by decide) (by decide) (by decide) (by decide) (by decide)),
      ((h.1 c).2 main_arg2 (by decide : main_arg2 ∈ Pipeline.restRefs sig spec0)).trans (entry_kept m c main_arg2 (by decide) (by decide) (by decide) (by decide) (by decide)),
      ((h.1 c).2 main_arg3 (by decide : main_arg3 ∈ Pipeline.restRefs sig spec0)).trans (entry_kept m c main_arg3 (by decide) (by decide) (by decide) (by decide) (by decide)),
      ((h.1 c).2 main_arg4 (by decide : main_arg4 ∈ Pipeline.restRefs sig spec0)).trans (entry_kept m c main_arg4 (by decide) (by decide) (by decide) (by decide) (by decide)),
      ((h.1 c).2 main_arg5 (by decide : main_arg5 ∈ Pipeline.restRefs sig spec0)).trans (entry_kept m c main_arg5 (by decide) (by decide) (by decide) (by decide) (by decide)),
      ((h.1 c).2 main_arg6 (by decide : main_arg6 ∈ Pipeline.restRefs sig spec0)).trans (entry_kept m c main_arg6 (by decide) (by decide) (by decide) (by decide) (by decide))⟩,
    h.2⟩) (run_main m ρ hO)

end Cert.KernelIdeal.Grouped

end
-- ==== Proof.Grouped.Experts.lean ====
/-
  What the precondition says of the table of experts: every word names one of the eight experts. A table of such words keeps
  every block of weights inside its array.
-/
module

public import proofs.«01_k».proof.Pre_experts_exist
public import Idealize.ShloMosaic.Lib.StableHlo.Predicate

@[expose] public section

noncomputable section

namespace Cert.Experts

open Idealize.ShloMosaic

/-- A word that is at least zero and less than eight, read signed, has a value below eight. -/
theorem word_lt (w : BitVec 32) (h0 : IntOp.cmpi .sge w 0#32 = 1#1) (h8 : IntOp.cmpi .slt w 8#32 = 1#1) : w.toNat < 8 := by
  unfold IntOp.cmpi at h0 h8
  simp only [BitVec.sle, BitVec.slt, StableHlo.Predicate.ofBool_eq_one_iff, decide_eq_true_eq] at h0 h8
  have e := BitVec.toInt_eq_toNat_cond w
  have := w.isLt
  have z : (0#32).toInt = 0 := by decide
  have z8 : (8#32).toInt = 8 := by decide
  rw [z] at h0; rw [z8] at h8
  split at e <;> omega

/-- Both bits of a conjunction that is one are one. -/
theorem both (a b : BitVec 1) (h : IntOp.andi a b = 1#1) : a = 1#1 ∧ b = 1#1 := by
  revert h; revert a b; decide

/-- The precondition, read at the table's words. -/
theorem of_pre [Cert.Pre_experts_exist.Facts] {F : FTy → Type} [FloatOps F] (a0 a1) (a2 : IVec Cert.Pre_experts_exist.S137 32) (a3 a4 a5 a6)
    (h : Cert.Pre_experts_exist.fn (F := F) a0 a1 a2 a3 a4 a5 a6 = fun _ => 1#1) (x) : (a2 x).toNat < 8 := by
  have e := congrFun h x
  unfold Cert.Pre_experts_exist.fn at e
  obtain ⟨p, q⟩ := both _ _ e
  exact word_lt (a2 x) p q

end Cert.Experts

end
-- ==== Proof.Grouped.Tables.lean ====
/-
  The two tables of the grouped expert call, read off the launch memory, and the blocks of weights they select.
-/
module

public import proofs.«01_k».proof.Proof.Grouped.Setup
public import proofs.«01_k».proof.Proof.Grouped.Experts

@[expose] public section

set_option maxRecDepth 16384

noncomputable section

namespace Cert.KernelIdeal.Grouped

open Idealize.ShloMosaic Idealize.ShloMosaic.TcCoe
open Cert.KernelIdeal.Gen

variable {F : FTy → Type} [FloatOps F]
variable (m : (ℓ : Loc nD τ sig) → Buf (Elt F) ℓ)

/-- Position `k` of the table of experts. -/
def tileIdx (k : ℕ) (h : k < 137) : S137.Idx := fun a => ⟨k, by
  match a with
  | ⟨0, _⟩ => exact h⟩

/-- The word of the table of experts at tile `k`. -/
def expertWord (k : Fin 137) : BitVec 32 := (tables m 0 : S137.Idx → BitVec 32) (tileIdx k.val k.isLt)

/-- Every word of the table of experts names an expert. -/
def InRange : Prop := ∀ k, (expertWord m k).toNat < 8

/-- The hidden block whose weights a point stages: its own for a tile in use, the last for the others. -/
def hiddenWord (i : grid0.Coords) : BitVec 32 :=
  Scalar.select (Scalar.cmpi .slt (BitVec.ofNat 32 (i 0).val) (usedWord (tables m 1))) (BitVec.ofNat 32 (i 1).val) 6#32

theorem hiddenWord_le (i : grid0.Coords) : (hiddenWord m i).toNat ≤ 6 := by
  have h1 : (i 1).val < 7 := (i 1).isLt
  unfold hiddenWord Scalar.select
  split
  · rw [BitVec.toNat_ofNat]; omega
  · decide

/-- A one-word rectangle at offset `k` reads position `k`. -/
theorem emb_one (off : Fin 1 → ℕ) (h : ∀ a, off a + S1.size a ≤ S137.size a) (y : (Rect.unit (s := S137) off S1.size h).shape.Idx)
    (k : ℕ) (hk : k < 137) (e : off 0 = k) : (Rect.unit (s := S137) off S1.size h).emb y = tileIdx k hk := by
  funext a
  match a with
  | ⟨0, h0⟩ =>
    apply Fin.ext
    have hy : (y ⟨0, h0⟩).val < 1 := (y ⟨0, h0⟩).isLt
    show off 0 + 1 * (y ⟨0, h0⟩).val = k
    omega

theorem at_expert (i : grid0.Coords) (h : ∀ a, (![(Scalar.indexCast (BitVec.ofNat 32 (i 0).val) : Index).toNat] : Fin 1 → ℕ) a + S1.size a ≤ S137.size a) (h1) :
    (tables m).at 0 (Rect.unit (s := S137) ![(Scalar.indexCast (BitVec.ofNat 32 (i 0).val) : Index).toNat] S1.size h) h1 = expertWord m (i 0) := by
  have h0 : (i 0).val < 137 := (i 0).isLt
  refine congrArg (tables m 0 : S137.Idx → BitVec 32) (emb_one _ h _ (i 0).val h0 ?_)
  have e : (BitVec.ofNat 32 (i 0).val).toNat = (i 0).val := by rw [BitVec.toNat_ofNat]; omega
  exact e

theorem index_w1 (p1 p2 p3) (i : grid0.Coords) :
    cc0_transform_2 p1 p2 p3 (tables m) i = ![(expertWord m (i 0)).toNat, 0, (hiddenWord m i).toNat] :=
  congrArg₂ (fun (w n : BitVec 32) => (![w.toNat, 0, (Scalar.select (Scalar.cmpi .slt (BitVec.ofNat 32 (i 0).val) n) (BitVec.ofNat 32 (i 1).val) 6#32).toNat] : Fin 3 → ℕ)) (at_expert m i (p1 i) p2) (usedWord_eq (tables m 1) _)
theorem index_w3 (p1 p2 p3) (i : grid0.Coords) :
    cc0_transform_3 p1 p2 p3 (tables m) i = ![(expertWord m (i 0)).toNat, 0, (hiddenWord m i).toNat] :=
  congrArg₂ (fun (w n : BitVec 32) => (![w.toNat, 0, (Scalar.select (Scalar.cmpi .slt (BitVec.ofNat 32 (i 0).val) n) (BitVec.ofNat 32 (i 1).val) 6#32).toNat] : Fin 3 → ℕ)) (at_expert m i (p1 i) p2) (usedWord_eq (tables m 1) _)
theorem index_w2 (p1 p2 p3) (i : grid0.Coords) :
    cc0_transform_4 p1 p2 p3 (tables m) i = ![(expertWord m (i 0)).toNat, (hiddenWord m i).toNat, 0] :=
  congrArg₂ (fun (w n : BitVec 32) => (![w.toNat, (Scalar.select (Scalar.cmpi .slt (BitVec.ofNat 32 (i 0).val) n) (BitVec.ofNat 32 (i 1).val) 6#32).toNat, 0] : Fin 3 → ℕ)) (at_expert m i (p1 i) p2) (usedWord_eq (tables m 1) _)

/-- Words that name experts keep every block of weights inside its array. -/
theorem fits_of_inRange (h : InRange m) : Fits m := by
  refine ⟨fun i => ?_, fun i => ?_, fun i => ?_⟩
  · have he := h (i 0); have hw := hiddenWord_le m i
    refine ⟨?_, .inr (Affine.block_words_dvd (of_decide_eq_true rfl) (by decide))⟩
    rw [index_w1]
    intro a
    match a with
    | ⟨0, _⟩ => show ((expertWord m (i 0)).toNat + 1) * 1 ≤ 8; omega
    | ⟨1, _⟩ => show (0 + 1) * 1024 ≤ 1024; omega
    | ⟨2, _⟩ => show ((hiddenWord m i).toNat + 1) * 512 ≤ 3584; omega
  · have he := h (i 0); have hw := hiddenWord_le m i
    refine ⟨?_, .inr (Affine.block_words_dvd (of_decide_eq_true rfl) (by decide))⟩
    rw [index_w3]
    intro a
    match a with
    | ⟨0, _⟩ => show ((expertWord m (i 0)).toNat + 1) * 1 ≤ 8; omega
    | ⟨1, _⟩ => show (0 + 1) * 1024 ≤ 1024; omega
    | ⟨2, _⟩ => show ((hiddenWord m i).toNat + 1) * 512 ≤ 3584; omega
  · have he := h (i 0); have hw := hiddenWord_le m i
    refine ⟨?_, .inr (Affine.block_words_dvd (of_decide_eq_true rfl) (by decide))⟩
    rw [index_w2]
    intro a
    match a with
    | ⟨0, _⟩ => show ((expertWord m (i 0)).toNat + 1) * 1 ≤ 8; omega
    | ⟨1, _⟩ => show ((hiddenWord m i).toNat + 1) * 512 ≤ 3584; omega
    | ⟨2, _⟩ => show (0 + 1) * 1024 ≤ 1024; omega

/-- The table of experts is the argument as launched: no host operation before the call writes it. -/
theorem table_arg : tables m 0 = m (((0 : Dev nD).tc : Thread nD τ).loc main_arg2) :=
  entry_kept m 0 main_arg2 (by decide) (by decide) (by decide) (by decide) (by decide)

/-- A launch memory whose table holds only words below eight is in range. -/
theorem inRange_of (h : ∀ x, ((m (((0 : Dev nD).tc : Thread nD τ).loc main_arg2) : S137.Idx → BitVec 32) x).toNat < 8) : InRange m := fun k => by
  unfold expertWord; rw [table_arg]; exact h _

end Cert.KernelIdeal.Grouped

end
-- ==== Proof.Grouped.Blocks.lean ====
/-
  The blocks a point stages, as entries of the arguments: rows of the tokens and the gates, and the weights of the
  tile's expert.
-/
module

public import proofs.«01_k».proof.Proof.Grouped.Frame
public import proofs.«01_k».proof.Proof.Grouped.Tables
public import Idealize.ShloMosaic.Lib.ValueIdx
public import Idealize.ShloMosaic.Lib.Claim

@[expose] public section

set_option maxRecDepth 16384

noncomputable section

namespace Cert.KernelIdeal.Grouped

open Idealize.ShloMosaic Idealize.ShloMosaic.TcCoe Idealize.ShloMosaic.ValueIdx
open Cert.KernelIdeal.Gen

variable (m : (ℓ : Loc nD τ sig) → Buf (Elt Ideal) ℓ)

/-- The arguments, as functions of their indices. -/
abbrev tokens (c : Dev nD) : S70144x1024.Idx → EReal := m ((c : Thread nD τ).loc main_arg0)
abbrev gates (c : Dev nD) : S70144.Idx → EReal := m ((c : Thread nD τ).loc main_arg1)
abbrev experts (c : Dev nD) : S137.Idx → BitVec 32 := m ((c : Thread nD τ).loc main_arg2)
abbrev count (c : Dev nD) : S_.Idx → BitVec 32 := m ((c : Thread nD τ).loc main_arg3)
abbrev up (c : Dev nD) : S8x1024x3584.Idx → EReal := m ((c : Thread nD τ).loc main_arg4)
abbrev side (c : Dev nD) : S8x1024x3584.Idx → EReal := m ((c : Thread nD τ).loc main_arg5)
abbrev down (c : Dev nD) : S8x3584x1024.Idx → EReal := m ((c : Thread nD τ).loc main_arg6)

/-! ## The arrays the call reads, after the host operations -/

theorem entry_x (c : Dev nD) : (entry m c main_arg0 : S70144x1024.Idx → EReal) = tokens m c :=
  entry_kept m c main_arg0 (by decide) (by decide) (by decide) (by decide) (by decide)

theorem entry_g (c : Dev nD) (r : Fin 70144) (z : Fin 1) :
    (entry m c main_v0 : S70144x1.Idx → EReal) (ix2 r z) = gates m c (ix1 r) := by
  have e : (entry m c main_v0 : S70144x1.Idx → EReal) = broadcastInDim S70144x1 ![0] bcast_S70144_S70144x1_0 (gates m c) := by
    unfold entry
    after_results
  rw [e]
  exact broadcastInDim_apply _ _ _ _ _ fun a => by match a with | ⟨0, _⟩ => rfl

theorem entry_w1 (c : Dev nD) : (entry m c main_v2 : S8x1024x3584.Idx → EReal) = up m c := by
  unfold entry
  after_results
  rfl

theorem entry_w3 (c : Dev nD) : (entry m c main_v3 : S8x1024x3584.Idx → EReal) = side m c := by
  unfold entry
  after_results
  rfl

theorem entry_w2 (c : Dev nD) : (entry m c main_v4 : S8x3584x1024.Idx → EReal) = down m c := by
  unfold entry
  after_results
  rfl

theorem entry_n (x : S1.Idx) : (tables m 1 : S1.Idx → BitVec 32) x = count m 0 ValueIdx.ix0 := by
  have e : (tables m 1 : S1.Idx → BitVec 32) = shapeCast S1 (count m 0) shapeCasts_S_S1 := by
    unfold tables entry
    show StableHlo.after hostOps0 _ (Proc.devRef .tc main_v1) = _
    after_results
    rfl
  rw [e]
  exact congrArg (count m 0) (funext fun a => a.elim0)

/-! ## The blocks -/

variable (hO : Fits m) (c : Dev nD) (t : Fin (cfgAt m hO).N)

theorem points : (cfgAt m hO).N = 959 := N_0

theorem row_lt (i : Fin 512) : 512 * (t.val / 7) + i.val < 70144 := by
  have := t.isLt; have h := points m hO; have := i.isLt; omega

theorem blk_x_apply (i : Fin 512) (k : Fin 1024) :
    blk_x m hO c t (ix2 i k) = tokens m c (ix2 ⟨512 * (t.val / 7) + i.val, row_lt m hO t i⟩ k) := by
  have h0 : (BitVec.ofNat 32 (grid0.coords t 0).val).toNat = t.val / 7 := by
    have := coord0 t; have := t.isLt; have h := points m hO; rw [BitVec.toNat_ofNat]; omega
  rw [← entry_x m c]
  refine congrArg (entry m c main_arg0 : S70144x1024.Idx → EReal)
    (?_ : (((cfgAt m hO).win 0).blk t).view.emb (ix2 i k) = ix2 ⟨512 * (t.val / 7) + i.val, row_lt m hO t i⟩ k)
  funext a
  apply Fin.ext
  match a with
  | ⟨0, _⟩ => show (BitVec.ofNat 32 (grid0.coords t 0).val).toNat * 512 + 1 * i.val = 512 * (t.val / 7) + i.val; rw [h0]; omega
  | ⟨1, _⟩ => show 0 * 1024 + 1 * k.val = k.val; omega

theorem blk_g_apply (i : Fin 512) (z : Fin 1) :
    blk_g m hO c t (ix2 i z) = gates m c (ix1 ⟨512 * (t.val / 7) + i.val, row_lt m hO t i⟩) := by
  have h0 : (BitVec.ofNat 32 (grid0.coords t 0).val).toNat = t.val / 7 := by
    have := coord0 t; have := t.isLt; have h := points m hO; rw [BitVec.toNat_ofNat]; omega
  rw [← entry_g m c _ z]
  refine congrArg (entry m c main_v0 : S70144x1.Idx → EReal)
    (?_ : (((cfgAt m hO).win 1).blk t).view.emb (ix2 i z) = ix2 ⟨512 * (t.val / 7) + i.val, row_lt m hO t i⟩ z)
  funext a
  apply Fin.ext
  match a with
  | ⟨0, _⟩ => show (BitVec.ofNat 32 (grid0.coords t 0).val).toNat * 512 + 1 * i.val = 512 * (t.val / 7) + i.val; rw [h0]; omega
  | ⟨1, _⟩ => show 0 * 1 + 1 * z.val = z.val; omega

theorem tile_lt : t.val / 7 < 137 := by have := t.isLt; have h := points m hO; omega

/-- Inside a tile in use a point stages its own hidden block. -/
theorem hiddenWord_used (hu : UsedTile m (t.val / 7)) : (hiddenWord m (grid0.coords t)).toNat = t.val % 7 := by
  have h0 := coord0 t
  have h1 := coord1 t
  unfold hiddenWord
  rw [h0, show Scalar.cmpi .slt (BitVec.ofNat 32 (t.val / 7)) (usedWord (tables m 1)) = 1#1 from hu, select_one, h1,
    BitVec.toNat_ofNat]
  omega

theorem unit_lt (h : Fin 512) : 512 * (t.val % 7) + h.val < 3584 := by have := h.isLt; omega

theorem coord_eq : grid0.coords t 0 = (⟨t.val / 7, tile_lt m hO t⟩ : Fin 137) := Fin.ext (coord0 t)

/-- The block of weights a point of a tile in use stages: its tile's expert, its own hidden block. -/
theorem weights_at (hu : UsedTile m (t.val / 7)) (p1 p2 p3) :
    (cc0_transform_2 (F := Ideal) p1 p2 p3 (tables m) (grid0.coords t) : Fin 3 → ℕ)
      = ![(expertWord m ⟨t.val / 7, tile_lt m hO t⟩).toNat, 0, t.val % 7]
    ∧ (cc0_transform_3 (F := Ideal) p1 p2 p3 (tables m) (grid0.coords t) : Fin 3 → ℕ)
      = ![(expertWord m ⟨t.val / 7, tile_lt m hO t⟩).toNat, 0, t.val % 7]
    ∧ (cc0_transform_4 (F := Ideal) p1 p2 p3 (tables m) (grid0.coords t) : Fin 3 → ℕ)
      = ![(expertWord m ⟨t.val / 7, tile_lt m hO t⟩).toNat, t.val % 7, 0] := by
  have e := congrArg (fun k => (expertWord m k).toNat) (coord_eq m hO t)
  have f := hiddenWord_used m hO t hu
  refine ⟨(index_w1 m p1 p2 p3 _).trans ?_, (index_w3 m p1 p2 p3 _).trans ?_, (index_w2 m p1 p2 p3 _).trans ?_⟩
  · exact congrArg₂ (fun a b : ℕ => (![a, 0, b] : Fin 3 → ℕ)) e f
  · exact congrArg₂ (fun a b : ℕ => (![a, 0, b] : Fin 3 → ℕ)) e f
  · exact congrArg₂ (fun a b : ℕ => (![a, b, 0] : Fin 3 → ℕ)) e f

/-- The expert of a point's tile. -/
def expertOf (hR : InRange m) : Fin 8 := ⟨(expertWord m ⟨t.val / 7, tile_lt m hO t⟩).toNat, hR _⟩
/-- The hidden unit a column of a point's block of weights belongs to. -/
def unitOf (h : Fin 512) : Fin 3584 := ⟨512 * (t.val % 7) + h.val, unit_lt m hO t h⟩

/-- The place of an entry of a staged block of weights in its array, axis by axis. -/
theorem place_w1 (x : S1x1024x512.Idx) (a : Fin 3) :
    ∃ p1 p2 p3, ((((cfgAt m hO).win 2).blk t).view.emb x a).val
      = (cc0_transform_2 (F := Ideal) p1 p2 p3 (tables m) (grid0.coords t) : Fin 3 → ℕ) a * S1x1024x512.size a + 1 * (x a).val :=
  ⟨_, _, _, rfl⟩
theorem place_w3 (x : S1x1024x512.Idx) (a : Fin 3) :
    ∃ p1 p2 p3, ((((cfgAt m hO).win 3).blk t).view.emb x a).val
      = (cc0_transform_3 (F := Ideal) p1 p2 p3 (tables m) (grid0.coords t) : Fin 3 → ℕ) a * S1x1024x512.size a + 1 * (x a).val :=
  ⟨_, _, _, rfl⟩
theorem place_w2 (x : S1x512x1024.Idx) (a : Fin 3) :
    ∃ p1 p2 p3, ((((cfgAt m hO).win 4).blk t).view.emb x a).val
      = (cc0_transform_4 (F := Ideal) p1 p2 p3 (tables m) (grid0.coords t) : Fin 3 → ℕ) a * S1x512x1024.size a + 1 * (x a).val :=
  ⟨_, _, _, rfl⟩

theorem blk_w1_apply (hR : InRange m) (hu : UsedTile m (t.val / 7)) (k : Fin 1024) (h : Fin 512) :
    blk_w1 m hO c t (ix3 0 k h) = up m c (ix3 (expertOf m hO t hR) k (unitOf m hO t h)) := by
  rw [← entry_w1 m c]
  refine congrArg (entry m c main_v2 : S8x1024x3584.Idx → EReal)
    (?_ : (((cfgAt m hO).win 2).blk t).view.emb (ix3 0 k h) = ix3 (expertOf m hO t hR) k (unitOf m hO t h))
  funext a
  apply Fin.ext
  obtain ⟨p1, p2, p3, e⟩ := place_w1 m hO t (ix3 0 k h) a
  refine e.trans ?_
  rw [(weights_at m hO t hu p1 p2 p3).1]
  clear e
  match a with
  | ⟨0, _⟩ => show (expertWord m ⟨t.val / 7, _⟩).toNat * 1 + 1 * 0 = (expertWord m ⟨t.val / 7, _⟩).toNat; omega
  | ⟨1, _⟩ => show 0 * 1024 + 1 * k.val = k.val; omega
  | ⟨2, _⟩ => show t.val % 7 * 512 + 1 * h.val = 512 * (t.val % 7) + h.val; omega

theorem blk_w3_apply (hR : InRange m) (hu : UsedTile m (t.val / 7)) (k : Fin 1024) (h : Fin 512) :
    blk_w3 m hO c t (ix3 0 k h) = side m c (ix3 (expertOf m hO t hR) k (unitOf m hO t h)) := by
  rw [← entry_w3 m c]
  refine congrArg (entry m c main_v3 : S8x1024x3584.Idx → EReal)
    (?_ : (((cfgAt m hO).win 3).blk t).view.emb (ix3 0 k h) = ix3 (expertOf m hO t hR) k (unitOf m hO t h))
  funext a
  apply Fin.ext
  obtain ⟨p1, p2, p3, e⟩ := place_w3 m hO t (ix3 0 k h) a
  refine e.trans ?_
  rw [(weights_at m hO t hu p1 p2 p3).2.1]
  clear e
  match a with
  | ⟨0, _⟩ => show (expertWord m ⟨t.val / 7, _⟩).toNat * 1 + 1 * 0 = (expertWord m ⟨t.val / 7, _⟩).toNat; omega
  | ⟨1, _⟩ => show 0 * 1024 + 1 * k.val = k.val; omega
  | ⟨2, _⟩ => show t.val % 7 * 512 + 1 * h.val = 512 * (t.val % 7) + h.val; omega

theorem blk_w2_apply (hR : InRange m) (hu : UsedTile m (t.val / 7)) (h : Fin 512) (d : Fin 1024) :
    blk_w2 m hO c t (ix3 0 h d) = down m c (ix3 (expertOf m hO t hR) (unitOf m hO t h) d) := by
  rw [← entry_w2 m c]
  refine congrArg (entry m c main_v4 : S8x3584x1024.Idx → EReal)
    (?_ : (((cfgAt m hO).win 4).blk t).view.emb (ix3 0 h d) = ix3 (expertOf m hO t hR) (unitOf m hO t h) d)
  funext a
  apply Fin.ext
  obtain ⟨p1, p2, p3, e⟩ := place_w2 m hO t (ix3 0 h d) a
  refine e.trans ?_
  rw [(weights_at m hO t hu p1 p2 p3).2.2]
  clear e
  match a with
  | ⟨0, _⟩ => show (expertWord m ⟨t.val / 7, _⟩).toNat * 1 + 1 * 0 = (expertWord m ⟨t.val / 7, _⟩).toNat; omega
  | ⟨1, _⟩ => show t.val % 7 * 512 + 1 * h.val = 512 * (t.val % 7) + h.val; omega
  | ⟨2, _⟩ => show 0 * 1024 + 1 * d.val = d.val; omega

end Cert.KernelIdeal.Grouped

end
-- ==== Proof.Ffn.lean ====
/-
  The gated feed-forward of one token at one output coordinate, over the extended reals, and sums taken block by block.
-/
module

public import Idealize.ShloMosaic.PureOps.Ideal
public import Mathlib.Algebra.BigOperators.Fin

@[expose] public section

noncomputable section

namespace Cert.Ffn

open Idealize.ShloMosaic
open scoped BigOperators

/-- The gate `a · 1 / (1 + exp (-a))`. -/
def silu (a : EReal) : EReal := a * Ideal.div 1 (1 + Ideal.exp (-a))

/-- One hidden unit of a token `x`: the gate of one projection times the other projection. -/
def hidden {D : ℕ} (x a b : Fin D → EReal) : EReal := silu (∑ k, x k * a k) * ∑ k, x k * b k

/-- The feed-forward of a token `x` at one output coordinate: its hidden units against that coordinate's weights. -/
def ffn {D H : ℕ} (x : Fin D → EReal) (a b : Fin H → Fin D → EReal) (w : Fin H → EReal) : EReal :=
  ∑ h, hidden x (a h) (b h) * w h

/-- The sum of the first `n` terms of a finite family (terms past its end are zero). -/
def upTo {N : ℕ} (g : Fin N → EReal) (n : ℕ) : EReal := ∑ h ∈ Finset.range n, if hh : h < N then g ⟨h, hh⟩ else 0

theorem upTo_zero {N : ℕ} (g : Fin N → EReal) : upTo g 0 = 0 := rfl

theorem upTo_all {N : ℕ} (g : Fin N → EReal) : upTo g N = ∑ h, g h := by
  unfold upTo
  rw [Finset.sum_range]
  exact Finset.sum_congr rfl fun h _ => dif_pos h.isLt

/-- One more block of `B` terms. -/
theorem upTo_add {N : ℕ} (g : Fin N → EReal) (n B : ℕ) (h : n + B ≤ N) :
    upTo g (n + B) = upTo g n + ∑ j : Fin B, g ⟨n + j.val, by have := j.isLt; omega⟩ := by
  unfold upTo
  rw [Finset.sum_range_add, Finset.sum_range (n := B)]
  refine congrArg (_ + ·) (Finset.sum_congr rfl fun j _ => ?_)
  exact dif_pos (by have := j.isLt; omega)

end Cert.Ffn

end
-- ==== Proof.Grouped.Part.lean ====
/-
  What the call's body computes from its blocks, read at an index, over the extended reals.
-/
module

public import proofs.«01_k».proof.Proof.Gen.KernelIdeal.Skeleton
public import proofs.«01_k».proof.Proof.Ffn
public import Idealize.ShloMosaic.Lib.MatmulPlain
public import Idealize.ShloMosaic.Lib.ValueIdx
public import Idealize.ShloMosaic.Lib.ValueLayout
public import Idealize.ShloMosaic.Lib.IdealHost
public import Idealize.ShloMosaic.Lib.Pipeline.Value

@[expose] public section

set_option maxRecDepth 16384

noncomputable section

namespace Cert.KernelIdeal.Grouped

open Idealize.ShloMosaic Idealize.ShloMosaic.ValueIdx
open Cert.KernelIdeal.Gen Cert.Ffn
open scoped BigOperators

/-- The exponential at an index. -/
theorem exp_at {s : Shape} {φ : FTy} (v : FVec Ideal s φ) (i : s.Idx) : exp v i = Ideal.exp (v i) := rfl

/-- One block's product at row `i` and column `j`: the block's 512 hidden units of the row's token against the column. -/
theorem part_apply (x : Vec Ideal S512x1024 .bf16) (a b : Vec Ideal S1x1024x512 .bf16) (w : Vec Ideal S1x512x1024 .bf16)
    (i : Fin 512) (j : Fin 1024) :
    k0_pay1 (F := Ideal) x a b w (ix2 i j)
      = ∑ h : Fin 512, hidden (fun k : Fin 1024 => x (ix2 i k)) (fun k => a (ix3 0 k h)) (fun k => b (ix3 0 k h)) * w (ix3 0 h j) := by
  unfold k0_pay1
  have proj : ∀ (v : Vec Ideal S1x1024x512 .bf16) (h : Fin 512),
      matmul (F := Ideal) dot_S512x1024_S1024x512_S512x512_1_0_0_1_n_n none x (shapeCast S1024x512 v shapeCasts_S1x1024x512_S1024x512 : FVec Ideal S1024x512 .bf16)
        (constant S512x512 .f32 0x00000000#32) (ix2 i h) = ∑ k : Fin 1024, x (ix2 i k) * v (ix3 0 k h) := fun v h => by
    refine (Ideal.matmul_plain_apply (M := 512) (K := 1024) (N := 512) none x _ _ i h).trans ?_
    rw [constant_apply, Ideal.ofBits_zero_f32, zero_add]
    exact Finset.sum_congr rfl fun k _ => congrArg (x (ix2 i k) * ·) (shapeCast_1ab_ab_apply v _ k h)
  refine (Ideal.matmul_plain_apply (M := 512) (K := 512) (N := 1024) none _ _ _ i j).trans ?_
  rw [constant_apply, Ideal.ofBits_zero_f32, zero_add]
  refine Finset.sum_congr rfl fun h _ => congrArg₂ (· * ·) ?_ (shapeCast_1ab_ab_apply w _ h j)
  refine (congrArg₂ (fun p q : EReal => p * Ideal.div (Ideal.ofBits .f32 0x3F800000#32)
    (Ideal.ofBits .f32 0x3F800000#32 + Ideal.exp (Ideal.ofBits .f32 0x00000000#32 - p)) * q) (proj a h) (proj b h)).trans ?_
  simp only [Ideal.ofBits_one_f32, Ideal.ofBits_zero_f32, zero_sub]
  rfl

end Cert.KernelIdeal.Grouped

end
-- ==== Proof.Grouped.Value.lean ====
/-
  What the grouped expert call leaves in its result: row by row the gated feed-forward of the row's token through the
  expert of the row's tile, or zeros in a tile not in use.
-/
module

public import proofs.«01_k».proof.Proof.Grouped.Blocks
public import proofs.«01_k».proof.Proof.Grouped.Part
public import Idealize.ShloMosaic.Lib.Pipeline.ValueKit.Geometry

@[expose] public section

set_option maxRecDepth 16384

noncomputable section

namespace Cert.KernelIdeal.Grouped

open Idealize.ShloMosaic Idealize.ShloMosaic.TcCoe Idealize.ShloMosaic.ValueIdx
open Idealize.ShloMosaic.Pipeline (Dat)
open Cert.KernelIdeal.Gen Cert.Ffn
open scoped BigOperators

variable (m : (ℓ : Loc nD τ sig) → Buf (Elt Ideal) ℓ)

/-- Hidden unit `h` of row `r`'s token through expert `e`, against output coordinate `j`. -/
def term (c : Dev nD) (r : Fin 70144) (e : Fin 8) (j : Fin 1024) (h : Fin 3584) : EReal :=
  hidden (fun k : Fin 1024 => tokens m c (ix2 r k)) (fun k => up m c (ix3 e k h)) (fun k => side m c (ix3 e k h))
    * down m c (ix3 e h j)

variable (hO : Fits m) (c : Dev nD)

/-- The array's row that row `i` of a point's block is. -/
abbrev rowOf (t : Fin (cfgAt m hO).N) (i : Fin 512) : Fin 70144 := ⟨512 * (t.val / 7) + i.val, row_lt m hO t i⟩

/-- One point's product: its 512 hidden units' terms. -/
theorem part_at (hR : InRange m) (t : Fin (cfgAt m hO).N) (hu : UsedTile m (t.val / 7)) (i : Fin 512) (j : Fin 1024) :
    k0_pay1 (F := Ideal) (blk_x m hO c t) (blk_w1 m hO c t) (blk_w3 m hO c t) (blk_w2 m hO c t) (ix2 i j)
      = ∑ h : Fin 512, term m c (rowOf m hO t i) (expertOf m hO t hR) j (unitOf m hO t h) := by
  refine (part_apply _ _ _ _ i j).trans (Finset.sum_congr rfl fun h _ => ?_)
  unfold term
  refine congrArg₂ (· * ·) ?_ (blk_w2_apply m hO c t hR hu h j)
  have e1 : (fun k : Fin 1024 => blk_x m hO c t (ix2 i k)) = fun k => tokens m c (ix2 (rowOf m hO t i) k) :=
    funext fun k => blk_x_apply m hO c t i k
  have e2 : (fun k : Fin 1024 => blk_w1 m hO c t (ix3 0 k h)) = fun k => up m c (ix3 (expertOf m hO t hR) k (unitOf m hO t h)) :=
    funext fun k => blk_w1_apply m hO c t hR hu k h
  have e3 : (fun k : Fin 1024 => blk_w3 m hO c t (ix3 0 k h)) = fun k => side m c (ix3 (expertOf m hO t hR) k (unitOf m hO t h)) :=
    funext fun k => blk_w3_apply m hO c t hR hu k h
  exact (congrArg (fun f => hidden f _ _) e1).trans ((congrArg (fun f => hidden _ f _) e2).trans (congrArg (fun f => hidden _ _ f) e3))

theorem pay2_at (x : Vec Ideal S512x1024 .bf16) (a b : Vec Ideal S1x1024x512 .bf16) (w : Vec Ideal S1x512x1024 .bf16) (y) :
    k0_pay2 (F := Ideal) x a b w y = k0_pay1 (F := Ideal) x a b w y :=
  shapeCast_apply (k0_pay1 (F := Ideal) x a b w : FVec Ideal S512x1024 .f32) shapeCasts_S512x1024_S512x1024 y y rfl

theorem pay3_at (x : Vec Ideal S512x1024 .bf16) (a b : Vec Ideal S1x1024x512 .bf16) (w : Vec Ideal S1x512x1024 .bf16)
    (s : Vec Ideal S512x1024 .f32) (y) :
    k0_pay3 (F := Ideal) x a b w s y = s y + k0_pay1 (F := Ideal) x a b w y :=
  shapeCast_apply (addf s (k0_pay1 (F := Ideal) x a b w) : FVec Ideal S512x1024 .f32) shapeCasts_S512x1024_S512x1024 y y rfl

theorem pay4_at (s : Vec Ideal S512x1024 .f32) (g : Vec Ideal S512x1 .f32) (i : Fin 512) (j : Fin 1024) :
    k0_pay4 (F := Ideal) s g (ix2 i j) = s (ix2 i j) * g (ix2 i 0) := by
  refine congrArg (s (ix2 i j) * ·) ?_
  refine (broadcastTo_apply _ _ (ix2 i j) (ix2 i 0) fun a => ?_).trans (shapeCast_apply _ _ _ _ rfl)
  match a with
  | ⟨0, _⟩ => rfl
  | ⟨1, _⟩ => rfl

theorem pay5_at (y) : k0_pay5 (F := Ideal) y = 0 := Ideal.ofBits_zero_bf16

/-- After point `t` of a tile in use the running sum holds the terms of the hidden blocks up to `t`'s. -/
theorem runningSum_at (hR : InRange m) (f : ℕ) : ∀ (t : Fin (cfgAt m hO).N), t.val % 7 = f → UsedTile m (t.val / 7) →
    ∀ (i : Fin 512) (j : Fin 1024), runningSum m hO c t.val t.isLt (ix2 i j)
      = upTo (term m c (rowOf m hO t i) (expertOf m hO t hR) j) (512 * f + 512) := by
  induction f with
  | zero =>
    intro t ht hu i j
    rw [runningSum_first m hO c t ht, pay2_at, part_at m hO c hR t hu, upTo_add _ _ _ (by omega), upTo_zero, zero_add]
    refine Finset.sum_congr rfl fun h _ => congrArg _ (Fin.ext ?_)
    show 512 * (t.val % 7) + h.val = 512 * 0 + h.val
    omega
  | succ f ih =>
    intro t ht hu i j
    have hlt : t.val - 1 < (cfgAt m hO).N := by have := t.isLt; omega
    have hd : (t.val - 1) / 7 = t.val / 7 := by omega
    have prev := ih ⟨t.val - 1, hlt⟩ (by show (t.val - 1) % 7 = f; omega) (by rw [hd]; exact hu) i j
    have er : rowOf m hO ⟨t.val - 1, hlt⟩ i = rowOf m hO t i := Fin.ext (by show 512 * ((t.val - 1) / 7) + i.val = 512 * (t.val / 7) + i.val; omega)
    have ee : expertOf m hO ⟨t.val - 1, hlt⟩ hR = expertOf m hO t hR :=
      Fin.ext (congrArg (fun k => (expertWord m k).toNat) (Fin.ext hd : (⟨(t.val - 1) / 7, _⟩ : Fin 137) = ⟨t.val / 7, _⟩))
    rw [er, ee] at prev
    rw [runningSum_later m hO c t (by omega), pay3_at, part_at m hO c hR t hu, show 512 * (f + 1) + 512 = (512 * f + 512) + 512 by ring,
      upTo_add _ _ _ (by have := Nat.mod_lt t.val (show 0 < 7 by decide); omega)]
    refine congrArg₂ (· + ·) prev (Finset.sum_congr rfl fun h _ => congrArg _ (Fin.ext ?_))
    show 512 * (t.val % 7) + h.val = 512 * f + 512 + h.val
    omega

/-! ## The result array -/

theorem tileOf_lt (r : Fin 70144) : r.val / 512 < 137 := by have := r.isLt; omega
/-- The expert of row `r`'s tile. -/
def rowExpert (hR : InRange m) (r : Fin 70144) : Fin 8 := ⟨(expertWord m ⟨r.val / 512, tileOf_lt r⟩).toNat, hR _⟩

open Classical in
/-- What the call computes at row `r` and column `j`. -/
def valueAt (hR : InRange m) (r : Fin 70144) (j : Fin 1024) : EReal :=
  if UsedTile m (r.val / 512) then (∑ h, term m c r (rowExpert m hR r) j h) * gates m c (ix1 r) else 0

def result (hR : InRange m) : S70144x1024.Idx → EReal := fun x => valueAt m c hR (x 0) (x 1)

/-- The output block of a tile's last point. -/
theorem outBlock_at (hR : InRange m) (t : Fin (cfgAt m hO).N) (h6 : t.val % 7 = 6) (i : Fin 512) (j : Fin 1024) :
    outBlock m hO c t (ix2 i j) = valueAt m c hR (rowOf m hO t i) j := by
  have ht : (rowOf m hO t i).val / 512 = t.val / 7 := by
    show (512 * (t.val / 7) + i.val) / 512 = t.val / 7
    have := i.isLt; omega
  unfold outBlock valueAt
  rw [ht]
  by_cases hu : UsedTile m (t.val / 7)
  · rw [if_pos hu, if_pos hu, pay4_at, blk_g_apply, runningSum_at m hO c hR 6 t h6 hu i j]
    have ee : expertOf m hO t hR = rowExpert m hR (rowOf m hO t i) :=
      Fin.ext (congrArg (fun k => (expertWord m k).toNat) (Fin.ext ht.symm : (⟨t.val / 7, _⟩ : Fin 137) = ⟨(rowOf m hO t i).val / 512, _⟩))
    rw [ee, show 512 * 6 + 512 = 3584 from rfl, upTo_all]
  · rw [if_neg hu, if_neg hu, pay5_at]

/-- Where an entry of the block a point writes back goes. -/
theorem place_y (t : Fin (cfgAt m hO).N) (i : Fin 512) (j : Fin 1024) :
    (((cfgAt m hO).win 5).blk t).view.emb (ix2 i j) = (ix2 (rowOf m hO t i) j : S70144x1024.Idx) := by
  have h0 : (BitVec.ofNat 32 (grid0.coords t 0).val).toNat = t.val / 7 := by
    have := coord0 t; have := t.isLt; have h := points m hO; rw [BitVec.toNat_ofNat]; omega
  funext a
  apply Fin.ext
  match a with
  | ⟨0, _⟩ => show (BitVec.ofNat 32 (grid0.coords t 0).val).toNat * 512 + 1 * i.val = 512 * (t.val / 7) + i.val; rw [h0]; omega
  | ⟨1, _⟩ => show 0 * 1024 + 1 * j.val = j.val; omega

theorem pair_of_block (y : S512x1024.Idx) : ∃ (i : Fin 512) (j : Fin 1024), y = ix2 i j := ⟨y 0, y 1, eq_ix2 y⟩
theorem pair_of_array (y : S70144x1024.Idx) : ∃ (i : Fin 70144) (j : Fin 1024), y = ix2 i j := ⟨y 0, y 1, eq_ix2 y⟩

/-- The result array after the run. -/
theorem final (hR : InRange m) : (dats m hO 0 c).arrAt 5 (cfgAt m hO).N = result m c hR := by
  refine (dats m hO 0 c).arrAt_eq_of_cover 5 (result m c hR) (fun t hf => ?_) (fun x => ?_)
  · have h6 := (flush_y m hO t).mp hf
    show ((cfgAt m hO).win 5).cut (grid0.coords t) ((dats m hO 0 c).after 5 t) = _
    rw [after_y]
    funext y
    obtain ⟨i, j, rfl⟩ := pair_of_block y
    refine (outBlock_at m hO c hR t h6 i j).trans ?_
    exact (congrArg (result m c hR) (place_y m hO t i j)).symm
  · obtain ⟨r, j, rfl⟩ := pair_of_array x
    have hr := r.isLt
    have hN := points m hO
    have ht : 7 * (r.val / 512) + 6 < (cfgAt m hO).N := by omega
    refine ⟨⟨7 * (r.val / 512) + 6, ht⟩, (flush_y m hO _).mpr (by show (7 * (r.val / 512) + 6) % 7 = 6; omega), ?_⟩
    have e : (((cfgAt m hO).win 5).blk ⟨7 * (r.val / 512) + 6, ht⟩).view.emb (ix2 (⟨r.val % 512, Nat.mod_lt _ (by decide)⟩ : Fin 512) j) = (ix2 r j : S70144x1024.Idx) := by
      rw [place_y]
      refine congrArg (fun q => (ix2 q j : S70144x1024.Idx)) (Fin.ext ?_)
      show 512 * ((7 * (r.val / 512) + 6) / 7) + r.val % 512 = r.val
      omega
    exact e ▸ View.emb_mem_set _ _

end Cert.KernelIdeal.Grouped

end
-- ==== Proof.Reference.Parts.lean ====
/-
  The operations of the dense reference read at an index, over the extended reals: one expert's feed-forward of a row,
  the tile of a row, and the gate the row has for an expert.
-/
module

public import proofs.«01_k».proof.Proof.Gen.ReferenceIdeal
public import proofs.«01_k».proof.Proof.Ffn
public import Idealize.ShloMosaic.Lib.ValueIdx
public import Idealize.ShloMosaic.Lib.ValueLayout
public import Idealize.ShloMosaic.Lib.IdealHost
public import Idealize.ShloMosaic.Lib.StackMember
public import Idealize.ShloMosaic.Lib.Pipeline.Value
public import Idealize.ShloMosaic.Lib.Routing.Words

@[expose] public section

set_option maxRecDepth 16384

noncomputable section

namespace Cert.ReferenceIdeal.Dense

open Idealize.ShloMosaic Idealize.ShloMosaic.ValueIdx
open Cert.ReferenceIdeal Cert.ReferenceIdeal.Gen Cert.Ffn
open scoped BigOperators

/-- An expert's matrix out of the stack of projections in. -/
theorem weight_in (w : FVec Ideal S8x1024x3584 .f32) (e : ℕ) (he : e < 8) (hs : S8x1024x3584.Slices ![e, 0, 0] S1x1024x3584)
    (hc : S1x1024x3584.ShapeCasts S1024x3584) (k : Fin 1024) (h : Fin 3584) :
    shapeCast S1024x3584 (extractStridedSlice S1x1024x3584 ![e, 0, 0] w hs) hc (ix2 k h) = w (ix3 ⟨e, he⟩ k h) := by
  refine (shapeCast_1ab_ab_apply (extractStridedSlice S1x1024x3584 ![e, 0, 0] w hs) hc k h).trans ?_
  refine extractStridedSlice_apply _ w hs (ix3 0 k h) (ix3 ⟨e, he⟩ k h) fun a => ?_
  match a with
  | ⟨0, _⟩ => rfl
  | ⟨1, _⟩ => exact (Nat.zero_add _).symm
  | ⟨2, _⟩ => exact (Nat.zero_add _).symm

/-- An expert's matrix out of the stack of projections out. -/
theorem weight_out (w : FVec Ideal S8x3584x1024 .f32) (e : ℕ) (he : e < 8) (hs : S8x3584x1024.Slices ![e, 0, 0] S1x3584x1024)
    (hc : S1x3584x1024.ShapeCasts S3584x1024) (h : Fin 3584) (j : Fin 1024) :
    shapeCast S3584x1024 (extractStridedSlice S1x3584x1024 ![e, 0, 0] w hs) hc (ix2 h j) = w (ix3 ⟨e, he⟩ h j) := by
  refine (shapeCast_1ab_ab_apply (extractStridedSlice S1x3584x1024 ![e, 0, 0] w hs) hc h j).trans ?_
  refine extractStridedSlice_apply _ w hs (ix3 0 h j) (ix3 ⟨e, he⟩ h j) fun a => ?_
  match a with
  | ⟨0, _⟩ => rfl
  | ⟨1, _⟩ => exact (Nat.zero_add _).symm
  | ⟨2, _⟩ => exact (Nat.zero_add _).symm

/-- A projection of the rows. -/
abbrev proj (X : FVec Ideal S70144x1024 .f32) (A : FVec Ideal S1024x3584 .f32) : FVec Ideal S70144x3584 .f32 :=
  Host.dotGeneral dot_S70144x1024_S1024x3584_S70144x3584_1_0_0_1_n_n none X A

theorem proj_at (X : FVec Ideal S70144x1024 .f32) (A : FVec Ideal S1024x3584 .f32) (r : Fin 70144) (h : Fin 3584) :
    proj X A (ix2 r h) = ∑ k : Fin 1024, X (ix2 r k) * A (ix2 k h) :=
  StackMember.dotGeneral_plain_apply (m := 70144) (k := 1024) (n := 3584) none X A r h

/-- The ones the reference divides and adds. -/
abbrev ones : FVec Ideal S70144x3584 .f32 := broadcastInDim S70144x3584 ![] bcast_S_S70144x3584 (constant (F := Ideal) S_ .f32 0x3F800000#32)

theorem ones_at (i : S70144x3584.Idx) : ones i = 1 :=
  (broadcastInDim_scalar_apply bcast_S_S70144x3584 (constant (F := Ideal) S_ .f32 0x3F800000#32) i).trans Ideal.ofBits_one_f32

/-- One expert's feed-forward of all the rows. -/
abbrev forward (X : FVec Ideal S70144x1024 .f32) (A B : FVec Ideal S1024x3584 .f32) (W : FVec Ideal S3584x1024 .f32) :
    FVec Ideal S70144x1024 .f32 :=
  Host.dotGeneral dot_S70144x3584_S3584x1024_S70144x1024_1_0_0_1_n_n none
    (mulf (mulf (proj X A) (Host.divf ones (addf ones (Host.exp (Host.negf (proj X A)))))) (proj X B)) W

theorem forward_at (X : FVec Ideal S70144x1024 .f32) (A B : FVec Ideal S1024x3584 .f32) (W : FVec Ideal S3584x1024 .f32)
    (r : Fin 70144) (j : Fin 1024) :
    forward X A B W (ix2 r j)
      = ∑ h : Fin 3584, hidden (fun k : Fin 1024 => X (ix2 r k)) (fun k => A (ix2 k h)) (fun k => B (ix2 k h)) * W (ix2 h j) := by
  refine (StackMember.dotGeneral_plain_apply (m := 70144) (k := 3584) (n := 1024) none _ W r j).trans ?_
  refine Finset.sum_congr rfl fun h _ => congrArg (· * W (ix2 h j)) ?_
  refine (congrArg₂ (fun p q : EReal => p * Ideal.div (ones (ix2 r h)) (ones (ix2 r h) + Ideal.exp (-p)) * q)
    (proj_at X A r h) (proj_at X B r h)).trans ?_
  rw [ones_at]
  rfl

/-- The gate column of expert `e`, at every output coordinate. -/
theorem column_at (M : FVec Ideal S70144x8 .f32) (e : ℕ) (he : e < 8) (hs : S70144x8.Slices ![0, e] S70144x1)
    (r : Fin 70144) (j : Fin 1024) :
    broadcastInDim S70144x1024 ![0, 1] bcast_S70144x1_S70144x1024_0_1 (extractStridedSlice S70144x1 ![0, e] M hs) (ix2 r j)
      = M (ix2 r ⟨e, he⟩) := by
  refine (broadcastInDim_apply (t := S70144x1024) ![0, 1] bcast_S70144x1_S70144x1024_0_1
    (extractStridedSlice S70144x1 ![0, e] M hs) (ix2 r j) (ix2 r (0 : Fin 1)) fun a => ?_).trans ?_
  · match a with
    | ⟨0, _⟩ => rfl
    | ⟨1, _⟩ => rfl
  · exact slice2_axis1_apply e M hs r 0 ⟨e, he⟩ rfl

/-- One expert's share of all the rows. -/
abbrev share (M : FVec Ideal S70144x8 .f32) (X : FVec Ideal S70144x1024 .f32) (w1 w3 : FVec Ideal S8x1024x3584 .f32)
    (w2 : FVec Ideal S8x3584x1024 .f32) (e : ℕ) (h0 : S70144x8.Slices ![0, e] S70144x1)
    (h1 : S8x1024x3584.Slices ![e, 0, 0] S1x1024x3584) (h2 : S8x3584x1024.Slices ![e, 0, 0] S1x3584x1024) : FVec Ideal S70144x1024 .f32 :=
  mulf (broadcastInDim S70144x1024 ![0, 1] bcast_S70144x1_S70144x1024_0_1 (extractStridedSlice S70144x1 ![0, e] M h0))
    (forward X (shapeCast _ (extractStridedSlice S1x1024x3584 ![e, 0, 0] w1 h1) shapeCasts_S1x1024x3584_S1024x3584)
      (shapeCast _ (extractStridedSlice S1x1024x3584 ![e, 0, 0] w3 h1) shapeCasts_S1x1024x3584_S1024x3584)
      (shapeCast _ (extractStridedSlice S1x3584x1024 ![e, 0, 0] w2 h2) shapeCasts_S1x3584x1024_S3584x1024))

theorem share_at (M : FVec Ideal S70144x8 .f32) (X : FVec Ideal S70144x1024 .f32) (w1 w3 : FVec Ideal S8x1024x3584 .f32)
    (w2 : FVec Ideal S8x3584x1024 .f32) (e : ℕ) (he : e < 8) (h0) (h1) (h2) (r : Fin 70144) (j : Fin 1024) :
    share M X w1 w3 w2 e h0 h1 h2 (ix2 r j)
      = M (ix2 r ⟨e, he⟩) * ∑ h : Fin 3584, hidden (fun k : Fin 1024 => X (ix2 r k)) (fun k => w1 (ix3 ⟨e, he⟩ k h))
          (fun k => w3 (ix3 ⟨e, he⟩ k h)) * w2 (ix3 ⟨e, he⟩ h j) := by
  refine congrArg₂ (fun p q : EReal => p * q) (column_at M e he h0 r j) ((forward_at X _ _ _ r j).trans ?_)
  refine Finset.sum_congr rfl fun h _ => congrArg₂ (fun p q : EReal => p * q) ?_ (weight_out w2 e he h2 _ h j)
  have e1 : (fun k : Fin 1024 => shapeCast S1024x3584 (extractStridedSlice S1x1024x3584 ![e, 0, 0] w1 h1) shapeCasts_S1x1024x3584_S1024x3584 (ix2 k h))
      = fun k => w1 (ix3 ⟨e, he⟩ k h) := funext fun k => weight_in w1 e he h1 _ k h
  have e3 : (fun k : Fin 1024 => shapeCast S1024x3584 (extractStridedSlice S1x1024x3584 ![e, 0, 0] w3 h1) shapeCasts_S1x1024x3584_S1024x3584 (ix2 k h))
      = fun k => w3 (ix3 ⟨e, he⟩ k h) := funext fun k => weight_in w3 e he h1 _ k h
  exact (congrArg (fun f => hidden (fun k : Fin 1024 => X (ix2 r k)) f _) e1).trans (congrArg (fun f => hidden (fun k : Fin 1024 => X (ix2 r k)) _ f) e3)

/-- The sign of a word. -/
abbrev signOf (x : BitVec 32) : BitVec 32 := if x = 0 then 0 else if x.msb then -1 else 1

theorem signOf_pos {r : ℕ} (h0 : 0 < r) (hr : r < 2 ^ 31) : signOf (BitVec.ofNat 32 r) = 1 := by
  have hn : BitVec.ofNat 32 r ≠ 0 := fun h => by
    have := congrArg BitVec.toNat h
    rw [BitVec.toNat_ofNat, Nat.mod_eq_of_lt (by omega)] at this
    exact absurd this (by simp; omega)
  have hm : (BitVec.ofNat 32 r).msb = false := by
    rw [BitVec.msb_eq_decide, BitVec.toNat_ofNat, Nat.mod_eq_of_lt (by omega)]
    exact decide_eq_false (by omega)
  unfold signOf
  rw [if_neg hn, hm]
  rfl

/-- Division rounding down, as the host writes it: truncate, and take one away where the signs differ and there is a
    remainder. On a row number over 512 it is the row's tile. -/
theorem floor_word (r : ℕ) (hr : r < 2 ^ 31) :
    Scalar.select (IntOp.andi (IntOp.cmpi .ne (signOf (BitVec.ofNat 32 r)) (signOf 512#32))
        (IntOp.cmpi .ne (IntOp.remsi .host (BitVec.ofNat 32 r) 512#32) 0#32))
      (IntOp.subi (IntOp.divsi .host (BitVec.ofNat 32 r) 512#32) 1#32) (IntOp.divsi .host (BitVec.ofNat 32 r) 512#32)
      = BitVec.ofNat 32 (r / 512) := by
  have hd : IntOp.divsi .host (BitVec.ofNat 32 r) 512#32 = BitVec.ofNat 32 (r / 512) := Routing.divsi_word .host hr (by decide) (by decide)
  have hm : IntOp.remsi .host (BitVec.ofNat 32 r) 512#32 = BitVec.ofNat 32 (r % 512) := Routing.remsi_word .host hr (by decide) (by decide)
  rw [hd, hm]
  rcases Nat.eq_zero_or_pos r with h0 | h0
  · subst h0; decide
  · rw [signOf_pos h0 hr]
    have h1 : IntOp.cmpi .ne (1 : BitVec 32) (signOf 512#32) = 0#1 := by decide
    rw [h1]
    have h2 : ∀ x : BitVec 1, IntOp.andi 0#1 x = 0#1 := by decide
    rw [h2]
    rfl

end Cert.ReferenceIdeal.Dense

end
-- ==== Proof.Reference.Value.lean ====
/-
  What the dense reference computes, read at a row and an output coordinate: the sum over the experts of the row's gate
  for the expert times the expert's feed-forward of the row.
-/
module

public import proofs.«01_k».proof.Proof.Reference.Parts
public import proofs.«01_k».proof.Proof.Gen.ReferenceIdeal.Run

@[expose] public section

set_option maxRecDepth 16384

noncomputable section

namespace Cert.ReferenceIdeal.Dense

open Idealize.ShloMosaic Idealize.ShloMosaic.TcCoe Idealize.ShloMosaic.ValueIdx Idealize.ShloMosaic.StableHlo
open Cert.ReferenceIdeal Cert.ReferenceIdeal.Gen Cert.ReferenceIdeal.Value Cert.Ffn
open scoped BigOperators

/-- A vector over the rows, spread over the experts. -/
theorem over_experts {α : Type} (x : S70144.Idx → α) (r : Fin 70144) (e : Fin 8) :
    broadcastInDim S70144x8 ![0, 1] bcast_S70144x1_S70144x8_0_1 (broadcastInDim S70144x1 ![0] bcast_S70144_S70144x1_0 x) (ix2 r e) = x (ix1 r) := by
  refine (broadcastInDim_apply (t := S70144x8) ![0, 1] bcast_S70144x1_S70144x8_0_1
    (broadcastInDim S70144x1 ![0] bcast_S70144_S70144x1_0 x) (ix2 r e) (ix2 r (0 : Fin 1)) fun a => ?_).trans ?_
  · match a with
    | ⟨0, _⟩ => rfl
    | ⟨1, _⟩ => rfl
  · refine broadcastInDim_apply (t := S70144x1) ![0] bcast_S70144_S70144x1_0 x (ix2 r (0 : Fin 1)) (ix1 r) fun a => ?_
    match a with
    | ⟨0, _⟩ => rfl

/-- A vector over the experts, spread over the rows. -/
theorem over_rows {α : Type} (x : S8.Idx → α) (r : Fin 70144) (e : Fin 8) :
    broadcastInDim S70144x8 ![0, 1] bcast_S1x8_S70144x8_0_1 (broadcastInDim S1x8 ![1] bcast_S8_S1x8_1 x) (ix2 r e) = x (ix1 e) := by
  refine (broadcastInDim_apply (t := S70144x8) ![0, 1] bcast_S1x8_S70144x8_0_1
    (broadcastInDim S1x8 ![1] bcast_S8_S1x8_1 x) (ix2 r e) (ix2 (0 : Fin 1) e) fun a => ?_).trans ?_
  · match a with
    | ⟨0, _⟩ => rfl
    | ⟨1, _⟩ => rfl
  · refine broadcastInDim_apply (t := S1x8) ![1] bcast_S8_S1x8_1 x (ix2 (0 : Fin 1) e) (ix1 e) fun a => ?_
    match a with
    | ⟨0, _⟩ => rfl

theorem tile_lt (r : Fin 70144) : r.val / 512 < 137 := by have := r.isLt; omega

/-- A table over the tiles, repeated over each tile's rows. -/
theorem repeated {α : Type} (x : S137.Idx → α) (r : Fin 70144) :
    shapeCast S70144 (broadcastInDim S137x512 ![0] bcast_S137_S137x512_0 x) shapeCasts_S137x512_S70144 (ix1 r)
      = x (ix1 ⟨r.val / 512, tile_lt r⟩) := by
  refine (shapeCast_apply (broadcastInDim S137x512 ![0] bcast_S137_S137x512_0 x) shapeCasts_S137x512_S70144 (ix1 r)
    (ix2 (⟨r.val / 512, tile_lt r⟩ : Fin 137) (⟨r.val % 512, Nat.mod_lt _ (by decide)⟩ : Fin 512)) ?_).trans ?_
  · rw [Shape.rowMajor_val_two, Shape.rowMajor_val_one]
    show r.val / 512 * 512 + r.val % 512 = r.val
    omega
  · refine broadcastInDim_apply (t := S137x512) ![0] bcast_S137_S137x512_0 x _ (ix1 (⟨r.val / 512, tile_lt r⟩ : Fin 137)) fun a => ?_
    match a with
    | ⟨0, _⟩ => rfl

/-- The tile of every row, as the reference divides it out. -/
abbrev tiles : IVec S70144 32 :=
  select (andi (cmpi .ne (signi (iotaInDim S70144 32 0)) (broadcastInDim S70144 ![] bcast_S_S70144 (signi (id (constantI S_ 32 512#32)))))
      (cmpi .ne (Host.remsi (iotaInDim S70144 32 0) (broadcastInDim S70144 ![] bcast_S_S70144 (id (constantI S_ 32 512#32))))
        (broadcastInDim S70144 ![] bcast_S_S70144 (constantI S_ 32 0#32))))
    (subi (Host.divsi (iotaInDim S70144 32 0) (broadcastInDim S70144 ![] bcast_S_S70144 (id (constantI S_ 32 512#32))))
      (broadcastInDim S70144 ![] bcast_S_S70144 (constantI S_ 32 1#32)))
    (Host.divsi (iotaInDim S70144 32 0) (broadcastInDim S70144 ![] bcast_S_S70144 (id (constantI S_ 32 512#32))))

theorem tiles_at (r : Fin 70144) : tiles (ix1 r) = BitVec.ofNat 32 (r.val / 512) := by
  refine Eq.trans ?_ (floor_word r.val (by have := r.isLt; omega))
  have h5 := broadcastInDim_scalar_apply bcast_S_S70144 (id (constantI S_ 32 512#32)) (ix1 r)
  have hs := broadcastInDim_scalar_apply bcast_S_S70144 (signi (id (constantI S_ 32 512#32))) (ix1 r)
  have h0 := broadcastInDim_scalar_apply bcast_S_S70144 (constantI S_ 32 0#32) (ix1 r)
  have h1 := broadcastInDim_scalar_apply bcast_S_S70144 (constantI S_ 32 1#32) (ix1 r)
  show Scalar.select (IntOp.andi (IntOp.cmpi .ne (signOf (BitVec.ofNat 32 r.val)) (broadcastInDim S70144 ![] bcast_S_S70144 (signi (id (constantI S_ 32 512#32))) (ix1 r)))
      (IntOp.cmpi .ne (IntOp.remsi .host (BitVec.ofNat 32 r.val) (broadcastInDim S70144 ![] bcast_S_S70144 (id (constantI S_ 32 512#32)) (ix1 r)))
        (broadcastInDim S70144 ![] bcast_S_S70144 (constantI S_ 32 0#32) (ix1 r))))
    (IntOp.subi (IntOp.divsi .host (BitVec.ofNat 32 r.val) (broadcastInDim S70144 ![] bcast_S_S70144 (id (constantI S_ 32 512#32)) (ix1 r)))
      (broadcastInDim S70144 ![] bcast_S_S70144 (constantI S_ 32 1#32) (ix1 r)))
    (IntOp.divsi .host (BitVec.ofNat 32 r.val) (broadcastInDim S70144 ![] bcast_S_S70144 (id (constantI S_ 32 512#32)) (ix1 r))) = _
  rw [h5, hs, h0, h1]
  rfl

/-- The gates of the rows of the tiles in use, zero elsewhere. -/
abbrev live (n : IVec S_ 32) (g : FVec Ideal S70144 .f32) : FVec Ideal S70144 .f32 :=
  select (cmpi .slt tiles (broadcastInDim S70144 ![] bcast_S_S70144 n)) g
    (broadcastInDim S70144 ![] bcast_S_S70144 (id (constant (F := Ideal) S_ .f32 0x00000000#32)))

theorem live_at (n : IVec S_ 32) (g : FVec Ideal S70144 .f32) (r : Fin 70144) :
    live n g (ix1 r) = Scalar.select (IntOp.cmpi .slt (BitVec.ofNat 32 (r.val / 512)) (n ValueIdx.ix0)) (g (ix1 r)) 0 := by
  have hn := broadcastInDim_scalar_apply bcast_S_S70144 n (ix1 r)
  have hz := broadcastInDim_scalar_apply bcast_S_S70144 (id (constant (F := Ideal) S_ .f32 0x00000000#32)) (ix1 r)
  show Scalar.select (IntOp.cmpi .slt (tiles (ix1 r)) (broadcastInDim S70144 ![] bcast_S_S70144 n (ix1 r))) (g (ix1 r))
    (broadcastInDim S70144 ![] bcast_S_S70144 (id (constant (F := Ideal) S_ .f32 0x00000000#32)) (ix1 r)) = _
  rw [tiles_at, hn, hz]
  exact congrArg (Scalar.select _ _) Ideal.ofBits_zero_f32

/-- Every row's gate for every expert. -/
abbrev mask (tab : IVec S137 32) (n : IVec S_ 32) (g : FVec Ideal S70144 .f32) : FVec Ideal S70144x8 .f32 :=
  select (cmpi .eq (broadcastInDim S70144x8 ![0, 1] bcast_S70144x1_S70144x8_0_1 (broadcastInDim S70144x1 ![0] bcast_S70144_S70144x1_0
        (shapeCast S70144 (broadcastInDim S137x512 ![0] bcast_S137_S137x512_0 tab) shapeCasts_S137x512_S70144)))
      (broadcastInDim S70144x8 ![0, 1] bcast_S1x8_S70144x8_0_1 (broadcastInDim S1x8 ![1] bcast_S8_S1x8_1 (iotaInDim S8 32 0))))
    (broadcastInDim S70144x8 ![0, 1] bcast_S70144x1_S70144x8_0_1 (broadcastInDim S70144x1 ![0] bcast_S70144_S70144x1_0 (live n g)))
    (broadcastInDim S70144x8 ![] bcast_S_S70144x8 (id (constant (F := Ideal) S_ .f32 0x00000000#32)))

/-- A row's gate for an expert: its own gate where its tile is in use and is the expert's, else zero. -/
theorem mask_at (tab : IVec S137 32) (n : IVec S_ 32) (g : FVec Ideal S70144 .f32) (r : Fin 70144) (e : Fin 8) :
    mask tab n g (ix2 r e)
      = Scalar.select (IntOp.cmpi .eq (tab (ix1 ⟨r.val / 512, tile_lt r⟩)) (BitVec.ofNat 32 e.val))
          (Scalar.select (IntOp.cmpi .slt (BitVec.ofNat 32 (r.val / 512)) (n ValueIdx.ix0)) (g (ix1 r)) 0) 0 := by
  have ht := (over_experts (shapeCast S70144 (broadcastInDim S137x512 ![0] bcast_S137_S137x512_0 tab) shapeCasts_S137x512_S70144) r e).trans (repeated tab r)
  have hi := over_rows (iotaInDim S8 32 0) r e
  have hl := (over_experts (live n g) r e).trans (live_at n g r)
  have hz := broadcastInDim_scalar_apply bcast_S_S70144x8 (id (constant (F := Ideal) S_ .f32 0x00000000#32)) (ix2 r e)
  refine (congrArg₂ (fun p q => Scalar.select (IntOp.cmpi .eq p q) _ _) ht hi).trans ?_
  exact congrArg₂ (Scalar.select _) hl (hz.trans Ideal.ofBits_zero_f32)

/-- The sum of the eight experts' shares, from zero. -/
abbrev total (M : FVec Ideal S70144x8 .f32) (X : FVec Ideal S70144x1024 .f32) (w1 w3 : FVec Ideal S8x1024x3584 .f32)
    (w2 : FVec Ideal S8x3584x1024 .f32) : FVec Ideal S70144x1024 .f32 :=
  addf (addf (addf (addf (addf (addf (addf (addf
    (broadcastInDim S70144x1024 ![] bcast_S_S70144x1024 (constant (F := Ideal) S_ .f32 0x00000000#32))
    (share M X w1 w3 w2 0 slices_S70144x8_S70144x1_0_0 slices_S8x1024x3584_S1x1024x3584_0_0_0 slices_S8x3584x1024_S1x3584x1024_0_0_0))
    (share M X w1 w3 w2 1 slices_S70144x8_S70144x1_0_1 slices_S8x1024x3584_S1x1024x3584_1_0_0 slices_S8x3584x1024_S1x3584x1024_1_0_0))
    (share M X w1 w3 w2 2 slices_S70144x8_S70144x1_0_2 slices_S8x1024x3584_S1x1024x3584_2_0_0 slices_S8x3584x1024_S1x3584x1024_2_0_0))
    (share M X w1 w3 w2 3 slices_S70144x8_S70144x1_0_3 slices_S8x1024x3584_S1x1024x3584_3_0_0 slices_S8x3584x1024_S1x3584x1024_3_0_0))
    (share M X w1 w3 w2 4 slices_S70144x8_S70144x1_0_4 slices_S8x1024x3584_S1x1024x3584_4_0_0 slices_S8x3584x1024_S1x3584x1024_4_0_0))
    (share M X w1 w3 w2 5 slices_S70144x8_S70144x1_0_5 slices_S8x1024x3584_S1x1024x3584_5_0_0 slices_S8x3584x1024_S1x3584x1024_5_0_0))
    (share M X w1 w3 w2 6 slices_S70144x8_S70144x1_0_6 slices_S8x1024x3584_S1x1024x3584_6_0_0 slices_S8x3584x1024_S1x3584x1024_6_0_0))
    (share M X w1 w3 w2 7 slices_S70144x8_S70144x1_0_7 slices_S8x1024x3584_S1x1024x3584_7_0_0 slices_S8x3584x1024_S1x3584x1024_7_0_0)

theorem total_at (M : FVec Ideal S70144x8 .f32) (X : FVec Ideal S70144x1024 .f32) (w1 w3 : FVec Ideal S8x1024x3584 .f32)
    (w2 : FVec Ideal S8x3584x1024 .f32) (r : Fin 70144) (j : Fin 1024) :
    total M X w1 w3 w2 (ix2 r j)
      = ∑ e : Fin 8, M (ix2 r e) * ∑ h : Fin 3584, hidden (fun k : Fin 1024 => X (ix2 r k)) (fun k => w1 (ix3 e k h))
          (fun k => w3 (ix3 e k h)) * w2 (ix3 e h j) := by
  have hz := (broadcastInDim_scalar_apply bcast_S_S70144x1024 (constant (F := Ideal) S_ .f32 0x00000000#32) (ix2 r j)).trans Ideal.ofBits_zero_f32
  rw [Fin.sum_univ_eight, ← zero_add (_ * _ : EReal)]
  exact congrArg₂ (· + ·) (congrArg₂ (· + ·) (congrArg₂ (· + ·) (congrArg₂ (· + ·) (congrArg₂ (· + ·) (congrArg₂ (· + ·) (congrArg₂ (· + ·) (congrArg₂ (· + ·) hz
    (share_at M X w1 w3 w2 0 (by decide) _ _ _ r j)) (share_at M X w1 w3 w2 1 (by decide) _ _ _ r j))
    (share_at M X w1 w3 w2 2 (by decide) _ _ _ r j)) (share_at M X w1 w3 w2 3 (by decide) _ _ _ r j))
    (share_at M X w1 w3 w2 4 (by decide) _ _ _ r j)) (share_at M X w1 w3 w2 5 (by decide) _ _ _ r j))
    (share_at M X w1 w3 w2 6 (by decide) _ _ _ r j)) (share_at M X w1 w3 w2 7 (by decide) _ _ _ r j)

variable (m : (ℓ : Loc nD τ sig) → Buf (Elt Ideal) ℓ) (c : Dev nD)

/-- The reference's result, from its arguments. -/
abbrev outcome : FVec Ideal S70144x1024 .bf16 :=
  truncf .bf16 (total (mask (m ((c.tc : Thread nD τ).loc main_arg2)) (m ((c.tc : Thread nD τ).loc main_arg3)) (m ((c.tc : Thread nD τ).loc main_arg1)))
    (extf .f32 (m ((c.tc : Thread nD τ).loc main_arg0)) bitsLt_bf16_f32) (m ((c.tc : Thread nD τ).loc main_arg4))
    (m ((c.tc : Thread nD τ).loc main_arg5)) (m ((c.tc : Thread nD τ).loc main_arg6))) bitsLt_bf16_f32

/-- The reference's run: its result, its arguments unchanged. -/
theorem run_outcome (g : Dev nD → PrngReg) :
    θ_run defs (onTc (τ := τ) (main (F := Ideal))) ⟨m, fun _ => 0, g⟩ fun r => ∀ c : Dev nD,
      r.2.mem ((c.tc : Thread nD τ).loc main_v137) = outcome m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (by
    unfold res_main_v91 res_main_v24 res_main_v39 res_main_v54 res_main_v69 res_main_v84 res_main_v99 res_main_v114 res_main_v129 res_main_v15 res_main_v1 res_main_v0 res_main_call0_v0 res_main_call0_v2
    rfl), (h c).2⟩) (run m g)

/-- The arguments, as functions of their indices. -/
abbrev tokens : S70144x1024.Idx → EReal := m ((c.tc : Thread nD τ).loc main_arg0)
abbrev gates : S70144.Idx → EReal := m ((c.tc : Thread nD τ).loc main_arg1)
abbrev experts : S137.Idx → BitVec 32 := m ((c.tc : Thread nD τ).loc main_arg2)
abbrev count : S_.Idx → BitVec 32 := m ((c.tc : Thread nD τ).loc main_arg3)
abbrev up : S8x1024x3584.Idx → EReal := m ((c.tc : Thread nD τ).loc main_arg4)
abbrev side : S8x1024x3584.Idx → EReal := m ((c.tc : Thread nD τ).loc main_arg5)
abbrev down : S8x3584x1024.Idx → EReal := m ((c.tc : Thread nD τ).loc main_arg6)

/-- The reference's result at a row and an output coordinate. -/
theorem outcome_at (r : Fin 70144) (j : Fin 1024) :
    outcome m c (ix2 r j) = ∑ e : Fin 8,
      Scalar.select (IntOp.cmpi .eq (experts m c (ix1 ⟨r.val / 512, tile_lt r⟩)) (BitVec.ofNat 32 e.val))
          (Scalar.select (IntOp.cmpi .slt (BitVec.ofNat 32 (r.val / 512)) (count m c ValueIdx.ix0)) (gates m c (ix1 r)) 0) 0
        * ∑ h : Fin 3584, hidden (fun k : Fin 1024 => tokens m c (ix2 r k)) (fun k => up m c (ix3 e k h))
            (fun k => side m c (ix3 e k h)) * down m c (ix3 e h j) := by
  refine (total_at _ _ _ _ _ r j).trans (Finset.sum_congr rfl fun e _ => ?_)
  exact congrArg (fun p : EReal => p * _) (mask_at _ _ _ r e)

end Cert.ReferenceIdeal.Dense

end
-- ==== Proof.Equal.lean ====
/-
  The grouped expert call and the dense reference compute the same array from the same arguments: of the eight experts'
  shares of a row all but its tile's expert's are zero times something, and in a tile not in use all are.
-/
module

public import proofs.«01_k».proof.Proof.Grouped.Value
public import proofs.«01_k».proof.Proof.Reference.Value

@[expose] public section

set_option maxRecDepth 16384

noncomputable section

namespace Cert.Equal

open Idealize.ShloMosaic Idealize.ShloMosaic.ValueIdx
open Cert.Ffn
open scoped BigOperators

/-- A sum over experts of selected gates times shares: the share of the selected expert. -/
theorem sum_selected (w : BitVec 32) (hw : w.toNat < 8) (u : BitVec 1) (g : EReal) (s : Fin 8 → EReal) :
    ∑ e : Fin 8, Scalar.select (IntOp.cmpi .eq w (BitVec.ofNat 32 e.val)) (Scalar.select u g 0) 0 * s e
      = Scalar.select u (s ⟨w.toNat, hw⟩ * g) 0 := by
  have hself : IntOp.cmpi .eq w (BitVec.ofNat 32 w.toNat) = 1#1 := by
    rw [BitVec.ofNat_toNat, BitVec.setWidth_eq]
    simp [IntOp.cmpi]
  rw [Finset.sum_eq_single (⟨w.toNat, hw⟩ : Fin 8)]
  · rw [hself, select_one]
    rcases (by decide : ∀ u : BitVec 1, u = 0#1 ∨ u = 1#1) u with h | h
    · rw [h, select_zero, select_zero, zero_mul]
    · rw [h, select_one, select_one, mul_comm]
  · intro e _ he
    have hne : IntOp.cmpi .eq w (BitVec.ofNat 32 e.val) = 0#1 := by
      have h : w ≠ BitVec.ofNat 32 e.val := fun h => he (Fin.ext (by
        have := congrArg BitVec.toNat h
        rw [BitVec.toNat_ofNat, Nat.mod_eq_of_lt (by have := e.isLt; omega)] at this
        exact this.symm))
      unfold IntOp.cmpi
      rw [beq_eq_false_iff_ne.mpr h]
      rfl
    rw [hne, select_zero, zero_mul]
  · exact fun h => absurd (Finset.mem_univ _) h

open Cert.KernelIdeal.Grouped in
/-- The two programs' results, on launch memories whose arguments agree. -/
theorem equal (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hR : InRange m) (c : Dev Cert.KernelIdeal.nD)
    (h0 : Cert.ReferenceIdeal.Dense.tokens m' c = tokens m c) (h1 : Cert.ReferenceIdeal.Dense.gates m' c = gates m c)
    (h2 : Cert.ReferenceIdeal.Dense.experts m' c = experts m c) (h3 : Cert.ReferenceIdeal.Dense.count m' c = count m c)
    (h4 : Cert.ReferenceIdeal.Dense.up m' c = up m c) (h5 : Cert.ReferenceIdeal.Dense.side m' c = side m c)
    (h6 : Cert.ReferenceIdeal.Dense.down m' c = down m c) :
    (Cert.ReferenceIdeal.Dense.outcome m' c : Cert.KernelIdeal.S70144x1024.Idx → EReal) = result m c hR := by
  funext y
  obtain ⟨r, j, rfl⟩ := pair_of_array y
  refine (Cert.ReferenceIdeal.Dense.outcome_at m' c r j).trans ?_
  rw [h0, h1, h2, h3, h4, h5, h6]
  obtain rfl : c = 0 := Subsingleton.elim _ _
  have hw : experts m 0 (ix1 ⟨r.val / 512, Cert.ReferenceIdeal.Dense.tile_lt r⟩) = expertWord m ⟨r.val / 512, tileOf_lt r⟩ := by
    unfold expertWord
    rw [table_arg]
    refine congrArg (experts m 0) (funext fun a => ?_)
    match a with
    | ⟨0, _⟩ => rfl
  have hn : count m 0 ValueIdx.ix0 = usedWord (F := Ideal) (tables m 1) :=
    (entry_n m (ix1 (0 : Fin 1))).symm.trans (usedWord_eq (F := Ideal) (tables m 1) _)
  rw [hw, hn]
  refine (sum_selected _ (hR _) _ _ fun e => ∑ h : Fin 3584, term m 0 r e j h).trans ?_
  show _ = valueAt m 0 hR r j
  unfold valueAt UsedTile rowExpert
  by_cases hu : Scalar.cmpi .slt (BitVec.ofNat 32 (r.val / 512)) (usedWord (F := Ideal) (tables m 1)) = 1#1
  · rw [if_pos hu]
    refine (congrArg (fun u => Scalar.select u _ _) hu).trans ?_
    exact select_one _ _
  · rw [if_neg hu]
    have hu0 := ((by decide : ∀ u : BitVec 1, u = 0#1 ∨ u = 1#1) (Scalar.cmpi .slt (BitVec.ofNat 32 (r.val / 512)) (usedWord (F := Ideal) (tables m 1)))).resolve_right hu
    refine (congrArg (fun u => Scalar.select u _ _) hu0).trans ?_
    exact select_zero _ _

end Cert.Equal

end
-- ==== Proof.Norm.lean ====
/-
  The root-mean-square norm of a row of 1024 over the extended reals, and the two programs' spellings of it read at an
  index: a kernel's over a block of rows, the host's over the whole array.
-/
module

public import Idealize.ShloMosaic.PureOps.Ideal.Laws
public import Idealize.ShloMosaic.Lib.ValueIdx
public import Idealize.ShloMosaic.Lib.ValueLayout
public import Idealize.ShloMosaic.Lib.IdealHost
public import Idealize.ShloMosaic.Lib.StackMember
public import Idealize.ShloMosaic.Lib.Pipeline.Value

@[expose] public section

set_option maxRecDepth 16384

noncomputable section

namespace Cert.Norm

open Idealize.ShloMosaic Idealize.ShloMosaic.ValueIdx
open scoped BigOperators

/-- The factor a row is scaled by: the reciprocal root of its mean square plus the small constant. -/
def scale (x : Fin 1024 → EReal) : EReal :=
  Ideal.rsqrt (Ideal.div (∑ k, x k * x k) (Ideal.ofBits .f32 0x44800000#32) + Ideal.ofBits .f32 0x358637BD#32)

/-- The normed row at a coordinate. -/
def norm (x g : Fin 1024 → EReal) (j : Fin 1024) : EReal := x j * scale x * g j

theorem norm_congr {x y g h : Fin 1024 → EReal} (e : x = y) (f : g = h) (j : Fin 1024) : norm x g j = norm y h j := by rw [e, f]

/-- The shape of `n` rows, of a column of `n` entries, and of `n` entries. -/
abbrev rows (n : ℕ) : Shape := ⟨2, ![n, 1024]⟩
abbrev col (n : ℕ) : Shape := ⟨2, ![n, 1]⟩
abbrev line (n : ℕ) : Shape := ⟨1, ![n]⟩

/-- The index a sum along the rows reads. -/
theorem lift_row {n : ℕ} (h : (rows n).Reduces [1] (line n)) (i : Fin n) (k : Fin 1024) :
    h.lift (ix1 i) k = (ix2 i k : (rows n).Idx) := by
  funext a
  apply Fin.ext
  match a with
  | ⟨0, _⟩ => rfl
  | ⟨1, _⟩ => rfl

/-- A kernel's norm of a block of `n` rows. -/
theorem block_norm {n : ℕ} (hn : n ≠ 1) (x : FVec Ideal (rows n) .f32) (g : FVec Ideal (rows 1) .f32) (hr : (rows n).Reduces [1] (line n))
    (hk : FKind.Formats .f32) (ha : (0x00000000#32 : BitVec 32) = FKind.add.neutral .f32 hk) (hc : (line n).ShapeCasts (col n))
    (hb : (col n).Broadcasts (rows n)) (hs : (rows 1).ShapeCasts (rows 1)) (hg : (rows 1).Broadcasts (rows n))
    (i : Fin n) (j : Fin 1024) :
    mulf (mulf x (broadcastTo (rows n) (rsqrt (addf (divf
        (shapeCast (col n) (multiReduction .add [1] (line n) (mulf x x) 0x00000000#32 hr hk ha) hc)
        (broadcast (col n) (Scalar.ofBits .f32 0x44800000#32))) (broadcast (col n) (Scalar.ofBits .f32 0x358637BD#32)))) hb))
      (broadcastTo (rows n) (shapeCast (rows 1) g hs) hg) (ix2 i j)
      = norm (fun k => x (ix2 i k)) (fun k => g (ix2 0 k)) j := by
  refine congrArg₂ (· * ·) (congrArg (x (ix2 i j) * ·) ?_) ?_
  · refine (broadcastTo_apply _ _ (ix2 i j) (ix2 i 0) fun a => ?_).trans ?_
    · match a with
      | ⟨0, _⟩ => exact (if_neg hn).symm
      | ⟨1, _⟩ => rfl
    · refine congrArg (fun s => Ideal.rsqrt (Ideal.div s (Ideal.ofBits .f32 0x44800000#32) + Ideal.ofBits .f32 0x358637BD#32)) ?_
      refine (shapeCast_apply _ hc (ix2 i (0 : Fin 1)) (ix1 i) ?_).trans ?_
      · rw [Shape.rowMajor_val_two, Shape.rowMajor_val_one]
        show i.val = i.val * 1 + 0
        omega
      · refine (Ideal.multiReduction_add_single _ _ hr hk ha (ix1 i)).trans (Finset.sum_congr rfl fun k _ => ?_)
        exact congrArg (fun y => x y * x y) (lift_row hr i k)
  · refine (broadcastTo_apply _ _ (ix2 i j) (ix2 0 j) fun a => ?_).trans (shapeCast_apply _ _ _ _ rfl)
    match a with
    | ⟨0, _⟩ => rfl
    | ⟨1, _⟩ => rfl

/-- The host's norm of `n` rows. -/
theorem host_norm {n : ℕ} (hn : n ≠ 1) (x : FVec Ideal (rows n) .f32) (g : FVec Ideal (line 1024) .f32)
    (hr : (rows n).ReducesTo [1] (line n)) (hr' : (rows n).Reduces [1] (line n)) (hz : 0 < (⟨0, ![]⟩ : Shape).numel)
    (hc : (line n).BroadcastsInDim (col n) ![0]) (hq : (⟨0, ![]⟩ : Shape).BroadcastsInDim (col n) ![])
    (hb : (col n).BroadcastsInDim (rows n) ![0, 1]) (hl : (line 1024).BroadcastsInDim (rows 1) ![1])
    (hg : (rows 1).BroadcastsInDim (rows n) ![0, 1]) (i : Fin n) (j : Fin 1024) :
    mulf (mulf x (broadcastInDim (rows n) ![0, 1] hb (Host.rsqrt (addf (Host.divf
        (broadcastInDim (col n) ![0] hc (Host.reduceAdd (mulf x x) (constant (⟨0, ![]⟩ : Shape) .f32 0x00000000#32) hr hz))
        (broadcastInDim (col n) ![] hq (constant (⟨0, ![]⟩ : Shape) .f32 0x44800000#32)))
        (broadcastInDim (col n) ![] hq (constant (⟨0, ![]⟩ : Shape) .f32 0x358637BD#32))))))
      (broadcastInDim (rows n) ![0, 1] hg (broadcastInDim (rows 1) ![1] hl g)) (ix2 i j)
      = norm (fun k => x (ix2 i k)) (fun k => g (ix1 k)) j := by
  refine congrArg₂ (· * ·) (congrArg (x (ix2 i j) * ·) ?_) ?_
  · refine (broadcastInDim_apply (t := rows n) _ _ _ (ix2 i j) (ix2 i 0) fun a => ?_).trans ?_
    · match a with
      | ⟨0, _⟩ => exact (if_neg hn).symm
      | ⟨1, _⟩ => rfl
    · refine congrArg Ideal.rsqrt (congrArg₂ (· + ·) (congrArg₂ Ideal.div ?_ ?_) ?_)
      · refine (broadcastInDim_apply (t := col n) _ _ _ (ix2 i 0) (ix1 i) fun a => ?_).trans ?_
        · match a with
          | ⟨0, _⟩ => exact (if_neg hn).symm
        · rw [hostReduceAdd_apply, Ideal.hostReduceAdd_single hr hr']
          show Ideal.ofBits .f32 0x00000000#32 + _ = _
          rw [Ideal.ofBits_zero_f32, zero_add]
          exact Finset.sum_congr rfl fun k _ => congrArg (fun y => x y * x y) (lift_row hr' i k)
      · exact broadcastInDim_scalar_apply _ _ _
      · exact broadcastInDim_scalar_apply _ _ _
  · refine (broadcastInDim_apply (t := rows n) _ _ _ (ix2 i j) (ix2 0 j) fun a => ?_).trans
      (broadcastInDim_apply (t := rows 1) _ _ _ (ix2 0 j) (ix1 j) fun a => ?_)
    · match a with
      | ⟨0, _⟩ => rfl
      | ⟨1, _⟩ => rfl
    · match a with
      | ⟨0, _⟩ => rfl

end Cert.Norm

end
-- ==== Proof.Sum.Value.lean ====
/-
  What the combining call and its reference leave in their results: row by row the norm of the residual plus the two
  expert rows.
-/
module

public import proofs.«01_k».proof.Proof.Gen.CombineIdeal.Value
public import proofs.«01_k».proof.Proof.Gen.CombineReferenceIdeal
public import proofs.«01_k».proof.Proof.Gen.CombineReferenceIdeal.Run
public import proofs.«01_k».proof.Proof.Norm
public import Idealize.ShloMosaic.Lib.Pipeline.ValueKit.Geometry
public import Idealize.ShloMosaic.Lib.Claim

@[expose] public section

set_option maxRecDepth 16384

noncomputable section

namespace Cert.CombineIdeal.Sum

open Idealize.ShloMosaic Idealize.ShloMosaic.TcCoe Idealize.ShloMosaic.ValueIdx
open Idealize.ShloMosaic.Pipeline (Dat)
open Cert.CombineIdeal Cert.CombineIdeal.Gen Cert.Norm

variable (m : (ℓ : Loc nD τ sig) → Buf (Elt Ideal) ℓ) (c : Dev nD)

/-- The arguments, as functions of their indices. -/
abbrev residual : S32768x1024.Idx → EReal := m ((c : Thread nD τ).loc main_arg0)
abbrev first : S32768x1024.Idx → EReal := m ((c : Thread nD τ).loc main_arg1)
abbrev second : S32768x1024.Idx → EReal := m ((c : Thread nD τ).loc main_arg2)
abbrev gain : S1024.Idx → EReal := m ((c : Thread nD τ).loc main_arg3)

/-- The summed row `r`. -/
def total (r : Fin 32768) (k : Fin 1024) : EReal := residual m c (ix2 r k) + first m c (ix2 r k) + second m c (ix2 r k)

/-- What the call computes. -/
def result : S32768x1024.Idx → EReal := fun y => norm (total m c (y 0)) (fun k => gain m c (ix1 k)) (y 1)

/-! ## A block -/

theorem pay_at (x : Vec Ideal S1024x1024 .f32) (a b : Vec Ideal S1024x1024 .bf16) (g : Vec Ideal S1x1024 .f32) (i j : Fin 1024) :
    k0_pay1 (F := Ideal) x a b g (ix2 i j) = norm (fun k => x (ix2 i k) + a (ix2 i k) + b (ix2 i k)) (fun k => g (ix2 0 k)) j :=
  block_norm (n := 1024) (by decide) (addf (addf x (extf .f32 a bitsLt_bf16_f32)) (extf .f32 b bitsLt_bf16_f32)) g
    reduces_S1024x1024_S1024 (.inl rfl) rfl shapeCasts_S1024_S1024x1 broadcasts_S1024x1_S1024x1024 shapeCasts_S1x1024_S1x1024
    broadcasts_S1x1024_S1024x1024 i j

theorem out_eq (x : Vec Ideal S1024x1024 .f32) (a b : Vec Ideal S1024x1024 .bf16) (g : Vec Ideal S1x1024 .f32) :
    out0_4 (F := Ideal) x a b g = k0_pay1 (F := Ideal) x a b g := by
  unfold out0_4
  rw [View.canon_cons_unit_lit _ _ _ (by decide), View.ld_unit_lit _ x (by decide), View.ld_unit_lit _ a (by decide),
    View.ld_unit_lit _ b (by decide), View.ld_unit_lit _ g (by decide)]

/-! ## Where a point's blocks lie -/

theorem coord (t : Fin cfg0.N) : (BitVec.ofNat 32 (grid0.coords t 0).val).toNat = t.val := by
  have ht : t.val < 32 := Nat.lt_of_lt_of_eq t.isLt N_0
  have e0 : (grid0.coords t 0).val = t.val / 1 % 32 := Pipeline.Grid.coords_val t 0 (by decide) rfl
  rw [BitVec.toNat_ofNat]
  omega

theorem row_lt (t : Fin cfg0.N) (i : Fin 1024) : 1024 * t.val + i.val < 32768 := by
  have ht : t.val < 32 := Nat.lt_of_lt_of_eq t.isLt N_0
  have := i.isLt; omega

/-- The array's row that row `i` of point `t`'s block is. -/
abbrev rowOf (t : Fin cfg0.N) (i : Fin 1024) : Fin 32768 := ⟨1024 * t.val + i.val, row_lt t i⟩

theorem place_x (t : Fin cfg0.N) (i j : Fin 1024) :
    ((cfg0.win 0).blk t).view.emb (ix2 i j) = (ix2 (rowOf t i) j : S32768x1024.Idx) := by
  have h0 := coord t
  funext a
  apply Fin.ext
  match a with
  | ⟨0, _⟩ => show (BitVec.ofNat 32 (grid0.coords t 0).val).toNat * 1024 + 1 * i.val = 1024 * t.val + i.val; rw [h0]; omega
  | ⟨1, _⟩ => show 0 * 1024 + 1 * j.val = j.val; omega

theorem place_a (t : Fin cfg0.N) (i j : Fin 1024) :
    ((cfg0.win 1).blk t).view.emb (ix2 i j) = (ix2 (rowOf t i) j : S32768x1024.Idx) := place_x t i j
theorem place_b (t : Fin cfg0.N) (i j : Fin 1024) :
    ((cfg0.win 2).blk t).view.emb (ix2 i j) = (ix2 (rowOf t i) j : S32768x1024.Idx) := place_x t i j
theorem place_y (t : Fin cfg0.N) (i j : Fin 1024) :
    ((cfg0.win 4).blk t).view.emb (ix2 i j) = (ix2 (rowOf t i) j : S32768x1024.Idx) := place_x t i j

theorem place_g (t : Fin cfg0.N) (k : Fin 1024) :
    ((cfg0.win 3).blk t).view.emb (ix2 0 k) = (ix2 0 k : S1x1024.Idx) := by
  funext a
  apply Fin.ext
  match a with
  | ⟨0, _⟩ => rfl
  | ⟨1, _⟩ => show 0 * 1024 + 1 * k.val = k.val; omega

theorem blk_x (t : Fin cfg0.N) (i k : Fin 1024) : iblk m c 0 t (ix2 i k) = residual m c (ix2 (rowOf t i) k) := by
  rw [← show V m c main_arg0 = residual m c from V_main_arg0 m c]
  exact congrArg (V m c main_arg0 : S32768x1024.Idx → EReal) (place_x t i k)
theorem blk_a (t : Fin cfg0.N) (i k : Fin 1024) : iblk m c 1 t (ix2 i k) = first m c (ix2 (rowOf t i) k) := by
  rw [← show V m c main_arg1 = first m c from V_main_arg1 m c]
  exact congrArg (V m c main_arg1 : S32768x1024.Idx → EReal) (place_a t i k)
theorem blk_b (t : Fin cfg0.N) (i k : Fin 1024) : iblk m c 2 t (ix2 i k) = second m c (ix2 (rowOf t i) k) := by
  rw [← show V m c main_arg2 = second m c from V_main_arg2 m c]
  exact congrArg (V m c main_arg2 : S32768x1024.Idx → EReal) (place_b t i k)

theorem entry_g (k : Fin 1024) : (V m c main_v0 : S1x1024.Idx → EReal) (ix2 0 k) = gain m c (ix1 k) := by
  have e : (V m c main_v0 : S1x1024.Idx → EReal) = shapeCast S1x1024 (gain m c) shapeCasts_S1024_S1x1024 := by
    show StableHlo.after hostOps0 (fun b => m (c, b)) (Proc.devRef .tc main_v0) = _
    after_results
    rfl
  rw [e]
  refine shapeCast_apply _ _ _ _ ?_
  rw [Shape.rowMajor_val_two, Shape.rowMajor_val_one]
  show k.val = 0 * 1024 + k.val
  omega

theorem blk_g (t : Fin cfg0.N) (k : Fin 1024) : iblk m c 3 t (ix2 0 k) = gain m c (ix1 k) :=
  (congrArg (V m c main_v0 : S1x1024.Idx → EReal) (place_g t k)).trans (entry_g m c k)

/-! ## The result array -/

theorem outBlock_at (t : Fin cfg0.N) (i j : Fin 1024) :
    out0_4 (F := Ideal) (iblk m c 0 t) (iblk m c 1 t) (iblk m c 2 t) (iblk m c 3 t) (ix2 i j) = result m c (ix2 (rowOf t i) j) := by
  rw [out_eq]
  refine (pay_at _ _ _ _ i j).trans (norm_congr (funext fun k => ?_) (funext fun k => blk_g m c t k) j)
  exact congrArg₂ (· + ·) (congrArg₂ (· + ·) (blk_x m c t i k) (blk_a m c t i k)) (blk_b m c t i k)

theorem pair_of_block (y : S1024x1024.Idx) : ∃ i j : Fin 1024, y = ix2 i j := ⟨y 0, y 1, eq_ix2 y⟩
theorem pair_of_array (y : S32768x1024.Idx) : ∃ (i : Fin 32768) (j : Fin 1024), y = ix2 i j := ⟨y 0, y 1, eq_ix2 y⟩

theorem flush_all : ∀ t : Fin cfg0.N, (cfg0.win 4).flush t = true := by decide +kernel

/-- The result array after the run. -/
theorem final : (dats m 0 c).arrAt 4 cfg0.N = result m c := by
  refine (dats m 0 c).arrAt_eq_of_cover 4 (result m c) (fun t hf => ?_) (fun x => ?_)
  · rw [Value.flushed4]
    funext y
    obtain ⟨i, j, rfl⟩ := pair_of_block y
    refine (outBlock_at m c t i j).trans ?_
    exact (congrArg (result m c) (place_y t i j)).symm
  · obtain ⟨r, j, rfl⟩ := pair_of_array x
    have hr := r.isLt
    have ht : r.val / 1024 < cfg0.N := Nat.lt_of_lt_of_eq (by omega : r.val / 1024 < 32) N_0.symm
    refine ⟨⟨r.val / 1024, ht⟩, flush_all _, ?_⟩
    have e : ((cfg0.win 4).blk ⟨r.val / 1024, ht⟩).view.emb (ix2 (⟨r.val % 1024, Nat.mod_lt _ (by decide)⟩ : Fin 1024) j) = (ix2 r j : S32768x1024.Idx) := by
      rw [place_y]
      refine congrArg (fun q => (ix2 q j : S32768x1024.Idx)) (Fin.ext ?_)
      show 1024 * (r.val / 1024) + r.val % 1024 = r.val
      omega
    exact e ▸ View.emb_mem_set _ _

end Cert.CombineIdeal.Sum

namespace Cert.CombineReferenceIdeal.Sum

open Idealize.ShloMosaic Idealize.ShloMosaic.TcCoe Idealize.ShloMosaic.ValueIdx Idealize.SL.Sem
open Cert.CombineReferenceIdeal Cert.CombineReferenceIdeal.Gen Cert.Norm

/-- The reference's term of its arguments. -/
def outcome (x : FVec Ideal S32768x1024 .f32) (a b : FVec Ideal S32768x1024 .bf16) (g : FVec Ideal S1024 .f32) :
    FVec Ideal S32768x1024 .f32 :=
  have s : FVec Ideal S32768x1024 .f32 := addf x (addf (extf .f32 a bitsLt_bf16_f32) (extf .f32 b bitsLt_bf16_f32))
  mulf (mulf s (broadcastInDim S32768x1024 ![0, 1] bcast_S32768x1_S32768x1024_0_1 (Host.rsqrt (addf (Host.divf
      (broadcastInDim S32768x1 ![0] bcast_S32768_S32768x1_0 (Host.reduceAdd (mulf s s) (constant S_ .f32 0x00000000#32) reducesTo_S32768x1024_S32768_d1 h_S_))
      (broadcastInDim S32768x1 ![] bcast_S_S32768x1 (constant S_ .f32 0x44800000#32)))
      (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

theorem run_outcome (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = outcome (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run m ρ

theorem reduces_rows : (rows 32768).Reduces [1] (line 32768) := by decide

theorem outcome_at (x a b : S32768x1024.Idx → EReal) (g : S1024.Idx → EReal) (r : Fin 32768) (j : Fin 1024) :
    outcome x a b g (ix2 r j)
      = norm (fun k => x (ix2 r k) + (a (ix2 r k) + b (ix2 r k))) (fun k => g (ix1 k)) j :=
  host_norm (n := 32768) (by decide) (fun y => x y + (a y + b y)) g reducesTo_S32768x1024_S32768_d1 reduces_rows h_S_
    bcast_S32768_S32768x1_0 bcast_S_S32768x1 bcast_S32768x1_S32768x1024_0_1 bcast_S1024_S1x1024_1 bcast_S1x1024_S32768x1024_0_1 r j

end Cert.CombineReferenceIdeal.Sum

namespace Cert.CombineIdeal.Sum

open Idealize.ShloMosaic Idealize.ShloMosaic.TcCoe Idealize.ShloMosaic.ValueIdx
open Cert.CombineIdeal Cert.CombineIdeal.Gen Cert.Norm

/-- The reference's result on the call's arguments is the call's. -/
theorem equal (m : (ℓ : Loc nD τ sig) → Buf (Elt Ideal) ℓ) (c : Dev nD) :
    (Cert.CombineReferenceIdeal.Sum.outcome (residual m c) (first m c) (second m c) (gain m c) : S32768x1024.Idx → EReal) = result m c := by
  funext y
  obtain ⟨r, j, rfl⟩ := pair_of_array y
  refine (Cert.CombineReferenceIdeal.Sum.outcome_at _ _ _ _ r j).trans (norm_congr (funext fun k => ?_) rfl j)
  exact (add_assoc _ _ _).symm

end Cert.CombineIdeal.Sum

end
-- ==== Proof.Dense.Part.lean ====
/-
  What the dense feed-forward's body computes from its blocks, read at an index, over the extended reals: the row plus
  the 2816 hidden units of its norm, 256 at a time.
-/
module

public import proofs.«01_k».proof.Proof.Gen.FfnDenseIdeal.Frame
public import proofs.«01_k».proof.Proof.Norm
public import proofs.«01_k».proof.Proof.Ffn
public import Idealize.ShloMosaic.Lib.MatmulPlain
public import Idealize.ShloMosaic.Lib.Pipeline.ValueKit.Geometry
public import Idealize.ShloMosaic.Lib.Pipeline.ValueKit.Tiles

@[expose] public section

set_option maxRecDepth 16384

noncomputable section

namespace Cert.FfnDenseIdeal.Dense

open Idealize.ShloMosaic Idealize.ShloMosaic.ValueIdx
open Cert.FfnDenseIdeal Cert.FfnDenseIdeal.Gen Cert.Norm Cert.Ffn
open scoped BigOperators

/-- A block's projection. -/
abbrev proj (x : FVec Ideal S512x1024 .bf16) (a : FVec Ideal S1024x256 .bf16) : FVec Ideal S512x256 .f32 :=
  matmul (F := Ideal) dot_S512x1024_S1024x256_S512x256_1_0_0_1_n_n none x
    (shapeCast S1024x256 a shapeCasts_S1024x256_S1024x256 : FVec Ideal S1024x256 .bf16) (constant S512x256 .f32 0x00000000#32)

/-- One chunk of 256 hidden units. -/
def chunk (x : FVec Ideal S512x1024 .bf16) (a b : FVec Ideal S1024x256 .bf16) (w : FVec Ideal S256x1024 .bf16) : FVec Ideal S512x1024 .f32 :=
  matmul (F := Ideal) dot_S512x256_S256x1024_S512x1024_1_0_0_1_n_n none
    (truncf .bf16 (mulf (mulf (proj x a) (divf (broadcast S512x256 (Scalar.ofBits .f32 0x3F800000#32))
      (addf (broadcast S512x256 (Scalar.ofBits .f32 0x3F800000#32)) (exp (subf (broadcast S512x256 (Scalar.ofBits .f32 0x00000000#32)) (proj x a))))))
      (proj x b)) bitsLt_bf16_f32)
    (shapeCast S256x1024 w shapeCasts_S256x1024_S256x1024 : FVec Ideal S256x1024 .bf16) (constant S512x1024 .f32 0x00000000#32)

theorem proj_at (x : FVec Ideal S512x1024 .bf16) (a : FVec Ideal S1024x256 .bf16) (i : Fin 512) (h : Fin 256) :
    proj x a (ix2 i h) = ∑ k : Fin 1024, x (ix2 i k) * a (ix2 k h) := by
  refine (Ideal.matmul_plain_apply (M := 512) (K := 1024) (N := 256) none x _ _ i h).trans ?_
  rw [constant_apply, Ideal.ofBits_zero_f32, zero_add]
  exact Finset.sum_congr rfl fun k _ => congrArg (x (ix2 i k) * ·) (shapeCast_apply a _ _ _ rfl)

theorem chunk_at (x : FVec Ideal S512x1024 .bf16) (a b : FVec Ideal S1024x256 .bf16) (w : FVec Ideal S256x1024 .bf16)
    (i : Fin 512) (j : Fin 1024) :
    chunk x a b w (ix2 i j)
      = ∑ h : Fin 256, hidden (fun k : Fin 1024 => x (ix2 i k)) (fun k => a (ix2 k h)) (fun k => b (ix2 k h)) * w (ix2 h j) := by
  unfold chunk
  refine (Ideal.matmul_plain_apply (M := 512) (K := 256) (N := 1024) none _ _ _ i j).trans ?_
  rw [constant_apply, Ideal.ofBits_zero_f32, zero_add]
  refine Finset.sum_congr rfl fun h _ => congrArg₂ (· * ·) ?_ (shapeCast_apply w _ _ _ rfl)
  refine (congrArg₂ (fun p q : EReal => p * Ideal.div (Ideal.ofBits .f32 0x3F800000#32)
    (Ideal.ofBits .f32 0x3F800000#32 + Ideal.exp (Ideal.ofBits .f32 0x00000000#32 - p)) * q) (proj_at x a i h) (proj_at x b i h)).trans ?_
  simp only [Ideal.ofBits_one_f32, Ideal.ofBits_zero_f32, zero_sub]
  rfl

/-! ## The chunks of the whole weights -/

theorem cols_at (X : Vec Ideal S1024x2816 .bf16) (o : ℕ) (inb) (k : Fin 1024) (h : Fin 256) (ho : o + 256 ≤ 2816) :
    View.ld X (Rect.unit (s := S1024x2816) ![0, o] S1024x256.size inb) (ix2 k h)
      = X (ix2 k ⟨o + h.val, by have := h.isLt; omega⟩) := by
  refine View.ld_unit_apply_of X _ _ inb (ix2 k h) _ fun a => ?_
  match a with
  | ⟨0, _⟩ => exact (Nat.zero_add _).symm
  | ⟨1, _⟩ => rfl

theorem rows_at (X : Vec Ideal S2816x1024 .bf16) (o : ℕ) (inb) (h : Fin 256) (j : Fin 1024) (ho : o + 256 ≤ 2816) :
    View.ld X (Rect.unit (s := S2816x1024) ![o, 0] S256x1024.size inb) (ix2 h j)
      = X (ix2 ⟨o + h.val, by have := h.isLt; omega⟩ j) := by
  refine View.ld_unit_apply_of X _ _ inb (ix2 h j) _ fun a => ?_
  match a with
  | ⟨0, _⟩ => rfl
  | ⟨1, _⟩ => exact (Nat.zero_add _).symm

/-- Hidden unit `h` of a token against output coordinate `j`. -/
def unit (x : Fin 1024 → EReal) (A B : S1024x2816.Idx → EReal) (W : S2816x1024.Idx → EReal) (j : Fin 1024) (h : Fin 2816) : EReal :=
  hidden x (fun k => A (ix2 k h)) (fun k => B (ix2 k h)) * W (ix2 h j)

variable (x : FVec Ideal S512x1024 .bf16) (A B : Vec Ideal S1024x2816 .bf16) (W : Vec Ideal S2816x1024 .bf16)

/-- The chunk of the hidden units from `o` on. -/
abbrev chunkFrom (o : ℕ) (ia : ∀ a, (![0, o] : Fin 2 → ℕ) a + S1024x256.size a ≤ S1024x2816.size a)
    (iw : ∀ a, (![o, 0] : Fin 2 → ℕ) a + S256x1024.size a ≤ S2816x1024.size a) : FVec Ideal S512x1024 .f32 :=
  chunk x (View.ld A (Rect.unit (s := S1024x2816) ![0, o] S1024x256.size ia)) (View.ld B (Rect.unit (s := S1024x2816) ![0, o] S1024x256.size ia))
    (View.ld W (Rect.unit (s := S2816x1024) ![o, 0] S256x1024.size iw))

/-- A running sum that holds the units below `o` holds those below `o + 256` once the chunk from `o` is added. -/
theorem more (o : ℕ) (ho : o + 256 ≤ 2816) (ia) (iw) (s : FVec Ideal S512x1024 .f32) (z : EReal) (i : Fin 512) (j : Fin 1024)
    (hs : s (ix2 i j) = z + upTo (unit (fun k => x (ix2 i k)) A B W j) o) :
    addf s (chunkFrom x A B W o ia iw) (ix2 i j) = z + upTo (unit (fun k => x (ix2 i k)) A B W j) (o + 256) := by
  show s (ix2 i j) + chunkFrom x A B W o ia iw (ix2 i j) = _
  rw [hs, upTo_add _ _ _ ho, ← add_assoc]
  refine congrArg (_ + ·) ((chunk_at _ _ _ _ i j).trans (Finset.sum_congr rfl fun h _ => ?_))
  unfold unit
  refine congrArg₂ (· * ·) ?_ (rows_at W o iw h j ho)
  have e1 := funext fun k : Fin 1024 => cols_at A o ia k h ho
  have e2 := funext fun k : Fin 1024 => cols_at B o ia k h ho
  exact (congrArg (fun f => hidden _ f _) e1).trans (congrArg (fun f => hidden _ _ f) e2)

/-- The body's norm of its block of rows. -/
theorem norm_at (v : Vec Ideal S512x1024 .f32) (g : Vec Ideal S1x1024 .f32) (i : Fin 512) (k : Fin 1024) :
    k0_pay2 (F := Ideal) v g (ix2 i k) = norm (fun k => v (ix2 i k)) (fun k => g (ix2 0 k)) k :=
  block_norm (n := 512) (by decide) v g reduces_S512x1024_S512 (.inl rfl) rfl shapeCasts_S512_S512x1 broadcasts_S512x1_S512x1024
    shapeCasts_S1x1024_S1x1024 broadcasts_S1x1024_S512x1024 i k

/-- The running sum after the eleven chunks. -/
abbrev summed (v : FVec Ideal S512x1024 .f32) : FVec Ideal S512x1024 .f32 :=
  addf (addf (addf (addf (addf (addf (addf (addf (addf (addf (addf v
    (chunkFrom x A B W 0 inb_S1024x2816_S1024x256_0_0 inb_S2816x1024_S256x1024_0_0))
    (chunkFrom x A B W 256 inb_S1024x2816_S1024x256_0_256 inb_S2816x1024_S256x1024_256_0))
    (chunkFrom x A B W 512 inb_S1024x2816_S1024x256_0_512 inb_S2816x1024_S256x1024_512_0))
    (chunkFrom x A B W 768 inb_S1024x2816_S1024x256_0_768 inb_S2816x1024_S256x1024_768_0))
    (chunkFrom x A B W 1024 inb_S1024x2816_S1024x256_0_1024 inb_S2816x1024_S256x1024_1024_0))
    (chunkFrom x A B W 1280 inb_S1024x2816_S1024x256_0_1280 inb_S2816x1024_S256x1024_1280_0))
    (chunkFrom x A B W 1536 inb_S1024x2816_S1024x256_0_1536 inb_S2816x1024_S256x1024_1536_0))
    (chunkFrom x A B W 1792 inb_S1024x2816_S1024x256_0_1792 inb_S2816x1024_S256x1024_1792_0))
    (chunkFrom x A B W 2048 inb_S1024x2816_S1024x256_0_2048 inb_S2816x1024_S256x1024_2048_0))
    (chunkFrom x A B W 2304 inb_S1024x2816_S1024x256_0_2304 inb_S2816x1024_S256x1024_2304_0))
    (chunkFrom x A B W 2560 inb_S1024x2816_S1024x256_0_2560 inb_S2816x1024_S256x1024_2560_0)

theorem summed_at (v : FVec Ideal S512x1024 .f32) (i : Fin 512) (j : Fin 1024) :
    summed x A B W v (ix2 i j) = v (ix2 i j) + ∑ h, unit (fun k => x (ix2 i k)) A B W j h := by
  have e0 : v (ix2 i j) = v (ix2 i j) + upTo (unit (fun k => x (ix2 i k)) A B W j) 0 := by rw [upTo_zero, add_zero]
  have e1 := more x A B W 0 (by decide) inb_S1024x2816_S1024x256_0_0 inb_S2816x1024_S256x1024_0_0 v _ i j e0
  have e2 := more x A B W 256 (by decide) inb_S1024x2816_S1024x256_0_256 inb_S2816x1024_S256x1024_256_0 _ _ i j e1
  have e3 := more x A B W 512 (by decide) inb_S1024x2816_S1024x256_0_512 inb_S2816x1024_S256x1024_512_0 _ _ i j e2
  have e4 := more x A B W 768 (by decide) inb_S1024x2816_S1024x256_0_768 inb_S2816x1024_S256x1024_768_0 _ _ i j e3
  have e5 := more x A B W 1024 (by decide) inb_S1024x2816_S1024x256_0_1024 inb_S2816x1024_S256x1024_1024_0 _ _ i j e4
  have e6 := more x A B W 1280 (by decide) inb_S1024x2816_S1024x256_0_1280 inb_S2816x1024_S256x1024_1280_0 _ _ i j e5
  have e7 := more x A B W 1536 (by decide) inb_S1024x2816_S1024x256_0_1536 inb_S2816x1024_S256x1024_1536_0 _ _ i j e6
  have e8 := more x A B W 1792 (by decide) inb_S1024x2816_S1024x256_0_1792 inb_S2816x1024_S256x1024_1792_0 _ _ i j e7
  have e9 := more x A B W 2048 (by decide) inb_S1024x2816_S1024x256_0_2048 inb_S2816x1024_S256x1024_2048_0 _ _ i j e8
  have e10 := more x A B W 2304 (by decide) inb_S1024x2816_S1024x256_0_2304 inb_S2816x1024_S256x1024_2304_0 _ _ i j e9
  have e11 := more x A B W 2560 (by decide) inb_S1024x2816_S1024x256_0_2560 inb_S2816x1024_S256x1024_2560_0 _ _ i j e10
  exact e11.trans (congrArg (v (ix2 i j) + ·) (upTo_all (unit (fun k => x (ix2 i k)) A B W j)))

/-! ## The body's block -/

theorem pay3_eq (v : Vec Ideal S512x1024 .f32) (g : Vec Ideal S1x1024 .f32) (a b : Vec Ideal S1024x256 .bf16) (w : Vec Ideal S256x1024 .bf16) :
    k0_pay3 (F := Ideal) v g a b w = addf v (chunk (k0_pay2 (F := Ideal) v g) a b w) := rfl
theorem pay5_eq (s : FVec Ideal S512x1024 .f32) (a b : Vec Ideal S1024x256 .bf16) (w : Vec Ideal S256x1024 .bf16)
    (a' b' : Vec Ideal S1024x256 .bf16) (w' : Vec Ideal S256x1024 .bf16) :
    k0_pay5 (F := Ideal) x s (k0_pay4 (F := Ideal) a) b w a' b' w' = addf (addf s (chunk x a b w)) (chunk x a' b' w') := rfl
theorem pay6_eq (s : FVec Ideal S512x1024 .f32) (a b : Vec Ideal S1024x256 .bf16) (w : Vec Ideal S256x1024 .bf16) :
    k0_pay6 (F := Ideal) x s a b w = addf s (chunk x a b w) := rfl
theorem pay8_eq (s : FVec Ideal S512x1024 .f32) (a b : Vec Ideal S1024x256 .bf16) (w : Vec Ideal S256x1024 .bf16)
    (a' b' : Vec Ideal S1024x256 .bf16) (w' : Vec Ideal S256x1024 .bf16) :
    k0_pay8 (F := Ideal) x s (k0_pay7 (F := Ideal) x a b) w a' b' w' = addf (addf s (chunk x a b w)) (chunk x a' b' w') := rfl
theorem pay10_eq (s : FVec Ideal S512x1024 .f32) (a b : Vec Ideal S1024x256 .bf16) (w : Vec Ideal S256x1024 .bf16)
    (a' b' : Vec Ideal S1024x256 .bf16) (w' : Vec Ideal S256x1024 .bf16) :
    k0_pay10 (F := Ideal) x s (k0_pay9 (F := Ideal) x a b) w a' b' w' = addf (addf s (chunk x a b w)) (chunk x a' b' w') := rfl
theorem pay14_eq (s : FVec Ideal S512x1024 .f32) (a b : Vec Ideal S1024x256 .bf16) (w : Vec Ideal S256x1024 .bf16)
    (a' b' : Vec Ideal S1024x256 .bf16) (w' : Vec Ideal S256x1024 .bf16) :
    k0_pay14 (F := Ideal) x s (k0_pay11 (F := Ideal) x a) (k0_pay12 (F := Ideal) x b) (k0_pay13 (F := Ideal) x a)
      (Scalar.ofBits .f32 0x3F800000#32) w a' b' w' = addf (addf s (chunk x a b w)) (chunk x a' b' w') := rfl
theorem pay1_eq (s : FVec Ideal S512x1024 .f32) (a b : Vec Ideal S1024x256 .bf16) (w : Vec Ideal S256x1024 .bf16) :
    k0_pay1 (F := Ideal) s (k0_pay15 (F := Ideal) x a) (k0_pay16 (F := Ideal) x b) (k0_pay17 (F := Ideal) x a) w
      = addf s (chunk x a b w) := rfl

theorem out_eq (v : Vec Ideal S512x1024 .f32) (g : Vec Ideal S1x1024 .f32) :
    out0_5 (F := Ideal) v g A B W = summed (k0_pay2 (F := Ideal) v g) A B W v := by
  unfold out0_5 k0_pay18
  rw [View.canon_cons_unit_lit _ _ _ (by decide), View.ld_unit_lit _ v (by decide), View.ld_unit_lit _ g (by decide),
    pay1_eq, pay14_eq, pay10_eq, pay8_eq, pay6_eq, pay5_eq, pay3_eq]

/-- The body's block at row `i` and column `j`. -/
theorem out_at (v : Vec Ideal S512x1024 .f32) (g : Vec Ideal S1x1024 .f32) (i : Fin 512) (j : Fin 1024) :
    out0_5 (F := Ideal) v g A B W (ix2 i j)
      = v (ix2 i j) + ∑ h, unit (norm (fun k => v (ix2 i k)) (fun k => g (ix2 0 k))) A B W j h := by
  rw [out_eq, summed_at]
  refine congrArg (fun f => v (ix2 i j) + ∑ h, unit f A B W j h) (funext fun k => norm_at v g i k)

end Cert.FfnDenseIdeal.Dense

end
-- ==== Proof.Dense.Value.lean ====
/-
  What the dense feed-forward leaves in its result: row by row the row plus the feed-forward of its norm. The 64 hidden
  units the weights are padded with count for nothing: their weights out are zero.
-/
module

public import proofs.«01_k».proof.Proof.Gen.FfnDenseIdeal.Value
public import proofs.«01_k».proof.Proof.Dense.Part
public import Idealize.ShloMosaic.Lib.KernelVsHost
public import Idealize.ShloMosaic.Lib.Claim

@[expose] public section

set_option maxRecDepth 16384

noncomputable section

namespace Cert.FfnDenseIdeal.Dense

open Idealize.ShloMosaic Idealize.ShloMosaic.TcCoe Idealize.ShloMosaic.ValueIdx
open Idealize.ShloMosaic.Pipeline (Dat)
open Cert.FfnDenseIdeal Cert.FfnDenseIdeal.Gen Cert.Norm Cert.Ffn
open scoped BigOperators

variable (m : (ℓ : Loc nD τ sig) → Buf (Elt Ideal) ℓ) (c : Dev nD)

/-- The arguments, as functions of their indices. -/
abbrev tokens : S32768x1024.Idx → EReal := m ((c : Thread nD τ).loc main_arg0)
abbrev gain : S1024.Idx → EReal := m ((c : Thread nD τ).loc main_arg1)
abbrev up : S1024x2752.Idx → EReal := m ((c : Thread nD τ).loc main_arg2)
abbrev side : S1024x2752.Idx → EReal := m ((c : Thread nD τ).loc main_arg3)
abbrev down : S2752x1024.Idx → EReal := m ((c : Thread nD τ).loc main_arg4)

/-- The normed row `r`. -/
abbrev normed (r : Fin 32768) : Fin 1024 → EReal := norm (fun k => tokens m c (ix2 r k)) (fun k => gain m c (ix1 k))

/-- What the call computes. -/
def result : S32768x1024.Idx → EReal := fun y =>
  tokens m c (ix2 (y 0) (y 1)) + ∑ h : Fin 2752, hidden (normed m c (y 0)) (fun k => up m c (ix2 k h)) (fun k => side m c (ix2 k h)) * down m c (ix2 h (y 1))

/-! ## The arrays the call reads, after the host operations -/

/-- The zero the weights are padded with. -/
abbrev filler : S_.Idx → EReal := (sitofp (F := Ideal) .f32 (constantI S_ 32 0#32) : FVec Ideal S_ .f32)

theorem filler_at (i : S_.Idx) : filler i = 0 := by
  show ((((0#32 : BitVec 32).toInt : ℤ) : ℝ) : EReal) = 0
  simp

theorem entry_up : (V m c main_v1 : S1024x2816.Idx → EReal) = pad S1024x2816 ![0, 0] ![0, 64] ![0, 0] (up m c) filler pads_S1024x2752_S1024x2816_000_0640 h_S_ := by
  show StableHlo.after (List.flatten [hostOps0, hostOps0_1, hostOps0_2, hostOps0_3, hostOps0_4, hostOps0_5, hostOps0_6]) (fun b => m (c, b)) (Proc.devRef .tc main_v1) = _
  simp only [hostOps0, hostOps0_1, hostOps0_2, hostOps0_3, hostOps0_4, hostOps0_5, hostOps0_6, List.flatten_cons, List.flatten_nil, List.append_nil, List.cons_append, List.nil_append]
  after_results
  rfl
theorem entry_side : (V m c main_v3 : S1024x2816.Idx → EReal) = pad S1024x2816 ![0, 0] ![0, 64] ![0, 0] (side m c) filler pads_S1024x2752_S1024x2816_000_0640 h_S_ := by
  show StableHlo.after (List.flatten [hostOps0, hostOps0_1, hostOps0_2, hostOps0_3, hostOps0_4, hostOps0_5, hostOps0_6]) (fun b => m (c, b)) (Proc.devRef .tc main_v3) = _
  simp only [hostOps0, hostOps0_1, hostOps0_2, hostOps0_3, hostOps0_4, hostOps0_5, hostOps0_6, List.flatten_cons, List.flatten_nil, List.append_nil, List.cons_append, List.nil_append]
  after_results
  rfl
theorem entry_down : (V m c main_v5 : S2816x1024.Idx → EReal) = pad S2816x1024 ![0, 0] ![64, 0] ![0, 0] (down m c) filler pads_S2752x1024_S2816x1024_0640_000 h_S_ := by
  show StableHlo.after (List.flatten [hostOps0, hostOps0_1, hostOps0_2, hostOps0_3, hostOps0_4, hostOps0_5, hostOps0_6]) (fun b => m (c, b)) (Proc.devRef .tc main_v5) = _
  simp only [hostOps0, hostOps0_1, hostOps0_2, hostOps0_3, hostOps0_4, hostOps0_5, hostOps0_6, List.flatten_cons, List.flatten_nil, List.append_nil, List.cons_append, List.nil_append]
  after_results
  rfl
theorem entry_gain : (V m c main_v6 : S1x1024.Idx → EReal) = shapeCast S1x1024 (gain m c) shapeCasts_S1024_S1x1024 := by
  show StableHlo.after (List.flatten [hostOps0, hostOps0_1, hostOps0_2, hostOps0_3, hostOps0_4, hostOps0_5, hostOps0_6]) (fun b => m (c, b)) (Proc.devRef .tc main_v6) = _
  simp only [hostOps0, hostOps0_1, hostOps0_2, hostOps0_3, hostOps0_4, hostOps0_5, hostOps0_6, List.flatten_cons, List.flatten_nil, List.append_nil, List.cons_append, List.nil_append]
  after_results
  rfl

/-- A column of the padded weights in. -/
theorem in_col (w : S1024x2752.Idx → EReal) (k : Fin 1024) (h : Fin 2752) (hh : h.val < 2816) :
    pad S1024x2816 ![0, 0] ![0, 64] ![0, 0] w filler pads_S1024x2752_S1024x2816_000_0640 h_S_ (ix2 k ⟨h.val, hh⟩) = w (ix2 k h) := by
  refine pad_apply_of_inside _ _ _ w _ _ _ _ (ix2 k h) fun a => ?_
  match a with
  | ⟨0, _⟩ => show k.val = 0 + k.val * (0 + 1); omega
  | ⟨1, _⟩ => show h.val = 0 + h.val * (0 + 1); omega

/-- A row of the padded weights out: one of the weights', or zeros. -/
theorem out_row (w : S2752x1024.Idx → EReal) (h : Fin 2752) (hh : h.val < 2816) (j : Fin 1024) :
    pad S2816x1024 ![0, 0] ![64, 0] ![0, 0] w filler pads_S2752x1024_S2816x1024_0640_000 h_S_ (ix2 ⟨h.val, hh⟩ j) = w (ix2 h j) := by
  refine pad_apply_of_inside _ _ _ w _ _ _ _ (ix2 h j) fun a => ?_
  match a with
  | ⟨0, _⟩ => show h.val = 0 + h.val * (0 + 1); omega
  | ⟨1, _⟩ => show j.val = 0 + j.val * (0 + 1); omega

theorem out_row_past (w : S2752x1024.Idx → EReal) (h : Fin 2816) (hh : 2752 ≤ h.val) (j : Fin 1024) :
    pad S2816x1024 ![0, 0] ![64, 0] ![0, 0] w filler pads_S2752x1024_S2816x1024_0640_000 h_S_ (ix2 h j) = 0 := by
  refine (pad_apply_of_not_inside _ _ _ w _ _ _ _ (0 : Fin 2) fun q => ?_).trans (filler_at _)
  have h2 : (h.val - 0) / (0 + 1) < 2752 := q.2.2
  omega

/-- The units past the 2752nd count for nothing. -/
theorem units_eq (x : Fin 1024 → EReal) (j : Fin 1024) :
    ∑ h, unit x (V m c main_v1) (V m c main_v3) (V m c main_v5) j h
      = ∑ h : Fin 2752, hidden x (fun k => up m c (ix2 k h)) (fun k => side m c (ix2 k h)) * down m c (ix2 h j) := by
  rw [← upTo_all, show upTo (unit x (V m c main_v1) (V m c main_v3) (V m c main_v5) j) 2816
      = upTo (unit x (V m c main_v1) (V m c main_v3) (V m c main_v5) j) (0 + 2752 + 64) from rfl,
    upTo_add _ _ _ (by decide), upTo_add _ _ _ (by decide), upTo_zero, zero_add]
  have past : ∑ h : Fin 64, unit x (V m c main_v1) (V m c main_v3) (V m c main_v5) j ⟨0 + 2752 + h.val, by have := h.isLt; omega⟩ = 0 :=
    Finset.sum_eq_zero fun h _ => by
      unfold unit
      rw [entry_down, out_row_past _ _ (by show 2752 ≤ 0 + 2752 + h.val; omega), mul_zero]
  rw [past, add_zero]
  refine Finset.sum_congr rfl fun h _ => ?_
  have hh : h.val < 2816 := by have := h.isLt; omega
  have e : (⟨0 + h.val, by omega⟩ : Fin 2816) = ⟨h.val, hh⟩ := Fin.ext (Nat.zero_add _)
  rw [e]
  unfold unit
  rw [entry_down, entry_up, entry_side]
  refine congrArg₂ (· * ·) ?_ (out_row _ h hh j)
  have e1 := funext fun k : Fin 1024 => in_col (up m c) k h hh
  have e2 := funext fun k : Fin 1024 => in_col (side m c) k h hh
  exact (congrArg (fun f => hidden x f _) e1).trans (congrArg (fun f => hidden x _ f) e2)

/-! ## Where a point's blocks lie -/

theorem coord (t : Fin cfg0.N) : (BitVec.ofNat 32 (grid0.coords t 0).val).toNat = t.val := by
  have ht : t.val < 64 := Nat.lt_of_lt_of_eq t.isLt N_0
  have e0 : (grid0.coords t 0).val = t.val / 1 % 64 := Pipeline.Grid.coords_val t 0 (by decide) rfl
  rw [BitVec.toNat_ofNat]
  omega

theorem row_lt (t : Fin cfg0.N) (i : Fin 512) : 512 * t.val + i.val < 32768 := by
  have ht : t.val < 64 := Nat.lt_of_lt_of_eq t.isLt N_0
  have := i.isLt; omega

/-- The array's row that row `i` of point `t`'s block is. -/
abbrev rowOf (t : Fin cfg0.N) (i : Fin 512) : Fin 32768 := ⟨512 * t.val + i.val, row_lt t i⟩

theorem place_x (t : Fin cfg0.N) (i : Fin 512) (j : Fin 1024) :
    ((cfg0.win 0).blk t).view.emb (ix2 i j) = (ix2 (rowOf t i) j : S32768x1024.Idx) := by
  have h0 := coord t
  funext a
  apply Fin.ext
  match a with
  | ⟨0, _⟩ => show (BitVec.ofNat 32 (grid0.coords t 0).val).toNat * 512 + 1 * i.val = 512 * t.val + i.val; rw [h0]; omega
  | ⟨1, _⟩ => show 0 * 1024 + 1 * j.val = j.val; omega

theorem place_y (t : Fin cfg0.N) (i : Fin 512) (j : Fin 1024) :
    ((cfg0.win 5).blk t).view.emb (ix2 i j) = (ix2 (rowOf t i) j : S32768x1024.Idx) := place_x t i j

theorem place_g (t : Fin cfg0.N) (y : S1x1024.Idx) : ((cfg0.win 1).blk t).view.emb y = y := by
  funext a
  apply Fin.ext
  match a with
  | ⟨0, _⟩ => show 0 * 1 + 1 * (y 0).val = (y 0).val; omega
  | ⟨1, _⟩ => show 0 * 1024 + 1 * (y 1).val = (y 1).val; omega
theorem place_up (t : Fin cfg0.N) (y : S1024x2816.Idx) : ((cfg0.win 2).blk t).view.emb y = y := by
  funext a
  apply Fin.ext
  match a with
  | ⟨0, _⟩ => show 0 * 1024 + 1 * (y 0).val = (y 0).val; omega
  | ⟨1, _⟩ => show 0 * 2816 + 1 * (y 1).val = (y 1).val; omega
theorem place_down (t : Fin cfg0.N) (y : S2816x1024.Idx) : ((cfg0.win 4).blk t).view.emb y = y := by
  funext a
  apply Fin.ext
  match a with
  | ⟨0, _⟩ => show 0 * 2816 + 1 * (y 0).val = (y 0).val; omega
  | ⟨1, _⟩ => show 0 * 1024 + 1 * (y 1).val = (y 1).val; omega

theorem blk_x (t : Fin cfg0.N) (i : Fin 512) (k : Fin 1024) : iblk m c 0 t (ix2 i k) = tokens m c (ix2 (rowOf t i) k) := by
  rw [← show V m c main_arg0 = tokens m c from V_main_arg0 m c]
  exact congrArg (V m c main_arg0 : S32768x1024.Idx → EReal) (place_x t i k)

theorem blk_g (t : Fin cfg0.N) (k : Fin 1024) : iblk m c 1 t (ix2 0 k) = gain m c (ix1 k) := by
  refine (congrArg (V m c main_v6 : S1x1024.Idx → EReal) (place_g t (ix2 0 k))).trans ?_
  rw [entry_gain]
  refine shapeCast_apply _ _ _ _ ?_
  rw [Shape.rowMajor_val_two, Shape.rowMajor_val_one]
  show k.val = 0 * 1024 + k.val
  omega

theorem blk_up (t : Fin cfg0.N) : (iblk m c 2 t : S1024x2816.Idx → EReal) = V m c main_v1 :=
  funext fun y => congrArg (V m c main_v1 : S1024x2816.Idx → EReal) (place_up t y)
theorem blk_side (t : Fin cfg0.N) : (iblk m c 3 t : S1024x2816.Idx → EReal) = V m c main_v3 :=
  funext fun y => congrArg (V m c main_v3 : S1024x2816.Idx → EReal) (place_up t y)
theorem blk_down (t : Fin cfg0.N) : (iblk m c 4 t : S2816x1024.Idx → EReal) = V m c main_v5 :=
  funext fun y => congrArg (V m c main_v5 : S2816x1024.Idx → EReal) (place_down t y)

/-! ## The result array -/

theorem outBlock_at (t : Fin cfg0.N) (i : Fin 512) (j : Fin 1024) :
    out0_5 (F := Ideal) (iblk m c 0 t) (iblk m c 1 t) (iblk m c 2 t) (iblk m c 3 t) (iblk m c 4 t) (ix2 i j)
      = result m c (ix2 (rowOf t i) j) := by
  refine (out_at (iblk m c 2 t) (iblk m c 3 t) (iblk m c 4 t) (iblk m c 0 t) (iblk m c 1 t) i j).trans ?_
  refine congrArg₂ (fun p q : EReal => p + q) (blk_x m c t i j) ?_
  have ex : norm (fun k => iblk m c 0 t (ix2 i k)) (fun k => iblk m c 1 t (ix2 0 k)) = normed m c (rowOf t i) :=
    funext fun k => norm_congr (funext fun k => blk_x m c t i k) (funext fun k => blk_g m c t k) k
  refine Eq.trans ?_ (units_eq m c (normed m c (rowOf t i)) j)
  refine Finset.sum_congr rfl fun h _ => ?_
  refine (congrArg (fun f => unit f _ _ _ j h) ex).trans ?_
  refine (congrArg (fun f => unit _ f _ _ j h) (blk_up m c t)).trans ?_
  refine (congrArg (fun f => unit _ _ f _ j h) (blk_side m c t)).trans ?_
  exact congrArg (fun f => unit _ _ _ f j h) (blk_down m c t)

theorem pair_of_block (y : S512x1024.Idx) : ∃ (i : Fin 512) (j : Fin 1024), y = ix2 i j := ⟨y 0, y 1, eq_ix2 y⟩
theorem pair_of_array (y : S32768x1024.Idx) : ∃ (i : Fin 32768) (j : Fin 1024), y = ix2 i j := ⟨y 0, y 1, eq_ix2 y⟩

theorem flush_all : ∀ t : Fin cfg0.N, (cfg0.win 5).flush t = true := by decide +kernel

/-- The result array after the run. -/
theorem final : (dats m 0 c).arrAt 5 cfg0.N = result m c := by
  refine (dats m 0 c).arrAt_eq_of_cover 5 (result m c) (fun t hf => ?_) (fun x => ?_)
  · rw [Value.flushed5]
    funext y
    obtain ⟨i, j, rfl⟩ := pair_of_block y
    refine (outBlock_at m c t i j).trans ?_
    exact (congrArg (result m c) (place_y t i j)).symm
  · obtain ⟨r, j, rfl⟩ := pair_of_array x
    have hr := r.isLt
    have ht : r.val / 512 < cfg0.N := Nat.lt_of_lt_of_eq (by omega : r.val / 512 < 64) N_0.symm
    refine ⟨⟨r.val / 512, ht⟩, flush_all _, ?_⟩
    have e : ((cfg0.win 5).blk ⟨r.val / 512, ht⟩).view.emb (ix2 (⟨r.val % 512, Nat.mod_lt _ (by decide)⟩ : Fin 512) j) = (ix2 r j : S32768x1024.Idx) := by
      rw [place_y]
      refine congrArg (fun q => (ix2 q j : S32768x1024.Idx)) (Fin.ext ?_)
      show 512 * (r.val / 512) + r.val % 512 = r.val
      omega
    exact e ▸ View.emb_mem_set _ _

end Cert.FfnDenseIdeal.Dense

end
-- ==== Proof.Dense.Equal.lean ====
/-
  The dense feed-forward's reference read at an index, and the two programs' equal results.
-/
module

public import proofs.«01_k».proof.Proof.Gen.FfnDenseReferenceIdeal
public import proofs.«01_k».proof.Proof.Gen.FfnDenseReferenceIdeal.Run
public import proofs.«01_k».proof.Proof.Dense.Value

@[expose] public section

set_option maxRecDepth 16384

noncomputable section

namespace Cert.FfnDenseReferenceIdeal.Dense

open Idealize.ShloMosaic Idealize.ShloMosaic.TcCoe Idealize.ShloMosaic.ValueIdx Idealize.SL.Sem
open Cert.FfnDenseReferenceIdeal Cert.FfnDenseReferenceIdeal.Gen Cert.Norm Cert.Ffn
open scoped BigOperators

/-- The rows' norms. -/
def normed (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf (Host.divf
      (broadcastInDim S32768x1 ![0] bcast_S32768_S32768x1_0 (Host.reduceAdd (mulf x x) (constant S_ .f32 0x00000000#32) reducesTo_S32768x1024_S32768_d1 h_S_))
      (broadcastInDim S32768x1 ![] bcast_S_S32768x1 (constant S_ .f32 0x44800000#32)))
      (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

theorem reduces_rows : (rows 32768).Reduces [1] (line 32768) := by decide

theorem normed_at (x : S32768x1024.Idx → EReal) (g : S1024.Idx → EReal) (r : Fin 32768) (k : Fin 1024) :
    normed x g (ix2 r k) = norm (fun k => x (ix2 r k)) (fun k => g (ix1 k)) k :=
  host_norm (n := 32768) (by decide) x g reducesTo_S32768x1024_S32768_d1 reduces_rows h_S_
    bcast_S32768_S32768x1_0 bcast_S_S32768x1 bcast_S32768x1_S32768x1024_0_1 bcast_S1024_S1x1024_1 bcast_S1x1024_S32768x1024_0_1 r k

abbrev ones : FVec Ideal S32768x2752 .f32 := broadcastInDim S32768x2752 ![] bcast_S_S32768x2752 (constant (F := Ideal) S_ .f32 0x3F800000#32)

theorem ones_at (i : S32768x2752.Idx) : ones i = 1 :=
  (broadcastInDim_scalar_apply bcast_S_S32768x2752 (constant (F := Ideal) S_ .f32 0x3F800000#32) i).trans Ideal.ofBits_one_f32

/-- A projection of the rows. -/
abbrev proj (x : FVec Ideal S32768x1024 .f32) (a : FVec Ideal S1024x2752 .f32) : FVec Ideal S32768x2752 .f32 :=
  Host.dotGeneral dot_S32768x1024_S1024x2752_S32768x2752_1_0_0_1_n_n none x a

theorem proj_at (x : FVec Ideal S32768x1024 .f32) (a : FVec Ideal S1024x2752 .f32) (r : Fin 32768) (h : Fin 2752) :
    proj x a (ix2 r h) = ∑ k : Fin 1024, x (ix2 r k) * a (ix2 k h) :=
  StackMember.dotGeneral_plain_apply (m := 32768) (k := 1024) (n := 2752) none x a r h

/-- The reference's term of its arguments. -/
def outcome (x : FVec Ideal S32768x1024 .f32) (g : FVec Ideal S1024 .f32) (a b : FVec Ideal S1024x2752 .f32)
    (w : FVec Ideal S2752x1024 .f32) : FVec Ideal S32768x1024 .f32 :=
  addf x (Host.dotGeneral dot_S32768x2752_S2752x1024_S32768x1024_1_0_0_1_n_n none
    (mulf (mulf (proj (normed x g) a) (Host.divf ones (addf ones (Host.exp (Host.negf (proj (normed x g) a)))))) (proj (normed x g) b)) w)

theorem run_outcome (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v18) = outcome (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Value.run m ρ

theorem outcome_at (x : S32768x1024.Idx → EReal) (g : S1024.Idx → EReal) (a b : S1024x2752.Idx → EReal) (w : S2752x1024.Idx → EReal)
    (r : Fin 32768) (j : Fin 1024) :
    outcome x g a b w (ix2 r j)
      = x (ix2 r j) + ∑ h : Fin 2752, hidden (norm (fun k => x (ix2 r k)) (fun k => g (ix1 k))) (fun k => a (ix2 k h)) (fun k => b (ix2 k h))
          * w (ix2 h j) := by
  refine congrArg (x (ix2 r j) + ·) ?_
  refine (StackMember.dotGeneral_plain_apply (m := 32768) (k := 2752) (n := 1024) none _ w r j).trans ?_
  refine Finset.sum_congr rfl fun h _ => congrArg (· * w (ix2 h j)) ?_
  refine (congrArg₂ (fun p q : EReal => p * Ideal.div (ones (ix2 r h)) (ones (ix2 r h) + Ideal.exp (-p)) * q)
    (proj_at (normed x g) a r h) (proj_at (normed x g) b r h)).trans ?_
  rw [ones_at, ← funext fun k : Fin 1024 => normed_at x g r k]
  rfl

end Cert.FfnDenseReferenceIdeal.Dense

namespace Cert.FfnDenseIdeal.Dense

open Idealize.ShloMosaic Idealize.ShloMosaic.TcCoe Idealize.ShloMosaic.ValueIdx
open Cert.FfnDenseIdeal

/-- The reference's result on the call's arguments is the call's. -/
theorem equal (m : (ℓ : Loc nD τ sig) → Buf (Elt Ideal) ℓ) (c : Dev nD) :
    (Cert.FfnDenseReferenceIdeal.Dense.outcome (tokens m c) (gain m c) (up m c) (side m c) (down m c) : S32768x1024.Idx → EReal) = result m c := by
  funext y
  obtain ⟨r, j, rfl⟩ := pair_of_array y
  exact Cert.FfnDenseReferenceIdeal.Dense.outcome_at _ _ _ _ _ r j

end Cert.FfnDenseIdeal.Dense

end
-- ==== Proof.Router.Top.lean ====
/-
  The two greatest of eight extended reals, the earlier first of two equal ones: that there are two such places, that a
  stable descending sort begins with them, and what folds over 128 lanes whose first eight hold the eight find.
-/
module

public import Idealize.ShloMosaic.PureOps.Ideal.Laws
public import Idealize.ShloMosaic.Lib.SortPrefix
public import Idealize.ShloMosaic.Lib.ValueIdx
public import Idealize.ShloMosaic.Lib.ValueLayout

@[expose] public section

noncomputable section

namespace Cert.Router.Top

open Idealize.ShloMosaic Idealize.ShloMosaic.ValueIdx

/-- `a` holds the greatest entry and `b` the greatest of the others, each the earliest place of its value. -/
structure Top (l : Fin 8 → EReal) (a b : Fin 8) : Prop where
  ne : b ≠ a
  fst : ∀ e, l e < l a ∨ (l e = l a ∧ a ≤ e)
  snd : ∀ e, e ≠ a → l e < l b ∨ (l e = l b ∧ b ≤ e)

theorem exists_first (l : Fin 8 → EReal) (s : Finset (Fin 8)) (hs : s.Nonempty) :
    ∃ a ∈ s, ∀ e ∈ s, l e < l a ∨ (l e = l a ∧ a ≤ e) := by
  obtain ⟨m, hm, hmax⟩ := s.exists_max_image l hs
  have hf : (s.filter fun e => l e = l m).Nonempty := ⟨m, Finset.mem_filter.2 ⟨hm, rfl⟩⟩
  have hmem := Finset.mem_filter.1 (Finset.min'_mem _ hf)
  refine ⟨_, hmem.1, fun e he => ?_⟩
  rcases (hmax e he).lt_or_eq with h | h
  · exact Or.inl (hmem.2.symm ▸ h)
  · exact Or.inr ⟨h.trans hmem.2.symm, Finset.min'_le _ _ (Finset.mem_filter.2 ⟨he, h⟩)⟩

theorem exists_top (l : Fin 8 → EReal) : ∃ a b, Top l a b := by
  obtain ⟨a, -, ha⟩ := exists_first l Finset.univ ⟨0, Finset.mem_univ _⟩
  have hn : (Finset.univ.erase a).Nonempty := by
    rw [← Finset.card_pos, Finset.card_erase_of_mem (Finset.mem_univ _)]
    simp
  obtain ⟨b, hb, hs⟩ := exists_first l (Finset.univ.erase a) hn
  exact ⟨a, b, (Finset.mem_erase.1 hb).1, fun e => ha e (Finset.mem_univ _),
    fun e he => hs e (Finset.mem_erase.2 ⟨he, Finset.mem_univ _⟩)⟩

theorem Top.le_fst {l : Fin 8 → EReal} {a b : Fin 8} (T : Top l a b) (e : Fin 8) : l e ≤ l a :=
  (T.fst e).elim le_of_lt fun h => h.1.le

theorem Top.le_snd {l : Fin 8 → EReal} {a b : Fin 8} (T : Top l a b) (e : Fin 8) (h : e ≠ a) : l e ≤ l b :=
  (T.snd e h).elim le_of_lt fun h => h.1.le

/-! ## The sort -/

/-- Two orders that agree on a later element against an earlier one sort alike. -/
theorem stable_of_later {ι : Type} (R R' : ι → ι → Bool) (l : List ι) (h : l.Pairwise fun a b => R b a = R' b a) :
    stableSort R l = stableSort R' l := by
  induction l with
  | nil => rfl
  | cons a l ih =>
    rw [List.pairwise_cons] at h
    show insertBefore R a (stableSort R l) = insertBefore R' a (stableSort R' l)
    rw [ih h.2]
    exact insertBefore_congr R R' a _ fun b hb => h.1 b ((perm_stableSort R' l).mem_iff.1 hb)

/-- Descending by value, then ascending by place. -/
def later (l : Fin 8 → EReal) (k k' : Fin 8) : Bool :=
  decide (l k' < l k) || (decide (l k = l k') && decide (k < k'))

theorem later_strict (l : Fin 8 → EReal) : StrictTotalBefore (later l) :=
  StrictTotalBefore.of_key_then_position (fun x y : EReal => decide (y < x)) l (fun a => by simp)
    (fun a b c h g => by simp only [decide_eq_true_eq] at h g ⊢; exact g.trans h)
    (fun a b => by
      simp only [decide_eq_true_eq]
      rcases lt_trichotomy a b with h | h | h
      · exact Or.inr (Or.inr h)
      · exact Or.inr (Or.inl h)
      · exact Or.inl h)

theorem later_fst {l : Fin 8 → EReal} {a b : Fin 8} (T : Top l a b) (e : Fin 8) : later l e a = false := by
  unfold later
  rcases T.fst e with h | ⟨h, g⟩
  · simp [h.not_gt, h.ne]
  · simp [h, g.not_gt]

theorem later_snd {l : Fin 8 → EReal} {a b : Fin 8} (T : Top l a b) (e : Fin 8) (n : e ≠ a) : later l e b = false := by
  unfold later
  rcases T.snd e n with h | ⟨h, g⟩
  · simp [h.not_gt, h.ne]
  · simp [h, g.not_gt]

/-- The first two places of the sort. -/
theorem sorted_two {l : Fin 8 → EReal} {a b : Fin 8} (T : Top l a b) (i : Fin 2) :
    sortedFrom (fun k k' : Fin 8 => decide (l k' < l k)) (i.castLE (by omega)) = (![a, b] : Fin 2 → Fin 8) i := by
  have e : sortPositions 8 (fun k k' : Fin 8 => decide (l k' < l k)) = sortPositions 8 (later l) := by
    refine stable_of_later _ _ _ ((List.pairwise_lt_finRange 8).imp fun {p q} h => ?_)
    show decide (l p < l q) = (decide (l p < l q) || (decide (l q = l p) && decide (q < p)))
    simp [not_lt_of_gt h]
  have e' : sortedFrom (fun k k' : Fin 8 => decide (l k' < l k)) (i.castLE (by omega)) = sortedFrom (later l) (i.castLE (by omega)) := by
    unfold sortedFrom
    rw [List.get_of_eq e]
    rfl
  rw [e']
  refine (later_strict l).sortedFrom_eq_of_prefix (by omega) (![a, b] : Fin 2 → Fin 8) ?_ ?_ ?_ i
  · intro p q h
    match p, q with
    | 0, 0 => rfl
    | 1, 1 => rfl
    | 0, 1 => exact absurd h.symm T.ne
    | 1, 0 => exact absurd h T.ne
  · intro p q h
    match p, q with
    | 0, 0 => exact absurd h (by decide)
    | 1, 1 => exact absurd h (by decide)
    | 1, 0 => exact absurd h (by decide)
    | 0, 1 => exact later_fst T b
  · intro p q h
    match p with
    | 0 => exact later_fst T q
    | 1 => exact later_snd T q fun e => h 0 e.symm

abbrev eight : Shape := ⟨2, ![32768, 8]⟩
abbrev two : Shape := ⟨2, ![32768, 2]⟩

theorem along_lane (r : Fin 32768) (e k : Fin 8) : (ix2 r e : eight.Idx).along 1 k = ix2 r k := by
  funext x
  match x with
  | ⟨0, _⟩ => rfl
  | ⟨1, _⟩ => rfl

/-- The places of the two greatest along a row. -/
theorem topK_at (x : eight.Idx → EReal) (h : eight.Slices (fun _ => 0) two) (r : Fin 32768) {a b : Fin 8}
    (T : Top (fun e => x (ix2 r e)) a b) (i : Fin 2) :
    (Host.topK two 1 (FloatOps.cmpfTotal (F := Ideal) (φ := .f32) .gt) x h).1 (ix2 r i) = x (ix2 r ((![a, b] : Fin 2 → Fin 8) i))
      ∧ (Host.topK two 1 (FloatOps.cmpfTotal (F := Ideal) (φ := .f32) .gt) x h).2 (ix2 r i)
          = BitVec.ofNat 32 ((![a, b] : Fin 2 → Fin 8) i).val := by
  have hp : sortedFrom (fun k k' : Fin 8 => (FloatOps.cmpfTotal (F := Ideal) (φ := .f32) .gt
      (x ((ix2 r (i.castLE (by omega) : Fin 8) : eight.Idx).along 1 k)) (x ((ix2 r (i.castLE (by omega) : Fin 8) : eight.Idx).along 1 k')) == 1#1))
        (i.castLE (by omega)) = (![a, b] : Fin 2 → Fin 8) i := by
    refine Eq.trans (congrArg (fun B => sortedFrom B (i.castLE (by omega))) (funext fun k => funext fun k' => ?_)) (sorted_two T i)
    rw [along_lane, along_lane]
    show (BitVec.ofBool (decide (x (ix2 r k') < x (ix2 r k))) == 1#1) = decide (x (ix2 r k') < x (ix2 r k))
    cases decide (x (ix2 r k') < x (ix2 r k)) <;> rfl
  have hs : ∀ ax, ((ix2 r (i.castLE (by omega) : Fin 8) : eight.Idx) ax).val = (fun _ => 0) ax + ((ix2 r i : two.Idx) (ax.cast h.1)).val := fun ax => by
    match ax with
    | ⟨0, _⟩ => exact (Nat.zero_add _).symm
    | ⟨1, _⟩ => exact (Nat.zero_add _).symm
  constructor
  · show extractStridedSlice two (fun _ => 0) (Host.sort2 eight 1 (fun l r => FloatOps.cmpfTotal (F := Ideal) (φ := .f32) .gt l.1 r.1) x
      (fun i => iotaInDim eight 32 1 i)).1 h (ix2 r i) = _
    refine (extractStridedSlice_apply (fun _ => 0) _ h (ix2 r i) (ix2 r (i.castLE (by omega) : Fin 8)) hs).trans ?_
    refine (congrArg x (along_lane r _ _)).trans ?_
    exact congrArg (fun k => x (ix2 r k)) hp
  · show extractStridedSlice two (fun _ => 0) (Host.sort2 eight 1 (fun l r => FloatOps.cmpfTotal (F := Ideal) (φ := .f32) .gt l.1 r.1) x
      (fun i => iotaInDim eight 32 1 i)).2 h (ix2 r i) = _
    refine (extractStridedSlice_apply (fun _ => 0) _ h (ix2 r i) (ix2 r (i.castLE (by omega) : Fin 8)) hs).trans ?_
    refine (congrArg (iotaInDim eight 32 1) (along_lane r _ _)).trans ?_
    exact congrArg (fun k : Fin 8 => BitVec.ofNat 32 k.val) hp

/-! ## Lanes -/

/-- A natural number as an extended real. -/
abbrev nat (n : ℕ) : EReal := ((n : ℝ) : EReal)

theorem nat_inj {n m : ℕ} : nat n = nat m ↔ n = m := by simp [nat]
theorem nat_le {n m : ℕ} : nat n ≤ nat m ↔ n ≤ m := by simp [nat]

/-- The lane of an entry. -/
abbrev up (e : Fin 8) : Fin 128 := e.castLE (by omega)

/-- Eight entries on the first lanes, `c` on the others. -/
def lanes (l : Fin 8 → EReal) (c : EReal) (j : Fin 128) : EReal := if h : j.val < 8 then l ⟨j.val, h⟩ else c

theorem lanes_up (l : Fin 8 → EReal) (c : EReal) (e : Fin 8) : lanes l c (up e) = l e := dif_pos e.isLt

theorem lanes_pick (l : Fin 8 → EReal) (c : EReal) (j : Fin 128) :
    (if nat j.val = nat 7 then l 7 else if nat j.val = nat 6 then l 6 else if nat j.val = nat 5 then l 5 else
      if nat j.val = nat 4 then l 4 else if nat j.val = nat 3 then l 3 else if nat j.val = nat 2 then l 2 else
      if nat j.val = nat 1 then l 1 else if nat j.val = nat 0 then l 0 else c) = lanes l c j := by
  simp only [nat_inj]
  obtain ⟨j, hj⟩ := j
  unfold lanes
  by_cases h : j < 8
  · rw [dif_pos h]
    have : j = 0 ∨ j = 1 ∨ j = 2 ∨ j = 3 ∨ j = 4 ∨ j = 5 ∨ j = 6 ∨ j = 7 := by omega
    rcases this with rfl | rfl | rfl | rfl | rfl | rfl | rfl | rfl <;> rfl
  · rw [dif_neg h]
    have h0 : ¬ j = 0 := by omega
    have h1 : ¬ j = 1 := by omega
    have h2 : ¬ j = 2 := by omega
    have h3 : ¬ j = 3 := by omega
    have h4 : ¬ j = 4 := by omega
    have h5 : ¬ j = 5 := by omega
    have h6 : ¬ j = 6 := by omega
    have h7 : ¬ j = 7 := by omega
    simp only [h0, h1, h2, h3, h4, h5, h6, h7, if_false]

theorem fold_max_eq (f : Fin 128 → EReal) (k : Fin 128) (h : ∀ j, f j ≤ f k) : Finset.univ.fold max ⊥ f = f k :=
  le_antisymm ((Finset.fold_max_le _).2 ⟨bot_le, fun j _ => h j⟩) ((Finset.le_fold_max _).2 (Or.inr ⟨k, Finset.mem_univ _, le_rfl⟩))

theorem fold_min_eq (f : Fin 128 → EReal) (k : Fin 128) (h : ∀ j, f k ≤ f j) : Finset.univ.fold min ⊤ f = f k :=
  le_antisymm ((Finset.fold_min_le _).2 (Or.inr ⟨k, Finset.mem_univ _, le_rfl⟩)) ((Finset.le_fold_min _).2 ⟨le_top, fun j _ => h j⟩)

section
variable {l : Fin 8 → EReal} {a b : Fin 8} (T : Top l a b) {c : EReal} (hc : ∀ e, c < l e)
include T hc

theorem max_fst : Finset.univ.fold max ⊥ (lanes l c) = l a := by
  refine (fold_max_eq _ (up a) fun j => ?_).trans (lanes_up l c a)
  rw [lanes_up]
  unfold lanes
  split
  · exact T.le_fst _
  · exact (hc a).le

theorem min_fst : Finset.univ.fold min ⊤ (fun j : Fin 128 => if lanes l c j = l a then nat j.val else nat 128) = nat a.val := by
  have e : (fun j : Fin 128 => if lanes l c j = l a then nat j.val else nat 128) (up a) = nat a.val := if_pos (lanes_up l c a)
  refine (fold_min_eq _ (up a) fun j => ?_).trans e
  refine le_of_eq_of_le e ?_
  show nat a.val ≤ if lanes l c j = l a then nat j.val else nat 128
  split
  · rename_i h
    unfold lanes at h
    split at h
    · rename_i g
      rcases T.fst ⟨j.val, g⟩ with q | q
      · exact absurd h q.ne
      · exact nat_le.2 q.2
    · exact absurd h (hc a).ne
  · exact nat_le.2 (by omega)

/-- What is left once the greatest is covered. -/
theorem max_snd : Finset.univ.fold max ⊥ (fun j : Fin 128 => if nat j.val = nat a.val then c else lanes l c j) = l b := by
  have e : (fun j : Fin 128 => if nat j.val = nat a.val then c else lanes l c j) (up b) = l b := by
    refine (if_neg fun h => T.ne (Fin.ext (nat_inj.1 h))).trans (lanes_up l c b)
  refine (fold_max_eq _ (up b) fun j => ?_).trans e
  refine le_of_le_of_eq ?_ e.symm
  show (if nat j.val = nat a.val then c else lanes l c j) ≤ l b
  split
  · exact (hc b).le
  · rename_i h
    unfold lanes
    split
    · exact T.le_snd _ fun q => h (nat_inj.2 (congrArg Fin.val q))
    · exact (hc b).le

theorem min_snd : Finset.univ.fold min ⊤ (fun j : Fin 128 =>
    if (if nat j.val = nat a.val then c else lanes l c j) = l b then nat j.val else nat 128) = nat b.val := by
  have e : (fun j : Fin 128 => if (if nat j.val = nat a.val then c else lanes l c j) = l b then nat j.val else nat 128) (up b) = nat b.val :=
    if_pos ((if_neg fun h => T.ne (Fin.ext (nat_inj.1 h))).trans (lanes_up l c b))
  refine (fold_min_eq _ (up b) fun j => ?_).trans e
  refine le_of_eq_of_le e ?_
  show nat b.val ≤ if (if nat j.val = nat a.val then c else lanes l c j) = l b then nat j.val else nat 128
  by_cases n : nat j.val = nat a.val
  · rw [if_pos n, if_neg (hc b).ne]
    exact nat_le.2 (by omega)
  · rw [if_neg n]
    split
    · rename_i h
      unfold lanes at h
      split at h
      · rename_i g
        rcases T.snd ⟨j.val, g⟩ (fun q => n (nat_inj.2 (congrArg Fin.val q))) with q | q
        · exact absurd h q.ne
        · exact nat_le.2 q.2
      · exact absurd h (hc b).ne
    · exact nat_le.2 (by omega)

end

end Cert.Router.Top

end
-- ==== Proof.Router.Block.lean ====
/-
  What one grid point of the router leaves in its four outputs and in the counts it carries, as terms of the blocks it
  reads.
-/
module

public import proofs.«01_k».proof.Proof.Gen.RouterIdeal.Value
public import Idealize.ShloMosaic.PureOps.Ideal.Laws
public import Idealize.ShloMosaic.Lib.VecWindow

@[expose] public section

set_option maxRecDepth 16384

noncomputable section

namespace Cert.RouterIdeal.Block

open Idealize.ShloMosaic Idealize.ShloMosaic.TcCoe
open Cert.RouterIdeal Cert.RouterIdeal.Gen

/-- Row `e` of the eight rows of weights. -/
abbrev weights (w : Vec Ideal S8x1024 .f32) (e : ℕ) (h : ∀ a, (![e, 0] : Fin 2 → ℕ) a + S1x1024.size a ≤ S8x1024.size a) : Vec Ideal S1x1024 .f32 :=
  View.ld w (Rect.unit ![e, 0] S1x1024.size h)

variable (x : Vec Ideal S256x1024 .f32) (g : Vec Ideal S1x1024 .f32) (w : Vec Ideal S8x1024 .f32)

/-- The lanes of logits before the last three are put in. -/
abbrev early : FVec Ideal S256x128 .f32 :=
  k0_pay11 (k0_pay6 x g) k0_pay8 (k0_pay9 x g (weights w 0 inb_S8x1024_S1x1024_0_0)) (k0_pay10 x g (weights w 1 inb_S8x1024_S1x1024_1_0)) (weights w 2 inb_S8x1024_S1x1024_2_0) (weights w 3 inb_S8x1024_S1x1024_3_0) (weights w 4 inb_S8x1024_S1x1024_4_0)
/-- The products the sixth logit sums. -/
abbrev sixth : FVec Ideal S256x1024 .f32 := k0_pay12 (k0_pay6 x g) (weights w 5 inb_S8x1024_S1x1024_5_0)
/-- The lanes of logits, their maximum, its lane, what is left, and the maximum of that with where it lies. -/
abbrev logits : FVec Ideal S256x128 .f32 := k0_pay13 (k0_pay6 x g) k0_pay8 (early x g w) (sixth x g w) (weights w 6 inb_S8x1024_S1x1024_6_0) (weights w 7 inb_S8x1024_S1x1024_7_0)
abbrev best : FVec Ideal S256x1 .f32 := k0_pay14 (k0_pay6 x g) k0_pay8 (early x g w) (sixth x g w) (weights w 6 inb_S8x1024_S1x1024_6_0) (weights w 7 inb_S8x1024_S1x1024_7_0)
abbrev bestLane : FVec Ideal S256x1 .f32 := k0_pay15 (k0_pay6 x g) k0_pay8 (early x g w) (sixth x g w) (weights w 6 inb_S8x1024_S1x1024_6_0) (weights w 7 inb_S8x1024_S1x1024_7_0)
abbrev next : FVec Ideal S256x1 .f32 := k0_pay17 (k0_pay6 x g) k0_pay8 (early x g w) (sixth x g w) (weights w 6 inb_S8x1024_S1x1024_6_0) (weights w 7 inb_S8x1024_S1x1024_7_0)
abbrev nextAt : IVec S256x128 1 := k0_pay18 (k0_pay6 x g) k0_pay8 (early x g w) (sixth x g w) (weights w 6 inb_S8x1024_S1x1024_6_0) (weights w 7 inb_S8x1024_S1x1024_7_0)
/-- The number of lanes. -/
abbrev past : Ideal .f32 := Scalar.ofBits .f32 0x43000000#32
/-- The gates on their lanes, and ones on the chosen lanes. -/
abbrev gates : FVec Ideal S256x128 .f32 := k0_pay21 k0_pay8 (best x g w) (bestLane x g w) (next x g w) (nextAt x g w) past
abbrev chosen : FVec Ideal S256x128 .f32 := k0_pay22 k0_pay8 (bestLane x g w) (nextAt x g w) past
/-- The ranks on their lanes, over the counts `s` before the block, and the counts after it. -/
abbrev ranks (u : Vec Ideal S256x256 .bf16) (s : Vec Ideal S1x128 .f32) : FVec Ideal S256x128 .f32 :=
  k0_pay23 k0_pay8 (bestLane x g w) (nextAt x g w) past u s
abbrev counted (s : Vec Ideal S1x128 .f32) : FVec Ideal S1x128 .f32 := k0_pay24 k0_pay8 (bestLane x g w) (nextAt x g w) past s

theorem zero2 : (![0, 0] : Fin 2 → ℕ) = fun _ => 0 := by
  funext a
  match a with
  | ⟨0, _⟩ => rfl
  | ⟨1, _⟩ => rfl
theorem zero3 : (![0, 0, 0] : Fin 3 → ℕ) = fun _ => 0 := by
  funext a
  match a with
  | ⟨0, _⟩ => rfl
  | ⟨1, _⟩ => rfl
  | ⟨2, _⟩ => rfl

section
variable (c : Dev nD) (i : grid0.Coords) (a1 : Memref sig .tc .vmem S256x1024 .f32) (h1 : a1.IsWhole) (a2 : Memref sig .tc .vmem S1x1024 .f32) (h2 : a2.IsWhole) (a3 : Memref sig .tc .vmem S8x1024 .f32) (h3 : a3.IsWhole) (a4 : Memref sig .tc .vmem S256x256 .bf16) (h4 : a4.IsWhole) (a5 : Memref sig .tc .vmem S256x1024 .bf16) (h5 : a5.IsWhole) (a6 : Memref sig .tc .vmem S256x8 .i32) (h6 : a6.IsWhole) (a7 : Memref sig .tc .vmem S256x8 .f32) (h7 : a7.IsWhole) (a8 : Memref sig .tc .vmem S1x1x128 .f32) (h8 : a8.IsWhole) (a9 : Memref sig .tc .vmem S1x128 .f32) (h9 : a9.IsWhole)
variable (u : Vec Ideal S256x256 .bf16) (s : Vec Ideal S1x128 .f32)

theorem at_B_4 (hc : ¬cond0_0 i) :
    out0_B_4 (F := Ideal) c i a1 h1 a2 h2 a3 h3 a4 h4 a5 h5 a6 h6 a7 h7 a8 h8 a9 h9 hc x g w u s = k0_pay7 x g := by
  unfold out0_B_4
  rw [View.read_writes_eq_canon _ _ _ (cover0_B_4 c i a1 h1 a2 h2 a3 h3 a4 h4 a5 h5 a6 h6 a7 h7 a8 h8 a9 h9 hc x g w u s)]
  unfold kernelRun0_B
  dsimp only
  sl_unfold_words
  rw [View.canon_unit_zero zero2]
  simp only [View.readAt_eq_ld, h1.read_unread, h2.read_unread, h3.read_unread, h4.read_unread, h9.read_unread,
    View.ld_unit_zero (S := S256x1024) zero2, View.ld_unit_zero (S := S1x1024) zero2, View.ld_unit_zero (S := S256x256) zero2,
    View.ld_unit_zero (S := S1x128) zero2]

theorem at_B_5 (hc : ¬cond0_0 i) :
    out0_B_5 (F := Ideal) c i a1 h1 a2 h2 a3 h3 a4 h4 a5 h5 a6 h6 a7 h7 a8 h8 a9 h9 hc x g w u s = k0_pay2 (ranks x g w u s) := by
  unfold out0_B_5
  rw [View.read_writes_eq_canon _ _ _ (cover0_B_5 c i a1 h1 a2 h2 a3 h3 a4 h4 a5 h5 a6 h6 a7 h7 a8 h8 a9 h9 hc x g w u s)]
  unfold kernelRun0_B
  dsimp only
  sl_unfold_words
  rw [View.canon_unit_zero zero2]
  simp only [View.readAt_eq_ld, h1.read_unread, h2.read_unread, h3.read_unread, h4.read_unread, h9.read_unread,
    View.ld_unit_zero (S := S256x1024) zero2, View.ld_unit_zero (S := S1x1024) zero2, View.ld_unit_zero (S := S256x256) zero2,
    View.ld_unit_zero (S := S1x128) zero2]

theorem at_B_6 (hc : ¬cond0_0 i) :
    out0_B_6 (F := Ideal) c i a1 h1 a2 h2 a3 h3 a4 h4 a5 h5 a6 h6 a7 h7 a8 h8 a9 h9 hc x g w u s = k0_pay3 (gates x g w) := by
  unfold out0_B_6
  rw [View.read_writes_eq_canon _ _ _ (cover0_B_6 c i a1 h1 a2 h2 a3 h3 a4 h4 a5 h5 a6 h6 a7 h7 a8 h8 a9 h9 hc x g w u s)]
  unfold kernelRun0_B
  dsimp only
  sl_unfold_words
  rw [View.canon_unit_zero zero2]
  simp only [View.readAt_eq_ld, h1.read_unread, h2.read_unread, h3.read_unread, h4.read_unread, h9.read_unread,
    View.ld_unit_zero (S := S256x1024) zero2, View.ld_unit_zero (S := S1x1024) zero2, View.ld_unit_zero (S := S256x256) zero2,
    View.ld_unit_zero (S := S1x128) zero2]

theorem at_B_7 (hc : ¬cond0_0 i) :
    out0_B_7 (F := Ideal) c i a1 h1 a2 h2 a3 h3 a4 h4 a5 h5 a6 h6 a7 h7 a8 h8 a9 h9 hc x g w u s = k0_pay4 (counted x g w s) := by
  unfold out0_B_7
  rw [View.read_writes_eq_canon _ _ _ (cover0_B_7 c i a1 h1 a2 h2 a3 h3 a4 h4 a5 h5 a6 h6 a7 h7 a8 h8 a9 h9 hc x g w u s)]
  unfold kernelRun0_B
  dsimp only
  sl_unfold_words
  rw [View.canon_unit_zero zero3]
  simp only [View.readAt_eq_ld, h1.read_unread, h2.read_unread, h3.read_unread, h4.read_unread, h9.read_unread,
    View.ld_unit_zero (S := S256x1024) zero2, View.ld_unit_zero (S := S1x1024) zero2, View.ld_unit_zero (S := S256x256) zero2,
    View.ld_unit_zero (S := S1x128) zero2]

theorem at_B_s (hc : ¬cond0_0 i) :
    sout0_B_0 (F := Ideal) c i a1 h1 a2 h2 a3 h3 a4 h4 a5 h5 a6 h6 a7 h7 a8 h8 a9 h9 hc x g w u s = k0_pay1 (counted x g w s) := by
  unfold sout0_B_0
  rw [View.read_writes_eq_canon _ _ _ (scover0_B_0 c i a1 h1 a2 h2 a3 h3 a4 h4 a5 h5 a6 h6 a7 h7 a8 h8 a9 h9 hc x g w u s)]
  unfold kernelRun0_B
  dsimp only
  sl_unfold_words
  rw [View.canon_unit_zero zero2]
  simp only [View.readAt_eq_ld, h1.read_unread, h2.read_unread, h3.read_unread, h4.read_unread, h9.read_unread,
    View.ld_unit_zero (S := S256x1024) zero2, View.ld_unit_zero (S := S1x1024) zero2, View.ld_unit_zero (S := S256x256) zero2,
    View.ld_unit_zero (S := S1x128) zero2]

theorem at_A_4 (hc : cond0_0 i) :
    out0_A_4 (F := Ideal) c i a1 h1 a2 h2 a3 h3 a4 h4 a5 h5 a6 h6 a7 h7 a8 h8 a9 h9 hc x g w u = k0_pay7 x g := by
  unfold out0_A_4
  rw [View.read_writes_eq_canon _ _ _ (cover0_A_4 c i a1 h1 a2 h2 a3 h3 a4 h4 a5 h5 a6 h6 a7 h7 a8 h8 a9 h9 hc x g w u)]
  unfold kernelRun0_A
  dsimp only
  sl_unfold_words
  rw [View.canon_unit_zero zero2]
  try simp only [View.readCov_unit_zero (S := S1x128) _ zero2]
  simp only [View.readAt_eq_ld, h1.read_unread, h2.read_unread, h3.read_unread, h4.read_unread, h9.read_unread,
    View.ld_unit_zero (S := S256x1024) zero2, View.ld_unit_zero (S := S1x1024) zero2, View.ld_unit_zero (S := S256x256) zero2,
    View.ld_unit_zero (S := S1x128) zero2]

theorem at_A_5 (hc : cond0_0 i) :
    out0_A_5 (F := Ideal) c i a1 h1 a2 h2 a3 h3 a4 h4 a5 h5 a6 h6 a7 h7 a8 h8 a9 h9 hc x g w u = k0_pay2 (ranks x g w u (k0_pay5 (F := Ideal))) := by
  unfold out0_A_5
  rw [View.read_writes_eq_canon _ _ _ (cover0_A_5 c i a1 h1 a2 h2 a3 h3 a4 h4 a5 h5 a6 h6 a7 h7 a8 h8 a9 h9 hc x g w u)]
  unfold kernelRun0_A
  dsimp only
  sl_unfold_words
  rw [View.canon_unit_zero zero2]
  try simp only [View.readCov_unit_zero (S := S1x128) _ zero2]
  simp only [View.readAt_eq_ld, h1.read_unread, h2.read_unread, h3.read_unread, h4.read_unread, h9.read_unread,
    View.ld_unit_zero (S := S256x1024) zero2, View.ld_unit_zero (S := S1x1024) zero2, View.ld_unit_zero (S := S256x256) zero2,
    View.ld_unit_zero (S := S1x128) zero2]

theorem at_A_6 (hc : cond0_0 i) :
    out0_A_6 (F := Ideal) c i a1 h1 a2 h2 a3 h3 a4 h4 a5 h5 a6 h6 a7 h7 a8 h8 a9 h9 hc x g w u = k0_pay3 (gates x g w) := by
  unfold out0_A_6
  rw [View.read_writes_eq_canon _ _ _ (cover0_A_6 c i a1 h1 a2 h2 a3 h3 a4 h4 a5 h5 a6 h6 a7 h7 a8 h8 a9 h9 hc x g w u)]
  unfold kernelRun0_A
  dsimp only
  sl_unfold_words
  rw [View.canon_unit_zero zero2]
  try simp only [View.readCov_unit_zero (S := S1x128) _ zero2]
  simp only [View.readAt_eq_ld, h1.read_unread, h2.read_unread, h3.read_unread, h4.read_unread, h9.read_unread,
    View.ld_unit_zero (S := S256x1024) zero2, View.ld_unit_zero (S := S1x1024) zero2, View.ld_unit_zero (S := S256x256) zero2,
    View.ld_unit_zero (S := S1x128) zero2]

theorem at_A_7 (hc : cond0_0 i) :
    out0_A_7 (F := Ideal) c i a1 h1 a2 h2 a3 h3 a4 h4 a5 h5 a6 h6 a7 h7 a8 h8 a9 h9 hc x g w u = k0_pay4 (counted x g w (k0_pay5 (F := Ideal))) := by
  unfold out0_A_7
  rw [View.read_writes_eq_canon _ _ _ (cover0_A_7 c i a1 h1 a2 h2 a3 h3 a4 h4 a5 h5 a6 h6 a7 h7 a8 h8 a9 h9 hc x g w u)]
  unfold kernelRun0_A
  dsimp only
  sl_unfold_words
  rw [View.canon_unit_zero zero3]
  try simp only [View.readCov_unit_zero (S := S1x128) _ zero2]
  simp only [View.readAt_eq_ld, h1.read_unread, h2.read_unread, h3.read_unread, h4.read_unread, h9.read_unread,
    View.ld_unit_zero (S := S256x1024) zero2, View.ld_unit_zero (S := S1x1024) zero2, View.ld_unit_zero (S := S256x256) zero2,
    View.ld_unit_zero (S := S1x128) zero2]

theorem at_A_s (hc : cond0_0 i) :
    sout0_A_0 (F := Ideal) c i a1 h1 a2 h2 a3 h3 a4 h4 a5 h5 a6 h6 a7 h7 a8 h8 a9 h9 hc x g w u = k0_pay1 (counted x g w (k0_pay5 (F := Ideal))) := by
  unfold sout0_A_0
  rw [View.read_writes_eq_canon _ _ _ (scover0_A_0 c i a1 h1 a2 h2 a3 h3 a4 h4 a5 h5 a6 h6 a7 h7 a8 h8 a9 h9 hc x g w u)]
  unfold kernelRun0_A
  dsimp only
  sl_unfold_words
  rw [View.canon_cons_unit_zero (S := S1x128) zero2]
  try simp only [View.readCov_unit_zero (S := S1x128) _ zero2]
  simp only [View.readAt_eq_ld, h1.read_unread, h2.read_unread, h3.read_unread, h4.read_unread, h9.read_unread,
    View.ld_unit_zero (S := S256x1024) zero2, View.ld_unit_zero (S := S1x1024) zero2, View.ld_unit_zero (S := S256x256) zero2,
    View.ld_unit_zero (S := S1x128) zero2]

end

end Cert.RouterIdeal.Block

end
-- ==== Proof.Router.Read.lean ====
/-
  The router's block terms read at a row and a lane: which two experts the row goes to, its gates, the ones it adds to the
  counts, and its ranks over the counts before the block.
-/
module

public import proofs.«01_k».proof.Proof.Router.Top
public import proofs.«01_k».proof.Proof.Router.Block
public import proofs.«01_k».proof.Proof.Norm
public import Idealize.ShloMosaic.Lib.Pipeline.ValueKit.Tiles
public import Idealize.ShloMosaic.Lib.MatmulPlain

@[expose] public section

set_option maxRecDepth 16384

noncomputable section

namespace Cert.RouterIdeal.Block

open Idealize.ShloMosaic Idealize.ShloMosaic.TcCoe Idealize.ShloMosaic.ValueIdx
open Cert.RouterIdeal Cert.RouterIdeal.Gen Cert.Norm Cert.Router.Top
open scoped BigOperators

/-! ## The numbers the text writes as words -/

theorem bits_nat {b : BitVec 32} {r : ℝ} {n : ℕ} (h : Ideal.ofBits .f32 b = (r : EReal)) (e : r = n) : Ideal.ofBits .f32 b = nat n := by
  rw [h, e]
theorem bits0 : Ideal.ofBits .f32 0x00000000#32 = nat 0 := by rw [Ideal.ofBits_zero_f32]; simp [nat]
theorem bits1 : Ideal.ofBits .f32 0x3F800000#32 = nat 1 := by rw [Ideal.ofBits_one_f32]; simp [nat]
theorem bits2 : Ideal.ofBits .f32 0x40000000#32 = nat 2 := by
  unfold nat; simp [Ideal.ofBits, Ideal.ieee, -EReal.coe_mul]; norm_num
theorem bits3 : Ideal.ofBits .f32 0x40400000#32 = nat 3 := by
  unfold nat; simp [Ideal.ofBits, Ideal.ieee, -EReal.coe_mul]; norm_num
theorem bits4 : Ideal.ofBits .f32 0x40800000#32 = nat 4 := by
  unfold nat; simp [Ideal.ofBits, Ideal.ieee, -EReal.coe_mul]; norm_num
theorem bits5 : Ideal.ofBits .f32 0x40A00000#32 = nat 5 := by
  unfold nat; simp [Ideal.ofBits, Ideal.ieee, -EReal.coe_mul]; norm_num
theorem bits6 : Ideal.ofBits .f32 0x40C00000#32 = nat 6 := by
  unfold nat; simp [Ideal.ofBits, Ideal.ieee, -EReal.coe_mul]; norm_num
theorem bits7 : Ideal.ofBits .f32 0x40E00000#32 = nat 7 := by
  unfold nat; simp [Ideal.ofBits, Ideal.ieee, -EReal.coe_mul]; norm_num
theorem bits128 : Ideal.ofBits .f32 0x43000000#32 = nat 128 := by
  unfold nat; simp [Ideal.ofBits, Ideal.ieee, -EReal.coe_mul]; norm_num
theorem bits_bot : Ideal.ofBits .f32 0xFF800000#32 = ⊥ := by simp [Ideal.ofBits, Ideal.ieee]
theorem bits_top : Ideal.ofBits .f32 0x7F800000#32 = ⊤ := by simp [Ideal.ofBits, Ideal.ieee]

/-- What stands on the lanes that are no expert's. -/
def mask : EReal := Ideal.ofBits .f32 0xF149F2CA#32

theorem pick (p : Prop) (d e : Decidable p) (a b : EReal) : Scalar.select (BitVec.ofBool (@decide p e)) a b = @ite _ p d a b := by
  unfold Scalar.select
  by_cases h : p
  · simp [h]
  · simp [h]

/-- A choice by a comparison, at an index. -/
theorem choose_eq {t : Shape} (y z p q : FVec Ideal t .f32) (i : t.Idx) :
    select (cmpf .oeq y z) p q i = if y i = z i then p i else q i := pick _ _ _ _ _
theorem choose_gt {t : Shape} (y z p q : FVec Ideal t .f32) (i : t.Idx) :
    select (cmpf .ogt y z) p q i = if z i < y i then p i else q i := pick _ _ _ _ _

/-! ## Columns, folds and sums along a row -/

theorem spread (v : FVec Ideal S256x1 .f32) (h : S256x1.Broadcasts S256x128) (i : Fin 256) (j : Fin 128) :
    broadcastTo S256x128 v h (ix2 i j) = v (ix2 i 0) :=
  broadcastTo_apply v h (ix2 i j) (ix2 i 0) fun a => by
    match a with
    | ⟨0, _⟩ => exact (if_neg (show ¬ (256 : ℕ) = 1 by decide)).symm
    | ⟨1, _⟩ => rfl

theorem stand (v : FVec Ideal S256 .f32) (h : S256.ShapeCasts S256x1) (i : Fin 256) : shapeCast S256x1 v h (ix2 i 0) = v (ix1 i) := by
  refine shapeCast_apply v h _ _ ?_
  rw [Shape.rowMajor_val_two, Shape.rowMajor_val_one]
  show i.val = i.val * 1 + 0
  omega

theorem lift_lane (h : S256x128.Reduces [1] S256) (i : Fin 256) (j : Fin 128) : h.lift (ix1 i) j = (ix2 i j : S256x128.Idx) := by
  funext a
  apply Fin.ext
  match a with
  | ⟨0, _⟩ => rfl
  | ⟨1, _⟩ => rfl
theorem lift_col (h : S256x128.Reduces [0] S128) (j : Fin 128) (i : Fin 256) : h.lift (ix1 j) i = (ix2 i j : S256x128.Idx) := by
  funext a
  apply Fin.ext
  match a with
  | ⟨0, _⟩ => rfl
  | ⟨1, _⟩ => rfl

theorem max_row (y : FVec Ideal S256x128 .f32) (i : Fin 256) :
    shapeCast S256x1 (multiReduction .maximumf [1] S256 y 0xFF800000#32 reduces_S256x128_S256 (.inl rfl) rfl) shapeCasts_S256_S256x1 (ix2 i 0)
      = Finset.univ.fold max ⊥ fun j : Fin 128 => y (ix2 i j) := by
  refine (stand _ _ i).trans ((Ideal.multiReduction_maximumf_single y _ reduces_S256x128_S256 (.inl rfl) rfl (ix1 i)).trans ?_)
  refine (congrArg (fun b => Finset.univ.fold max b _) bits_bot).trans ?_
  exact Finset.fold_congr fun j _ => congrArg y (lift_lane _ i j)

theorem min_row (y : FVec Ideal S256x128 .f32) (i : Fin 256) :
    shapeCast S256x1 (multiReduction .minimumf [1] S256 y 0x7F800000#32 reduces_S256x128_S256 (.inl rfl) rfl) shapeCasts_S256_S256x1 (ix2 i 0)
      = Finset.univ.fold min ⊤ fun j : Fin 128 => y (ix2 i j) := by
  refine (stand _ _ i).trans ((multiReduction_minimumf_eq_fold y _ reduces_S256x128_S256 (.inl rfl) rfl (ix1 i)).trans ?_)
  refine (reduces_S256x128_S256.fold_filter_drop_single _ _ y (ix1 i)).trans ?_
  refine (congrArg (fun b => Finset.univ.fold min b _) bits_top).trans ?_
  exact Finset.fold_congr fun j _ => congrArg y (lift_lane _ i j)

theorem lane_at (i : Fin 256) (j : Fin 128) : k0_pay8 (F := Ideal) (ix2 i j) = nat j.val := by
  show (((BitVec.ofNat 32 (0 * 128 + j.val)).toInt : ℝ) : EReal) = nat j.val
  have hj := j.isLt
  have e : (BitVec.ofNat 32 (0 * 128 + j.val)).toInt = (j.val : ℤ) := by
    rw [BitVec.toInt_eq_toNat_of_lt] <;> rw [BitVec.toNat_ofNat] <;> omega
  rw [e]
  simp [nat]

/-- A logit, put in on its own lane. -/
theorem put (y : FVec Ideal S256x128 .f32) (v : FVec Ideal S256x1024 .f32) (q : FVec Ideal S1x1024 .f32) (i : Fin 256) (j : Fin 128)
    {b : BitVec 32} {n : ℕ} (hb : Ideal.ofBits .f32 b = nat n) :
    select (cmpf .oeq (k0_pay8 (F := Ideal)) (broadcast S256x128 (Scalar.ofBits .f32 b)))
      (broadcastTo S256x128 (shapeCast S256x1 (shapeCast S256x1 (multiReduction .add [1] S256
        (mulf v (broadcastTo S256x1024 (shapeCast S1x1024 q shapeCasts_S1x1024_S1x1024) broadcasts_S1x1024_S256x1024))
        0x00000000#32 reduces_S256x1024_S256 (.inl rfl) rfl) shapeCasts_S256_S256x1) shapeCasts_S256x1_S256x1) broadcasts_S256x1_S256x128)
      y (ix2 i j)
      = if nat j.val = nat n then ∑ k : Fin 1024, v (ix2 i k) * q (ix2 0 k) else y (ix2 i j) := by
  refine (pick _ inferInstance _ _ _).trans (if_congr ?_ ?_ rfl)
  · show k0_pay8 (F := Ideal) (ix2 i j) = Ideal.ofBits .f32 b ↔ _
    rw [lane_at, hb]
  · refine (spread _ _ i j).trans ((congrFun (shapeCast_self _ _) _).trans ((stand _ _ i).trans ?_))
    refine (Ideal.multiReduction_add_single _ _ reduces_S256x1024_S256 (.inl rfl) rfl (ix1 i)).trans (Finset.sum_congr rfl fun k _ => ?_)
    refine (congrArg (fun z => mulf v _ z) (lift_row _ i k)).trans ?_
    refine congrArg (v (ix2 i k) * ·) ?_
    refine (broadcastTo_apply _ _ (ix2 i k) (ix2 0 k) fun a => ?_).trans (congrFun (shapeCast_self _ _) _)
    match a with
    | ⟨0, _⟩ => rfl
    | ⟨1, _⟩ => rfl

variable (x : Vec Ideal S256x1024 .f32) (g : Vec Ideal S1x1024 .f32) (w : Vec Ideal S8x1024 .f32)

/-- The normed row, and its eight logits. -/
abbrev normedRow (i : Fin 256) : Fin 1024 → EReal := norm (fun k => x (ix2 i k)) (fun k => g (ix2 0 k))
abbrev logit (i : Fin 256) (e : Fin 8) : EReal := ∑ k : Fin 1024, normedRow x g i k * w (ix2 e k)

theorem norm_at (i : Fin 256) (k : Fin 1024) : k0_pay6 x g (ix2 i k) = normedRow x g i k :=
  block_norm (n := 256) (by decide) x g _ _ _ _ _ _ _ i k

theorem weights_at (e : Fin 8) (h) (k : Fin 1024) : weights w e.val h (ix2 0 k) = w (ix2 e k) :=
  View.ld_unit_apply_of w _ _ h (ix2 0 k) (ix2 e k) fun a => by
    match a with
    | ⟨0, _⟩ => rfl
    | ⟨1, _⟩ => exact (Nat.zero_add _).symm

theorem logit_sum (i : Fin 256) (e : Fin 8) (h) : ∑ k : Fin 1024, k0_pay6 x g (ix2 i k) * weights w e.val h (ix2 0 k) = logit x g w i e :=
  Finset.sum_congr rfl fun k _ => congrArg₂ (· * ·) (norm_at x g i k) (weights_at w e h k)

theorem logits_at (i : Fin 256) (j : Fin 128) : logits x g w (ix2 i j) = lanes (logit x g w i) mask j := by
  refine Eq.trans ?_ (lanes_pick (logit x g w i) mask j)
  refine (put _ (k0_pay6 x g) (weights w 7 _) i j bits7).trans (if_congr Iff.rfl (logit_sum x g w i 7 _) ?_)
  refine (put _ (k0_pay6 x g) (weights w 6 _) i j bits6).trans (if_congr Iff.rfl (logit_sum x g w i 6 _) ?_)
  refine (put _ (k0_pay6 x g) (weights w 5 _) i j bits5).trans (if_congr Iff.rfl (logit_sum x g w i 5 _) ?_)
  refine (put _ (k0_pay6 x g) (weights w 4 _) i j bits4).trans (if_congr Iff.rfl (logit_sum x g w i 4 _) ?_)
  refine (put _ (k0_pay6 x g) (weights w 3 _) i j bits3).trans (if_congr Iff.rfl (logit_sum x g w i 3 _) ?_)
  refine (put _ (k0_pay6 x g) (weights w 2 _) i j bits2).trans (if_congr Iff.rfl (logit_sum x g w i 2 _) ?_)
  refine (put _ (k0_pay6 x g) (weights w 1 _) i j bits1).trans (if_congr Iff.rfl (logit_sum x g w i 1 _) ?_)
  exact (put _ (k0_pay6 x g) (weights w 0 _) i j bits0).trans (if_congr Iff.rfl (logit_sum x g w i 0 _) rfl)

/-- The gate of the first, and a column on every lane. -/
abbrev gateFst : FVec Ideal S256x1 .f32 := divf (broadcast S256x1 (Scalar.ofBits .f32 0x3F800000#32))
  (addf (broadcast S256x1 (Scalar.ofBits .f32 0x3F800000#32)) (exp (subf (next x g w) (best x g w))))
theorem ratio_of (p q : FVec Ideal S256x1 .f32) (i : S256x1.Idx) : exp (subf p q) i = Ideal.exp (p i - q i) := rfl
theorem times_of (p q : FVec Ideal S256x1 .f32) (i : S256x1.Idx) : mulf p q i = p i * q i := rfl
theorem gate_of (p : FVec Ideal S256x1 .f32) (i : S256x1.Idx) :
    divf (broadcast S256x1 (Scalar.ofBits .f32 0x3F800000#32)) (addf (broadcast S256x1 (Scalar.ofBits .f32 0x3F800000#32)) p) i = Ideal.div 1 (1 + p i) := by
  show Ideal.div (Ideal.ofBits .f32 0x3F800000#32) (Ideal.ofBits .f32 0x3F800000#32 + p i) = _
  rw [Ideal.ofBits_one_f32]
abbrev column (v : FVec Ideal S256x1 .f32) : FVec Ideal S256x128 .f32 :=
  broadcastTo S256x128 (shapeCast S256x1 v shapeCasts_S256x1_S256x1) broadcasts_S256x1_S256x128
theorem column_at (v : FVec Ideal S256x1 .f32) (i : Fin 256) (j : Fin 128) : column v (ix2 i j) = v (ix2 i 0) :=
  (spread _ _ i j).trans (congrFun (shapeCast_self _ _) _)

section
variable {x g w} {i : Fin 256} {a b : Fin 8} (T : Top (logit x g w i) a b) (hm : ∀ e, mask < logit x g w i e)
include T hm

theorem best_at : best x g w (ix2 i 0) = logit x g w i a := by
  refine (max_row (logits x g w) i).trans (Eq.trans ?_ (max_fst T hm))
  exact Finset.fold_congr fun j _ => logits_at x g w i j

theorem bestLane_at : bestLane x g w (ix2 i 0) = nat a.val := by
  refine (min_row _ i).trans (Eq.trans ?_ (min_fst T hm))
  refine Finset.fold_congr fun j _ => (choose_eq _ _ _ _ _).trans (if_congr ?_ (lane_at i j) bits128)
  refine Eq.congr (logits_at x g w i j) ?_
  exact (spread _ _ i j).trans (best_at T hm)

/-- The logits but the greatest. -/
theorem left_at (j : Fin 128) : k0_pay16 (k0_pay6 x g) k0_pay8 (early x g w) (sixth x g w) (weights w 6 inb_S8x1024_S1x1024_6_0) (weights w 7 inb_S8x1024_S1x1024_7_0) (ix2 i j)
    = if nat j.val = nat a.val then mask else lanes (logit x g w i) mask j := by
  refine (choose_eq _ _ _ _ _).trans (if_congr ?_ rfl (logits_at x g w i j))
  refine Eq.congr (lane_at i j) ?_
  exact (spread _ _ i j).trans (bestLane_at T hm)

theorem next_at : next x g w (ix2 i 0) = logit x g w i b := by
  refine (max_row _ i).trans (Eq.trans ?_ (max_snd T hm))
  exact Finset.fold_congr fun j _ => left_at T hm j

theorem onBest_at (j : Fin 128) (p q : FVec Ideal S256x128 .f32) :
    select (k0_pay19 (F := Ideal) k0_pay8 (bestLane x g w)) p q (ix2 i j) = if nat j.val = nat a.val then p (ix2 i j) else q (ix2 i j) := by
  refine (choose_eq _ _ _ _ _).trans (if_congr ?_ rfl rfl)
  refine Eq.congr (lane_at i j) ?_
  exact (spread _ _ i j).trans (bestLane_at T hm)

theorem onNext_at (j : Fin 128) (p q : FVec Ideal S256x128 .f32) :
    select (k0_pay20 (F := Ideal) k0_pay8 (nextAt x g w) past) p q (ix2 i j) = if nat j.val = nat b.val then p (ix2 i j) else q (ix2 i j) := by
  refine (choose_eq _ _ _ _ _).trans (if_congr ?_ rfl rfl)
  refine Eq.congr (lane_at i j) ?_
  refine (spread _ _ i j).trans ((min_row _ i).trans (Eq.trans ?_ (min_snd T hm)))
  refine Finset.fold_congr fun j _ => (choose_eq _ _ _ _ _).trans (if_congr ?_ (lane_at i j) bits128)
  refine Eq.congr (left_at T hm j) ?_
  exact (spread _ _ i j).trans (next_at T hm)

/-- The second logit against the first. -/
abbrev ratio (l : Fin 8 → EReal) (a b : Fin 8) : EReal := Ideal.exp (l b - l a)

theorem ratio_at : exp (subf (next x g w) (best x g w)) (ix2 i 0) = ratio (logit x g w i) a b :=
  (ratio_of _ _ _).trans (congrArg₂ (fun p q : EReal => Ideal.exp (p - q)) (next_at T hm) (best_at T hm))

theorem gateFst_at : gateFst x g w (ix2 i 0) = Ideal.div 1 (1 + ratio (logit x g w i) a b) :=
  (gate_of _ _).trans (congrArg (fun r => Ideal.div 1 (1 + r)) (ratio_at T hm))

theorem gates_at (j : Fin 128) : gates x g w (ix2 i j)
    = if nat j.val = nat a.val then Ideal.div 1 (1 + ratio (logit x g w i) a b)
      else if nat j.val = nat b.val then ratio (logit x g w i) a b * Ideal.div 1 (1 + ratio (logit x g w i) a b) else 0 := by
  refine (onBest_at T hm j (column (gateFst x g w)) _).trans (if_congr Iff.rfl ?_ ?_)
  · exact (column_at _ i j).trans (gateFst_at T hm)
  · refine (onNext_at T hm j (column (mulf (exp (subf (next x g w) (best x g w))) (gateFst x g w))) _).trans (if_congr Iff.rfl ?_ ?_)
    · refine (column_at _ i j).trans ?_
      exact (times_of _ _ _).trans (congrArg₂ (fun p q : EReal => p * q) (ratio_at T hm) (gateFst_at T hm))
    · exact Ideal.ofBits_zero_f32

theorem chosen_at (j : Fin 128) : chosen x g w (ix2 i j) = if nat j.val = nat a.val then 1 else if nat j.val = nat b.val then 1 else 0 := by
  refine (onBest_at T hm j _ _).trans (if_congr Iff.rfl ?_ ((onNext_at T hm j _ _).trans (if_congr Iff.rfl ?_ ?_)))
  · exact Ideal.ofBits_one_f32
  · exact Ideal.ofBits_one_f32
  · exact Ideal.ofBits_zero_f32

end

variable (u : Vec Ideal S256x256 .bf16) (s : Vec Ideal S1x128 .f32)

theorem rounded {t : Shape} (p : FVec Ideal t .f32) (h) (i : t.Idx) : (truncf .bf16 p h : FVec Ideal t .bf16) i = p i := rfl

theorem ranks_at (i : Fin 256) (j : Fin 128) : ranks x g w u s (ix2 i j)
    = if 0 < chosen x g w (ix2 i j) then s (ix2 0 j) + ∑ k : Fin 256, u (ix2 i k) * chosen x g w (ix2 k j)
      else Ideal.ofBits .f32 0xBF800000#32 := by
  refine (choose_gt _ _ _ _ _).trans (if_congr ?_ ?_ rfl)
  · show Ideal.ofBits .f32 0x00000000#32 < _ ↔ _
    rw [Ideal.ofBits_zero_f32]
  · refine congrArg₂ (fun p q : EReal => p + q) ?_ ?_
    · refine broadcastTo_apply _ _ (ix2 i j) (ix2 0 j) fun a => ?_
      match a with
      | ⟨0, _⟩ => rfl
      | ⟨1, _⟩ => rfl
    · refine (Ideal.matmul_plain_apply (M := 256) (K := 256) (N := 128) none _ _ _ i j).trans ?_
      rw [constant_apply, Ideal.ofBits_zero_f32, zero_add]
      exact Finset.sum_congr rfl fun k _ => congrArg₂ (fun p q : EReal => p * q) rfl (rounded _ _ _)

theorem counted_at (j : Fin 128) : counted x g w s (ix2 0 j) = s (ix2 0 j) + ∑ i : Fin 256, chosen x g w (ix2 i j) := by
  refine congrArg (s (ix2 0 j) + ·) ?_
  refine (shapeCast_apply _ shapeCasts_S128_S1x128 (ix2 (0 : Fin 1) j) (ix1 j) ?_).trans ?_
  · rw [Shape.rowMajor_val_two, Shape.rowMajor_val_one]
    show j.val = 0 * 128 + j.val
    omega
  · refine (Ideal.multiReduction_add_single _ _ reduces_S256x128_S128 (.inl rfl) rfl (ix1 j)).trans (Finset.sum_congr rfl fun i _ => ?_)
    exact congrArg (chosen x g w) (lift_col _ j i)

end Cert.RouterIdeal.Block

end
-- ==== Proof.Router.Cells.lean ====
/-
  What the router's printed table should hold: in row i, at place k, the word of one for k < i and the word of zero elsewhere.
-/
module

public import proofs.«01_k».proof.RouterIdeal
public import Mathlib.Tactic.IntervalCases

@[expose] public section

set_option maxRecDepth 16384

namespace Cert.RouterIdeal.Table

open Cert.RouterIdeal

/-- Whether every number below `n` has the property. -/
def every (p : ℕ → Bool) : ℕ → Bool
  | 0 => true
  | n + 1 => p n && every p n

theorem of_every (p : ℕ → Bool) : ∀ n, every p n = true → ∀ k < n, p k = true
  | 0, _, _, h => absurd h (Nat.not_lt_zero _)
  | n + 1, h, k, hk => by
    have h' : (p n && every p n) = true := h
    rw [Bool.and_eq_true] at h'
    rcases Nat.lt_succ_iff_lt_or_eq.1 hk with l | rfl
    · exact of_every p n h'.2 k l
    · exact h'.1

/-- Entry `(i, k)` of the table is what it should be. -/
noncomputable def cell (i k : ℕ) : Bool := Nat.beq (lit0t (256 * i + k)).toNat (bif Nat.blt k i then 16256 else 0)

/-- The sixteen rows from `16 * b` on are what they should be. -/
noncomputable def rows (b : ℕ) : Bool := every (fun i => every (cell (16 * b + i)) 256) 16

end Cert.RouterIdeal.Table

end
-- ==== Proof.Router.RowsA.lean ====
/-
  Rows 0 to 63 of the router's table.
-/
module

public import proofs.«01_k».proof.Proof.Router.Cells

@[expose] public section

set_option maxHeartbeats 40000000

namespace Cert.RouterIdeal.Table

theorem rows_a : ∀ b < 4, rows b = true := by
  intro b hb
  interval_cases b <;> decide +kernel

end Cert.RouterIdeal.Table

end
-- ==== Proof.Router.RowsB.lean ====
/-
  Rows 64 to 127 of the router's table.
-/
module

public import proofs.«01_k».proof.Proof.Router.Cells

@[expose] public section

set_option maxHeartbeats 40000000

namespace Cert.RouterIdeal.Table

theorem rows_b : ∀ b < 8, 4 ≤ b → rows b = true := by
  intro b hb hl
  interval_cases b <;> decide +kernel

end Cert.RouterIdeal.Table

end
-- ==== Proof.Router.RowsC.lean ====
/-
  Rows 128 to 191 of the router's table.
-/
module

public import proofs.«01_k».proof.Proof.Router.Cells

@[expose] public section

set_option maxHeartbeats 40000000

namespace Cert.RouterIdeal.Table

theorem rows_c : ∀ b < 12, 8 ≤ b → rows b = true := by
  intro b hb hl
  interval_cases b <;> decide +kernel

end Cert.RouterIdeal.Table

end
-- ==== Proof.Router.RowsD.lean ====
/-
  Rows 192 to 255 of the router's table.
-/
module

public import proofs.«01_k».proof.Proof.Router.Cells

@[expose] public section

set_option maxHeartbeats 40000000

namespace Cert.RouterIdeal.Table

theorem rows_d : ∀ b < 16, 12 ≤ b → rows b = true := by
  intro b hb hl
  interval_cases b <;> decide +kernel

end Cert.RouterIdeal.Table

end
-- ==== Proof.Router.Table.lean ====
/-
  The router's printed table: entry (i, k), row-major, is the word of one for k < i and the word of zero elsewhere.
-/
module

public import proofs.«01_k».proof.Proof.Router.RowsA
public import proofs.«01_k».proof.Proof.Router.RowsB
public import proofs.«01_k».proof.Proof.Router.RowsC
public import proofs.«01_k».proof.Proof.Router.RowsD

@[expose] public section

namespace Cert.RouterIdeal.Table

open Cert.RouterIdeal

theorem rows_at (b : ℕ) (hb : b < 16) : rows b = true := by
  rcases Nat.lt_or_ge b 8 with l | l
  · rcases Nat.lt_or_ge b 4 with l' | l'
    · exact rows_a b l'
    · exact rows_b b l l'
  · rcases Nat.lt_or_ge b 12 with l' | l'
    · exact rows_c b l' l
    · exact rows_d b hb l'

/-- Entry `(i, k)` of the table: the word of one under the diagonal, the word of zero elsewhere. -/
theorem table_at (i k : ℕ) (hi : i < 256) (hk : k < 256) : lit0t (256 * i + k) = if k < i then 0x3F80#16 else 0x0000#16 := by
  have hb : rows (i / 16) = true := rows_at _ (by omega)
  have hc := of_every _ 256 (of_every _ 16 hb (i % 16) (Nat.mod_lt _ (by decide))) k hk
  rw [show 16 * (i / 16) + i % 16 = i from Nat.div_add_mod i 16] at hc
  have hn : (lit0t (256 * i + k)).toNat = bif Nat.blt k i then 16256 else 0 := Nat.eq_of_beq_eq_true hc
  refine BitVec.eq_of_toNat_eq (hn.trans ?_)
  by_cases h : k < i
  · rw [if_pos h, Nat.blt_eq.mpr h]; rfl
  · rw [if_neg h, Bool.eq_false_iff.2 (fun q => h (Nat.blt_eq.mp q))]; rfl

end Cert.RouterIdeal.Table

end
-- ==== Proof.Router.Entry.lean ====
/-
  What the router's call finds in its operands: the gain as a row, the router's weights transposed, and ones under the diagonal.
-/
module

public import proofs.«01_k».proof.Proof.Norm
public import proofs.«01_k».proof.Proof.Router.Table
public import Idealize.ShloMosaic.Lib.IdealHost
public import proofs.«01_k».proof.Proof.Gen.RouterIdeal.Value
public import Idealize.ShloMosaic.Lib.KernelVsHost
public import Idealize.ShloMosaic.Lib.Claim

@[expose] public section

set_option maxRecDepth 16384

noncomputable section

namespace Cert.RouterIdeal.Route

open Idealize.ShloMosaic Idealize.ShloMosaic.TcCoe Idealize.ShloMosaic.ValueIdx
open Idealize.ShloMosaic.Pipeline (Dat)
open Cert.RouterIdeal Cert.RouterIdeal.Gen Cert.Norm
open scoped BigOperators

variable (m : (ℓ : Loc nD τ sig) → Buf (Elt Ideal) ℓ) (c : Dev nD)

/-- The arguments, as functions of their indices. -/
abbrev tokens : S32768x1024.Idx → EReal := m ((c : Thread nD τ).loc main_arg0)
abbrev gain : S1024.Idx → EReal := m ((c : Thread nD τ).loc main_arg1)
abbrev router : S1024x8.Idx → EReal := m ((c : Thread nD τ).loc main_arg2)

/-- The normed row `r`, and its logits. -/
abbrev normed (r : Fin 32768) : Fin 1024 → EReal := norm (fun k => tokens m c (ix2 r k)) (fun k => gain m c (ix1 k))
abbrev score (r : Fin 32768) (e : Fin 8) : EReal := ∑ k : Fin 1024, normed m c r k * router m c (ix2 k e)

/-! ## The arrays the call reads, after the host operations -/

/-- Ones under the diagonal, as the table has them. -/
def under : FVec Ideal S256x256 .bf16 := fun y => FloatOps.ofBits .bf16 (lit0 (S256x256.rowMajor y))

theorem entry_of (n : Fin 65536) (j : ℕ) (h : n.val = j) : lit0 n = lit0t j := by
  subst h
  rfl

theorem under_at (i k : Fin 256) : under (ix2 i k) = (if k.val < i.val then 1 else 0 : EReal) := by
  have hw : lit0 (S256x256.rowMajor (ix2 i k)) = if k.val < i.val then 0x3F80#16 else 0x0000#16 := by
    refine (entry_of _ (256 * i.val + k.val) ?_).trans (Table.table_at i.val k.val i.isLt k.isLt)
    refine (Shape.rowMajor_val_two _).trans ?_
    show i.val * 256 + k.val = 256 * i.val + k.val
    omega
  refine (congrArg (Ideal.ofBits .bf16) hw).trans ?_
  by_cases h : k.val < i.val
  · rw [if_pos h, if_pos h]; exact Ideal.ofBits_one_bf16
  · rw [if_neg h, if_neg h]; exact Ideal.ofBits_zero_bf16

theorem entry_gain : (V m c main_v0 : S1x1024.Idx → EReal) = shapeCast S1x1024 (gain m c) shapeCasts_S1024_S1x1024 := by
  show StableHlo.after hostOps0 (fun b => m (c, b)) (Proc.devRef .tc main_v0) = _
  after_results
  rfl
theorem entry_router : (V m c main_v1 : S8x1024.Idx → EReal) = transpose S8x1024 [1, 0] (router m c) transposes_S1024x8_S8x1024_1_0 := by
  show StableHlo.after hostOps0 (fun b => m (c, b)) (Proc.devRef .tc main_v1) = _
  after_results
theorem entry_under : (V m c main_cst : S256x256.Idx → EReal) = under := by
  show StableHlo.after hostOps0 (fun b => m (c, b)) (Proc.devRef .tc main_cst) = _
  after_results
  rfl

/-! ## Where a point's blocks lie -/

theorem coord (t : Fin cfg0.N) : (BitVec.ofNat 32 (grid0.coords t 0).val).toNat = t.val := by
  have ht : t.val < 128 := Nat.lt_of_lt_of_eq t.isLt N_0
  have e0 : (grid0.coords t 0).val = t.val / 1 % 128 := Pipeline.Grid.coords_val t 0 (by decide) rfl
  rw [BitVec.toNat_ofNat]
  omega

theorem row_lt (t : Fin cfg0.N) (i : Fin 256) : 256 * t.val + i.val < 32768 := by
  have ht : t.val < 128 := Nat.lt_of_lt_of_eq t.isLt N_0
  have := i.isLt; omega

/-- The array's row that row `i` of point `t`'s block is. -/
abbrev rowOf (t : Fin cfg0.N) (i : Fin 256) : Fin 32768 := ⟨256 * t.val + i.val, row_lt t i⟩

theorem place_x (t : Fin cfg0.N) (i : Fin 256) (j : Fin 1024) :
    ((cfg0.win 0).blk t).view.emb (ix2 i j) = (ix2 (rowOf t i) j : S32768x1024.Idx) := by
  have h0 := coord t
  funext a
  apply Fin.ext
  match a with
  | ⟨0, _⟩ => show (BitVec.ofNat 32 (grid0.coords t 0).val).toNat * 256 + 1 * i.val = 256 * t.val + i.val; rw [h0]; omega
  | ⟨1, _⟩ => show 0 * 1024 + 1 * j.val = j.val; omega
theorem place_hn (t : Fin cfg0.N) (i : Fin 256) (j : Fin 1024) :
    ((cfg0.win 4).blk t).view.emb (ix2 i j) = (ix2 (rowOf t i) j : S32768x1024.Idx) := place_x t i j
theorem place_rank (t : Fin cfg0.N) (i : Fin 256) (e : Fin 8) :
    ((cfg0.win 5).blk t).view.emb (ix2 i e) = (ix2 (rowOf t i) e : S32768x8.Idx) := by
  have h0 := coord t
  funext a
  apply Fin.ext
  match a with
  | ⟨0, _⟩ => show (BitVec.ofNat 32 (grid0.coords t 0).val).toNat * 256 + 1 * i.val = 256 * t.val + i.val; rw [h0]; omega
  | ⟨1, _⟩ => show 0 * 8 + 1 * e.val = e.val; omega
theorem place_gate (t : Fin cfg0.N) (i : Fin 256) (e : Fin 8) :
    ((cfg0.win 6).blk t).view.emb (ix2 i e) = (ix2 (rowOf t i) e : S32768x8.Idx) := place_rank t i e
theorem place_count (t : Fin cfg0.N) (p q : Fin 1) (j : Fin 128) :
    ((cfg0.win 7).blk t).view.emb (ix3 p q j) = (ix3 (⟨t.val, Nat.lt_of_lt_of_eq t.isLt N_0⟩ : Fin 128) q j : S128x1x128.Idx) := by
  have h0 := coord t
  have hp := p.isLt
  funext a
  apply Fin.ext
  match a with
  | ⟨0, _⟩ => show (BitVec.ofNat 32 (grid0.coords t 0).val).toNat * 1 + 1 * p.val = t.val; rw [h0]; omega
  | ⟨1, _⟩ => show 0 * 1 + 1 * q.val = q.val; omega
  | ⟨2, _⟩ => show 0 * 128 + 1 * j.val = j.val; omega

theorem place_g (t : Fin cfg0.N) (y : S1x1024.Idx) : ((cfg0.win 1).blk t).view.emb y = y := by
  funext a
  apply Fin.ext
  match a with
  | ⟨0, _⟩ => show 0 * 1 + 1 * (y 0).val = (y 0).val; omega
  | ⟨1, _⟩ => show 0 * 1024 + 1 * (y 1).val = (y 1).val; omega
theorem place_w (t : Fin cfg0.N) (y : S8x1024.Idx) : ((cfg0.win 2).blk t).view.emb y = y := by
  funext a
  apply Fin.ext
  match a with
  | ⟨0, _⟩ => show 0 * 8 + 1 * (y 0).val = (y 0).val; omega
  | ⟨1, _⟩ => show 0 * 1024 + 1 * (y 1).val = (y 1).val; omega
theorem place_u (t : Fin cfg0.N) (y : S256x256.Idx) : ((cfg0.win 3).blk t).view.emb y = y := by
  funext a
  apply Fin.ext
  match a with
  | ⟨0, _⟩ => show 0 * 256 + 1 * (y 0).val = (y 0).val; omega
  | ⟨1, _⟩ => show 0 * 256 + 1 * (y 1).val = (y 1).val; omega

theorem blk_x (t : Fin cfg0.N) (i : Fin 256) (k : Fin 1024) : iblk m c 0 t (ix2 i k) = tokens m c (ix2 (rowOf t i) k) := by
  rw [← show V m c main_arg0 = tokens m c from V_main_arg0 m c]
  exact congrArg (V m c main_arg0 : S32768x1024.Idx → EReal) (place_x t i k)
theorem blk_g (t : Fin cfg0.N) (k : Fin 1024) : iblk m c 1 t (ix2 0 k) = gain m c (ix1 k) := by
  refine (congrArg (V m c main_v0 : S1x1024.Idx → EReal) (place_g t (ix2 0 k))).trans ?_
  rw [entry_gain]
  refine shapeCast_apply _ _ _ _ ?_
  rw [Shape.rowMajor_val_two, Shape.rowMajor_val_one]
  show k.val = 0 * 1024 + k.val
  omega
theorem blk_w (t : Fin cfg0.N) (e : Fin 8) (k : Fin 1024) : iblk m c 2 t (ix2 e k) = router m c (ix2 k e) := by
  refine (congrArg (V m c main_v1 : S8x1024.Idx → EReal) (place_w t (ix2 e k))).trans ?_
  rw [entry_router]
  refine transpose_apply _ _ _ _ _ fun a => ?_
  match a with
  | ⟨0, _⟩ => rfl
  | ⟨1, _⟩ => rfl
theorem read_u (A : (⟨S256x256, .bf16⟩ : BufTy).Contents (Elt Ideal)) (t : Fin cfg0.N) (y : S256x256.Idx) :
    (((cfg0.win 3).blk t).view.read (Elt Ideal) A : S256x256.Idx → EReal) y = (A : S256x256.Idx → EReal) y :=
  congrArg (A : S256x256.Idx → EReal) (place_u t y)
theorem found_u (t : Fin cfg0.N) (y : S256x256.Idx) :
    (iblk m c 3 t : S256x256.Idx → EReal) y = (V m c (Pipeline.arrRef spec0 3) : S256x256.Idx → EReal) y :=
  read_u (V m c (Pipeline.arrRef spec0 3)) t y
theorem array_u : (V m c (Pipeline.arrRef spec0 3) : S256x256.Idx → EReal) = under := entry_under m c
theorem blk_u (t : Fin cfg0.N) (i k : Fin 256) :
    (iblk m c 3 t : S256x256.Idx → EReal) (ix2 i k) = (if k.val < i.val then 1 else 0 : EReal) := by
  rw [found_u, array_u]
  exact under_at i k

/-! ## The result arrays, over what every point leaves -/

theorem array_hn (G : S32768x1024.Idx → EReal)
    (h : ∀ (t : Fin cfg0.N) (i : Fin 256) (j : Fin 1024), (outsAt0 m c t.val t.isLt).1 (ix2 i j) = G (ix2 (rowOf t i) j)) :
    (dats m 0 c).arrAt 4 cfg0.N = G := by
  refine (dats m 0 c).arrAt_eq_of_cover 4 G (fun t hf => ?_) (fun x => ?_)
  · rw [Value.flushed4]
    funext y
    obtain ⟨i, j, rfl⟩ : ∃ (i : Fin 256) (j : Fin 1024), y = ix2 i j := ⟨y 0, y 1, eq_ix2 y⟩
    exact (h t i j).trans (congrArg G (place_hn t i j)).symm
  · obtain ⟨r, j, rfl⟩ : ∃ (i : Fin 32768) (j : Fin 1024), x = ix2 i j := ⟨x 0, x 1, eq_ix2 x⟩
    have hr := r.isLt
    have ht : r.val / 256 < cfg0.N := Nat.lt_of_lt_of_eq (by omega : r.val / 256 < 128) N_0.symm
    refine ⟨⟨r.val / 256, ht⟩, (by decide +kernel : ∀ t : Fin cfg0.N, (cfg0.win 4).flush t = true) _, ?_⟩
    have e : ((cfg0.win 4).blk ⟨r.val / 256, ht⟩).view.emb (ix2 (⟨r.val % 256, Nat.mod_lt _ (by decide)⟩ : Fin 256) j) = (ix2 r j : S32768x1024.Idx) := by
      rw [place_hn]
      refine congrArg (fun q => (ix2 q j : S32768x1024.Idx)) (Fin.ext ?_)
      show 256 * (r.val / 256) + r.val % 256 = r.val
      omega
    exact e ▸ View.emb_mem_set _ _

theorem array_rank (G : S32768x8.Idx → BitVec 32)
    (h : ∀ (t : Fin cfg0.N) (i : Fin 256) (j : Fin 8), (outsAt0 m c t.val t.isLt).2.1 (ix2 i j) = G (ix2 (rowOf t i) j)) :
    (dats m 0 c).arrAt 5 cfg0.N = G := by
  refine (dats m 0 c).arrAt_eq_of_cover 5 G (fun t hf => ?_) (fun x => ?_)
  · rw [Value.flushed5]
    funext y
    obtain ⟨i, j, rfl⟩ : ∃ (i : Fin 256) (j : Fin 8), y = ix2 i j := ⟨y 0, y 1, eq_ix2 y⟩
    exact (h t i j).trans (congrArg G (place_rank t i j)).symm
  · obtain ⟨r, j, rfl⟩ : ∃ (i : Fin 32768) (j : Fin 8), x = ix2 i j := ⟨x 0, x 1, eq_ix2 x⟩
    have hr := r.isLt
    have ht : r.val / 256 < cfg0.N := Nat.lt_of_lt_of_eq (by omega : r.val / 256 < 128) N_0.symm
    refine ⟨⟨r.val / 256, ht⟩, (by decide +kernel : ∀ t : Fin cfg0.N, (cfg0.win 5).flush t = true) _, ?_⟩
    have e : ((cfg0.win 5).blk ⟨r.val / 256, ht⟩).view.emb (ix2 (⟨r.val % 256, Nat.mod_lt _ (by decide)⟩ : Fin 256) j) = (ix2 r j : S32768x8.Idx) := by
      rw [place_rank]
      refine congrArg (fun q => (ix2 q j : S32768x8.Idx)) (Fin.ext ?_)
      show 256 * (r.val / 256) + r.val % 256 = r.val
      omega
    exact e ▸ View.emb_mem_set _ _

theorem array_gate (G : S32768x8.Idx → EReal)
    (h : ∀ (t : Fin cfg0.N) (i : Fin 256) (j : Fin 8), (outsAt0 m c t.val t.isLt).2.2.1 (ix2 i j) = G (ix2 (rowOf t i) j)) :
    (dats m 0 c).arrAt 6 cfg0.N = G := by
  refine (dats m 0 c).arrAt_eq_of_cover 6 G (fun t hf => ?_) (fun x => ?_)
  · rw [Value.flushed6]
    funext y
    obtain ⟨i, j, rfl⟩ : ∃ (i : Fin 256) (j : Fin 8), y = ix2 i j := ⟨y 0, y 1, eq_ix2 y⟩
    exact (h t i j).trans (congrArg G (place_gate t i j)).symm
  · obtain ⟨r, j, rfl⟩ : ∃ (i : Fin 32768) (j : Fin 8), x = ix2 i j := ⟨x 0, x 1, eq_ix2 x⟩
    have hr := r.isLt
    have ht : r.val / 256 < cfg0.N := Nat.lt_of_lt_of_eq (by omega : r.val / 256 < 128) N_0.symm
    refine ⟨⟨r.val / 256, ht⟩, (by decide +kernel : ∀ t : Fin cfg0.N, (cfg0.win 6).flush t = true) _, ?_⟩
    have e : ((cfg0.win 6).blk ⟨r.val / 256, ht⟩).view.emb (ix2 (⟨r.val % 256, Nat.mod_lt _ (by decide)⟩ : Fin 256) j) = (ix2 r j : S32768x8.Idx) := by
      rw [place_gate]
      refine congrArg (fun q => (ix2 q j : S32768x8.Idx)) (Fin.ext ?_)
      show 256 * (r.val / 256) + r.val % 256 = r.val
      omega
    exact e ▸ View.emb_mem_set _ _

theorem array_count (G : S128x1x128.Idx → EReal)
    (h : ∀ (t : Fin cfg0.N) (p q : Fin 1) (j : Fin 128),
      (outsAt0 m c t.val t.isLt).2.2.2.1 (ix3 p q j) = G (ix3 (⟨t.val, Nat.lt_of_lt_of_eq t.isLt N_0⟩ : Fin 128) q j)) :
    (dats m 0 c).arrAt 7 cfg0.N = G := by
  refine (dats m 0 c).arrAt_eq_of_cover 7 G (fun t hf => ?_) (fun x => ?_)
  · rw [Value.flushed7]
    funext y
    obtain ⟨p, r, j, rfl⟩ : ∃ (p r : Fin 1) (j : Fin 128), y = ix3 p r j := ⟨y 0, y 1, y 2, eq_ix3 y⟩
    exact (h t p r j).trans (congrArg G (place_count t p r j)).symm
  · obtain ⟨p, r, j, rfl⟩ : ∃ (p : Fin 128) (r : Fin 1) (j : Fin 128), x = ix3 p r j := ⟨x 0, x 1, x 2, eq_ix3 x⟩
    have ht : p.val < cfg0.N := Nat.lt_of_lt_of_eq p.isLt N_0.symm
    refine ⟨⟨p.val, ht⟩, (by decide +kernel : ∀ t : Fin cfg0.N, (cfg0.win 7).flush t = true) _, ?_⟩
    have e : ((cfg0.win 7).blk ⟨p.val, ht⟩).view.emb (ix3 (0 : Fin 1) r j) = (ix3 p r j : S128x1x128.Idx) := place_count _ _ _ _
    exact e ▸ View.emb_mem_set _ _

end Cert.RouterIdeal.Route

end
-- ==== Proof.Router.Plan.lean ====
/-
  What the router computes, over the logits of every row: the counts of rows sent to an expert by the rows before a given
  one, and the gates.
-/
module

public import proofs.«01_k».proof.Proof.Router.Top

@[expose] public section

noncomputable section

namespace Cert.Router.Plan

open Idealize.ShloMosaic Cert.Router.Top
open scoped BigOperators

-- Every row's two experts.
variable (f s : Fin 32768 → Fin 8)

/-- 1 where row `t` goes to expert `e`, else 0. -/
def picked (t e : ℕ) : EReal :=
  if h : t < 32768 then (if nat e = nat (f ⟨t, h⟩).val then 1 else if nat e = nat (s ⟨t, h⟩).val then 1 else 0) else 0

/-- How many of the first `n` rows go to expert `e`. -/
def seen (n e : ℕ) : EReal := ∑ t ∈ Finset.range n, picked f s t e

theorem picked_row (r : Fin 32768) (e : ℕ) :
    picked f s r.val e = if nat e = nat (f r).val then 1 else if nat e = nat (s r).val then 1 else 0 := dif_pos r.isLt

theorem picked_real (t e : ℕ) : ∃ x : ℝ, picked f s t e = x := by
  unfold picked
  split
  · split
    · exact ⟨1, by norm_cast⟩
    · split
      · exact ⟨1, by norm_cast⟩
      · exact ⟨0, by norm_cast⟩
  · exact ⟨0, by norm_cast⟩

theorem seen_real (n e : ℕ) : ∃ x : ℝ, seen f s n e = x := by
  induction n with
  | zero => exact ⟨0, by simp [seen]⟩
  | succ n ih =>
    obtain ⟨x, hx⟩ := ih
    obtain ⟨y, hy⟩ := picked_real f s n e
    refine ⟨x + y, ?_⟩
    unfold seen at hx ⊢
    rw [Finset.sum_range_succ, hx, hy, EReal.coe_add]

theorem seen_block (n e : ℕ) : seen f s (256 * (n + 1)) e = seen f s (256 * n) e + ∑ i : Fin 256, picked f s (256 * n + i.val) e := by
  unfold seen
  rw [show 256 * (n + 1) = 256 * n + 256 by ring, Finset.sum_range_add, ← Finset.sum_range (fun i => picked f s (256 * n + i) e)]

/-- The rows of a block before row `i`, added to the rows before the block. -/
theorem seen_row (n e : ℕ) (i : Fin 256) (u : Fin 256 → EReal) (hu : ∀ k, u k = if k.val < i.val then 1 else 0) :
    seen f s (256 * n) e + ∑ k : Fin 256, u k * picked f s (256 * n + k.val) e = seen f s (256 * n + i.val) e := by
  unfold seen
  rw [Finset.sum_range_add]
  refine congrArg (_ + ·) ?_
  have h1 : ∀ k : Fin 256, u k * picked f s (256 * n + k.val) e = (fun q : ℕ => if q < i.val then picked f s (256 * n + q) e else 0) k.val := fun k => by
    rw [hu k]
    show _ = if k.val < i.val then _ else _
    split
    · rw [one_mul]
    · rw [zero_mul]
  rw [Finset.sum_congr rfl fun k _ => h1 k, ← Finset.sum_range (fun q : ℕ => if q < i.val then picked f s (256 * n + q) e else 0), ← Finset.sum_filter]
  refine Finset.sum_congr ?_ fun _ _ => rfl
  ext q
  have := i.isLt
  simp only [Finset.mem_filter, Finset.mem_range]
  omega

/-- The rank written for row `r` and expert `e`. -/
def rankOf (r : Fin 32768) (e : Fin 8) : BitVec 32 :=
  FloatOps.fptosi (F := Ideal) (φ := .f32) 32 (if 0 < picked f s r.val e.val then seen f s r.val e.val else Ideal.ofBits .f32 0xBF800000#32)

/-- The second logit of a row against its first. -/
abbrev against (l : Fin 8 → EReal) (a b : Fin 8) : EReal := Ideal.exp (l b - l a)

/-- The gate written for row `r` and expert `e`, over the logits `l`. -/
def gateOf (l : Fin 32768 → Fin 8 → EReal) (r : Fin 32768) (e : Fin 8) : EReal :=
  if nat e.val = nat (f r).val then Ideal.div 1 (1 + against (l r) (f r) (s r))
  else if nat e.val = nat (s r).val then against (l r) (f r) (s r) * Ideal.div 1 (1 + against (l r) (f r) (s r)) else 0

end Cert.Router.Plan

end
-- ==== Proof.Router.Value.lean ====
/-
  What the router leaves in its four results, over the logits of every row: block after block, the counts of the rows before
  a block carried from the block before it.
-/
module

public import proofs.«01_k».proof.Proof.Router.Read
public import proofs.«01_k».proof.Proof.Router.Entry
public import proofs.«01_k».proof.Proof.Router.Plan
public import Idealize.ShloMosaic.Lib.KernelVsHost
public import Idealize.ShloMosaic.Lib.Claim

@[expose] public section

set_option maxRecDepth 16384

noncomputable section

namespace Cert.RouterIdeal.Route

open Idealize.ShloMosaic Idealize.ShloMosaic.TcCoe Idealize.ShloMosaic.ValueIdx
open Idealize.ShloMosaic.Pipeline (Dat)
open Cert.RouterIdeal Cert.RouterIdeal.Gen Cert.RouterIdeal.Block Cert.Norm Cert.Router.Top Cert.Router.Plan
open scoped BigOperators

variable (m : (ℓ : Loc nD τ sig) → Buf (Elt Ideal) ℓ) (c : Dev nD)

/-- A block's normed rows and logits are the array's. -/
theorem norm_blk (t : Fin cfg0.N) (i : Fin 256) : normedRow (iblk m c 0 t) (iblk m c 1 t) i = normed m c (rowOf t i) :=
  funext fun k => norm_congr (funext fun k => blk_x m c t i k) (funext fun k => blk_g m c t k) k
theorem logit_blk (t : Fin cfg0.N) (i : Fin 256) : logit (iblk m c 0 t) (iblk m c 1 t) (iblk m c 2 t) i = score m c (rowOf t i) :=
  funext fun e => Finset.sum_congr rfl fun k _ => congrArg₂ (fun p q : EReal => p * q) (congrFun (norm_blk m c t i) k) (blk_w m c t e k)

/-! ## What a point leaves -/

theorem times (p : EReal) {q r : EReal} (h : q = r) : p * q = p * r := h ▸ rfl

theorem stored_hn (x : Vec Ideal S256x1024 .f32) (g : Vec Ideal S1x1024 .f32) : k0_pay7 x g = truncf .bf16 (k0_pay6 x g) bitsLt_bf16_f32 := rfl
theorem stored_hn_at (x : Vec Ideal S256x1024 .f32) (g : Vec Ideal S1x1024 .f32) (y : S256x1024.Idx) : k0_pay7 x g y = k0_pay6 x g y :=
  (congrFun (stored_hn x g) y).trans (rounded (k0_pay6 x g) bitsLt_bf16_f32 y)
theorem stored_carry (v : FVec Ideal S1x128 .f32) : k0_pay1 v = v := shapeCast_self v shapeCasts_S1x128_S1x128
theorem stored_rank (v : FVec Ideal S256x128 .f32) :
    k0_pay2 v = fptosi 32 (extractStridedSlice S256x8 ![0, 0] v slices_S256x128_o0_0_S256x8) := rfl
theorem stored_gate (v : FVec Ideal S256x128 .f32) : k0_pay3 v = extractStridedSlice S256x8 ![0, 0] v slices_S256x128_o0_0_S256x8 := rfl
theorem stored_count (v : FVec Ideal S1x128 .f32) : k0_pay4 v = shapeCast S1x1x128 v shapeCasts_S1x128_S1x1x128 := rfl
theorem stored_fresh : k0_pay5 (F := Ideal) = broadcast S1x128 (Scalar.ofBits (F := Ideal) .f32 0x00000000#32) :=
  shapeCast_self _ shapeCasts_S1x128_S1x128

/-- A point's four outputs and the counts it carries on, over the counts `s` it finds. -/
abbrev left (t : Fin cfg0.N) (s : Vec Ideal S1x128 .f32) :
    Vec Ideal S256x1024 .bf16 × Vec Ideal S256x8 .i32 × Vec Ideal S256x8 .f32 × Vec Ideal S1x1x128 .f32 × Vec Ideal S1x128 .f32 :=
  (k0_pay7 (iblk m c 0 t) (iblk m c 1 t),
    k0_pay2 (ranks (iblk m c 0 t) (iblk m c 1 t) (iblk m c 2 t) (iblk m c 3 t) s),
    k0_pay3 (gates (iblk m c 0 t) (iblk m c 1 t) (iblk m c 2 t)),
    k0_pay4 (counted (iblk m c 0 t) (iblk m c 1 t) (iblk m c 2 t) s),
    k0_pay1 (counted (iblk m c 0 t) (iblk m c 1 t) (iblk m c 2 t) s))

theorem left_A (t : Fin cfg0.N) (h0 : t.val % 128 = 0) : outsAt0 m c t.val t.isLt = left m c t (k0_pay5 (F := Ideal)) := by
  rw [outsAt0_A m c t h0, at_A_4, at_A_5, at_A_6, at_A_7, at_A_s]
theorem left_B (t : Fin cfg0.N) (h0 : ¬t.val % 128 = 0) :
    outsAt0 m c t.val t.isLt = left m c t (outsAt0 m c (t.val - 1) (Nat.lt_of_le_of_lt (Nat.sub_le _ _) t.isLt)).2.2.2.2 := by
  rw [outsAt0_B m c t h0, at_B_4, at_B_5, at_B_6, at_B_7, at_B_s]

theorem fresh_at (j : Fin 128) : k0_pay5 (F := Ideal) (ix2 0 j) = 0 := by
  rw [stored_fresh]
  exact Ideal.ofBits_zero_f32

variable {f s : Fin 32768 → Fin 8} (T : ∀ r, Top (score m c r) (f r) (s r)) (hm : ∀ r e, mask < score m c r e)
include T hm

theorem top_blk (t : Fin cfg0.N) (i : Fin 256) :
    Top (logit (iblk m c 0 t) (iblk m c 1 t) (iblk m c 2 t) i) (f (rowOf t i)) (s (rowOf t i)) := logit_blk m c t i ▸ T (rowOf t i)
theorem above_blk (t : Fin cfg0.N) (i : Fin 256) (e : Fin 8) : mask < logit (iblk m c 0 t) (iblk m c 1 t) (iblk m c 2 t) i e :=
  lt_of_lt_of_eq (hm (rowOf t i) e) (congrFun (logit_blk m c t i) e).symm

theorem chosen_blk (t : Fin cfg0.N) (i : Fin 256) (j : Fin 128) :
    chosen (iblk m c 0 t) (iblk m c 1 t) (iblk m c 2 t) (ix2 i j) = picked f s (256 * t.val + i.val) j.val :=
  (chosen_at (top_blk m c T hm t i) (above_blk m c T hm t i) j).trans (picked_row f s (rowOf t i) j.val).symm

theorem counted_blk (t : Fin cfg0.N) (q : Vec Ideal S1x128 .f32) (hq : ∀ j : Fin 128, q (ix2 0 j) = seen f s (256 * t.val) j.val) (j : Fin 128) :
    counted (iblk m c 0 t) (iblk m c 1 t) (iblk m c 2 t) q (ix2 0 j) = seen f s (256 * (t.val + 1)) j.val := by
  refine (counted_at _ _ _ q j).trans ?_
  rw [seen_block, hq j]
  exact congrArg (_ + ·) (Finset.sum_congr rfl fun i _ => chosen_blk m c T hm t i j)

/-- Every point finds the counts of the rows before its block. -/
theorem left_at (n : ℕ) : ∀ hn : n < cfg0.N, ∃ q : Vec Ideal S1x128 .f32,
    (∀ j : Fin 128, q (ix2 0 j) = seen f s (256 * n) j.val) ∧ outsAt0 m c n hn = left m c ⟨n, hn⟩ q := by
  induction n with
  | zero =>
    intro hn
    refine ⟨_, fun j => ?_, left_A m c ⟨0, hn⟩ rfl⟩
    rw [fresh_at j]
    simp [seen]
  | succ n ih =>
    intro hn
    have h128 : n + 1 < 128 := Nat.lt_of_lt_of_eq hn N_0
    obtain ⟨q, hq, e⟩ := ih (Nat.lt_of_succ_lt hn)
    refine ⟨_, fun j => ?_, left_B m c ⟨n + 1, hn⟩ (by show ¬(n + 1) % 128 = 0; omega)⟩
    show (outsAt0 m c n _).2.2.2.2 (ix2 0 j) = _
    rw [e]
    show k0_pay1 (counted (iblk m c 0 ⟨n, _⟩) (iblk m c 1 ⟨n, _⟩) (iblk m c 2 ⟨n, _⟩) q) (ix2 0 j) = _
    rw [stored_carry]
    exact counted_blk m c T hm ⟨n, Nat.lt_of_succ_lt hn⟩ q hq j

theorem rank_blk (t : Fin cfg0.N) (q : Vec Ideal S1x128 .f32) (hq : ∀ j : Fin 128, q (ix2 0 j) = seen f s (256 * t.val) j.val)
    (i : Fin 256) (e : Fin 8) :
    k0_pay2 (ranks (iblk m c 0 t) (iblk m c 1 t) (iblk m c 2 t) (iblk m c 3 t) q) (ix2 i e) = rankOf f s (rowOf t i) e := by
  rw [stored_rank]
  refine congrArg (FloatOps.fptosi (F := Ideal) (φ := .f32) 32) ?_
  refine (extractStridedSlice_apply _ _ _ (ix2 i e) (ix2 i (up e)) fun a => ?_).trans ?_
  · match a with
    | ⟨0, _⟩ => exact (Nat.zero_add _).symm
    | ⟨1, _⟩ => exact (Nat.zero_add _).symm
  · refine (ranks_at _ _ _ _ q i (up e)).trans (if_congr ?_ ?_ rfl)
    · rw [chosen_blk m c T hm t i (up e)]
      exact Iff.rfl
    · refine Eq.trans ?_ (seen_row f s t.val e.val i (fun k => iblk m c 3 t (ix2 i k)) fun k => blk_u m c t i k)
      refine congrArg₂ (fun p q : EReal => p + q) (hq _) (Finset.sum_congr rfl fun k _ => ?_)
      exact times _ (chosen_blk m c T hm t k (up e))

theorem gate_blk (t : Fin cfg0.N) (i : Fin 256) (e : Fin 8) :
    k0_pay3 (gates (iblk m c 0 t) (iblk m c 1 t) (iblk m c 2 t)) (ix2 i e) = gateOf f s (score m c) (rowOf t i) e := by
  rw [stored_gate]
  refine (extractStridedSlice_apply _ _ _ (ix2 i e) (ix2 i (up e)) fun a => ?_).trans ?_
  · match a with
    | ⟨0, _⟩ => exact (Nat.zero_add _).symm
    | ⟨1, _⟩ => exact (Nat.zero_add _).symm
  · refine (gates_at (top_blk m c T hm t i) (above_blk m c T hm t i) (up e)).trans ?_
    rw [logit_blk]
    rfl

theorem count_blk (t : Fin cfg0.N) (q : Vec Ideal S1x128 .f32) (hq : ∀ j : Fin 128, q (ix2 0 j) = seen f s (256 * t.val) j.val)
    (p r : Fin 1) (j : Fin 128) :
    k0_pay4 (counted (iblk m c 0 t) (iblk m c 1 t) (iblk m c 2 t) q) (ix3 p r j) = seen f s (256 * (t.val + 1)) j.val := by
  rw [stored_count]
  refine (shapeCast_apply _ shapeCasts_S1x128_S1x1x128 (ix3 p r j) (ix2 0 j) ?_).trans (counted_blk m c T hm t q hq j)
  have hp := p.isLt
  have hr := r.isLt
  rw [Shape.rowMajor_val_two, Shape.rowMajor_val_three]
  show 0 * 128 + j.val = (p.val * 1 + r.val) * 128 + j.val
  omega

/-! ## The result arrays -/

theorem final_rank : (dats m 0 c).arrAt 5 cfg0.N = fun y : S32768x8.Idx => rankOf f s (y 0) (y 1) :=
  array_rank m c _ fun t i j => by
    obtain ⟨q, hq, e⟩ := left_at m c T hm t.val t.isLt
    rw [e]
    exact rank_blk m c T hm t q hq i j
theorem final_gate : (dats m 0 c).arrAt 6 cfg0.N = fun y : S32768x8.Idx => gateOf f s (score m c) (y 0) (y 1) :=
  array_gate m c (fun y : S32768x8.Idx => gateOf f s (score m c) (y 0) (y 1)) fun t i j => by
    obtain ⟨q, hq, e⟩ := left_at m c T hm t.val t.isLt
    have e' : (outsAt0 m c t.val t.isLt).2.2.1 = k0_pay3 (gates (iblk m c 0 t) (iblk m c 1 t) (iblk m c 2 t)) := by rw [e]
    rw [e', gate_blk m c T hm t i j]
theorem final_count : (dats m 0 c).arrAt 7 cfg0.N = fun y : S128x1x128.Idx => seen f s (256 * ((y 0).val + 1)) (y 2).val :=
  array_count m c _ fun t p r j => by
    obtain ⟨q, hq, e⟩ := left_at m c T hm t.val t.isLt
    rw [e]
    exact count_blk m c T hm t q hq p r j

omit T hm

theorem hn_blk (t : Fin cfg0.N) (i : Fin 256) (j : Fin 1024) : k0_pay7 (iblk m c 0 t) (iblk m c 1 t) (ix2 i j) = normed m c (rowOf t i) j := by
  rw [stored_hn_at, norm_at]
  exact congrFun (norm_blk m c t i) j

theorem final_hn : (dats m 0 c).arrAt 4 cfg0.N = fun y : S32768x1024.Idx => normed m c (y 0) (y 1) :=
  array_hn m c _ fun t i j => by
    have e : (outsAt0 m c t.val t.isLt).1 = k0_pay7 (iblk m c 0 t) (iblk m c 1 t) := by
      by_cases h0 : t.val % 128 = 0
      · rw [left_A m c t h0]
      · rw [left_B m c t h0]
    rw [e]
    exact hn_blk m c t i j

end Cert.RouterIdeal.Route

end
-- ==== Proof.Router.Reference.lean ====
/-
  The router's reference read at an index, over the logits of every row: the sort, the one-hots, their running sum, and the
  softmax of the two logits chosen.
-/
module

public import proofs.«01_k».proof.Proof.Gen.RouterReferenceIdeal
public import proofs.«01_k».proof.Proof.Gen.RouterReferenceIdeal.Run
public import proofs.«01_k».proof.Proof.Router.Read
public import proofs.«01_k».proof.Proof.Router.Plan
public import Idealize.ShloMosaic.Lib.KernelVsHost

@[expose] public section

set_option maxRecDepth 16384

noncomputable section

namespace Cert.RouterReferenceIdeal.Route

open Idealize.ShloMosaic Idealize.ShloMosaic.TcCoe Idealize.ShloMosaic.ValueIdx Idealize.SL.Sem
open Cert.RouterReferenceIdeal Cert.RouterReferenceIdeal.Gen Cert.Norm Cert.Router.Top Cert.Router.Plan
open scoped BigOperators

/-! ## A running sum down the rows -/

theorem running {n q : ℕ} (hq : q + 1 = n) (x : (⟨2, ![n, 8]⟩ : Shape).Idx → EReal)
    (h : (⟨2, ![n, 8]⟩ : Shape).ReduceWindows (![n, 1] : Fin 2 → ℕ) ![1, 1] ![q, 0] ![0, 0] ⟨2, ![n, 8]⟩)
    (r : Fin n) (e : Fin 8) (g : ℕ → EReal) (hg : ∀ t : Fin n, x (ix2 t e) = g t.val) :
    Ideal.hostReduceWindowAdd (![n, 1] : Fin 2 → ℕ) ![1, 1] ![q, 0] ![0, 0] h x 0 (ix2 r e) = ∑ t ∈ Finset.range (r.val + 1), g t := by
  have hr := r.isLt
  have he := e.isLt
  let p (k : (⟨2, ![n, 1]⟩ : Shape).Idx) (a : Fin 2) : ℕ := ((ix2 r e : (⟨2, ![n, 8]⟩ : Shape).Idx) a).val * (![1, 1] : Fin 2 → ℕ) a + (k a).val
  let F (k : (⟨2, ![n, 1]⟩ : Shape).Idx) : EReal :=
    if hin : ∀ a : Fin 2, (![q, 0] : Fin 2 → ℕ) a ≤ p k a ∧ p k a - (![q, 0] : Fin 2 → ℕ) a < (![n, 8] : Fin 2 → ℕ) a
    then x (fun a => ⟨p k a - (![q, 0] : Fin 2 → ℕ) a, (hin a).2⟩) else 0
  have h1 : Ideal.hostReduceWindowAdd (![n, 1] : Fin 2 → ℕ) ![1, 1] ![q, 0] ![0, 0] h x 0 (ix2 r e)
      = (List.finRange (⟨2, ![n, 1]⟩ : Shape).numel).foldl (fun a i => a + F ((⟨2, ![n, 1]⟩ : Shape).rowMajor.symm i)) 0 := by
    unfold Ideal.hostReduceWindowAdd Host.reduceWindow
    refine congrArg (fun f : EReal → Fin (⟨2, ![n, 1]⟩ : Shape).numel → EReal => (List.finRange (⟨2, ![n, 1]⟩ : Shape).numel).foldl f 0)
      (funext fun a => funext fun i => congrArg (fun z : EReal => a + z) ?_)
    by_cases hin : ∀ d : Fin 2, (![q, 0] : Fin 2 → ℕ) d ≤ p ((⟨2, ![n, 1]⟩ : Shape).rowMajor.symm i) d
        ∧ p ((⟨2, ![n, 1]⟩ : Shape).rowMajor.symm i) d - (![q, 0] : Fin 2 → ℕ) d < (![n, 8] : Fin 2 → ℕ) d
    · refine (dif_pos hin).trans ?_
      show _ = dite _ _ _
      rw [dif_pos hin]
      refine congrArg x (funext fun d => Fin.ext ?_)
      match d with
      | ⟨0, _⟩ => rfl
      | ⟨1, _⟩ => rfl
    · refine (dif_neg hin).trans ?_
      show _ = dite _ _ _
      rw [dif_neg hin]
  rw [h1, ← sum_idx_eq_foldl (⟨2, ![n, 1]⟩ : Shape) F, ValueIdx.sum_idx2]
  have h2 : ∀ a : Fin n, ∑ b : Fin 1, F (ix2 a b) = (fun k : ℕ => if q ≤ r.val + k then g (r.val + k - q) else 0) a.val := fun a => by
    have ha := a.isLt
    rw [Fin.sum_univ_one]
    by_cases c : q ≤ r.val + a.val
    · have hin : ∀ d : Fin 2, (![q, 0] : Fin 2 → ℕ) d ≤ p (ix2 a 0) d ∧ p (ix2 a 0) d - (![q, 0] : Fin 2 → ℕ) d < (![n, 8] : Fin 2 → ℕ) d := fun d => by
        match d with
        | ⟨0, _⟩ => show q ≤ r.val * 1 + a.val ∧ r.val * 1 + a.val - q < n; omega
        | ⟨1, _⟩ => show 0 ≤ e.val * 1 + 0 ∧ e.val * 1 + 0 - 0 < 8; omega
      show F (ix2 a 0) = if q ≤ r.val + a.val then _ else _
      rw [if_pos c]
      refine (dif_pos hin).trans ((congrArg x (?_ : _ = ix2 (⟨r.val + a.val - q, by omega⟩ : Fin n) e)).trans (hg _))
      funext d
      apply Fin.ext
      match d with
      | ⟨0, _⟩ => show r.val * 1 + a.val - q = r.val + a.val - q; omega
      | ⟨1, _⟩ => show e.val * 1 + 0 - 0 = e.val; omega
    · show F (ix2 a 0) = if q ≤ r.val + a.val then _ else _
      rw [if_neg c]
      refine dif_neg fun hin => c ?_
      have := (hin 0).1
      change q ≤ r.val * 1 + a.val at this
      omega
  rw [Finset.sum_congr rfl fun a _ => h2 a, ← Finset.sum_range (fun k : ℕ => if q ≤ r.val + k then g (r.val + k - q) else 0)]
  refine (congrArg (fun k : ℕ => ∑ i ∈ Finset.range k, if q ≤ r.val + i then g (r.val + i - q) else 0)
    (show n = (q - r.val) + (r.val + 1) by omega)).trans ?_
  show (∑ i ∈ Finset.range ((q - r.val) + (r.val + 1)), if q ≤ r.val + i then g (r.val + i - q) else 0) = _
  rw [Finset.sum_range_add, Finset.sum_eq_zero, zero_add]
  · refine Finset.sum_congr rfl fun t ht => ?_
    have := Finset.mem_range.1 ht
    rw [if_pos (by omega)]
    exact congrArg g (by omega)
  · intro t ht
    have := Finset.mem_range.1 ht
    exact if_neg (by omega)

theorem summed {n q : ℕ} (h : (⟨2, ![n, 8]⟩ : Shape).ReduceWindows (![n, 1] : Fin 2 → ℕ) ![1, 1] ![q, 0] ![0, 0] ⟨2, ![n, 8]⟩)
    (v : FVec Ideal ⟨2, ![n, 8]⟩ .f32) (u : FVec Ideal ⟨0, ![]⟩ .f32) (hu : 0 < (⟨0, ![]⟩ : Shape).numel) (y : (⟨2, ![n, 8]⟩ : Shape).Idx) :
    Host.reduceWindowAdd (![n, 1] : Fin 2 → ℕ) ![1, 1] ![q, 0] ![0, 0] v u h hu y
      = Ideal.hostReduceWindowAdd (![n, 1] : Fin 2 → ℕ) ![1, 1] ![q, 0] ![0, 0] h v (u (Shape.Idx.first hu)) y := rfl

/-! ## The reference's terms, over the logits -/

/-- The rows' norms. -/
def normed (x : FVec Ideal S32768x1024 .f32) (g : FVec Ideal S1024 .f32) : FVec Ideal S32768x1024 .f32 :=
  mulf (mulf x (broadcastInDim S32768x1024 ![0, 1] bcast_S32768x1_S32768x1024_0_1 (Host.rsqrt (addf (Host.divf
      (broadcastInDim S32768x1 ![0] bcast_S32768_S32768x1_0 (Host.reduceAdd (mulf x x) (constant S_ .f32 0x00000000#32) reducesTo_S32768x1024_S32768_d1 h_S_))
      (broadcastInDim S32768x1 ![] bcast_S_S32768x1 (constant S_ .f32 0x44800000#32)))
      (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

/-- The rows' logits. -/
def logits (x : FVec Ideal S32768x1024 .f32) (g : FVec Ideal S1024 .f32) (w : FVec Ideal S1024x8 .f32) : FVec Ideal S32768x8 .f32 :=
  Host.dotGeneral dot_S32768x1024_S1024x8_S32768x8_1_0_0_1_n_n none (normed x g) w

/-- The two greatest of a row, and where they lie. -/
def sorted (X : FVec Ideal S32768x8 .f32) : FVec Ideal S32768x2 .f32 × IVec S32768x2 32 :=
  Host.topK S32768x2 1 (FloatOps.cmpfTotal (F := Ideal) (φ := .f32) .gt) X sliceFits_S32768x8_S32768x2

def hot (d : IVec S32768x2 32) : FVec Ideal S32768x2x8 .f32 :=
  uitofp .f32 (cmpi .eq (broadcastInDim S32768x2x8 ![0, 1, 2] bcast_S32768x2x1_S32768x2x8_0_1_2 (broadcastInDim S32768x2x1 ![0, 1] bcast_S32768x2_S32768x2x1_0_1 d))
    (broadcastInDim S32768x2x8 ![0, 1, 2] bcast_S1x1x8_S32768x2x8_0_1_2 (iotaInDim S1x1x8 32 2)))

def spreadOut (v : FVec Ideal S32768x2 .f32) : FVec Ideal S32768x2x8 .f32 :=
  broadcastInDim S32768x2x8 ![0, 1, 2] bcast_S32768x2x1_S32768x2x8_0_1_2 (broadcastInDim S32768x2x1 ![0, 1] bcast_S32768x2_S32768x2x1_0_1 v)

def both (v : FVec Ideal S32768x2x8 .f32) : FVec Ideal S32768x8 .f32 :=
  Host.reduceAdd v (constant S_ .f32 0x00000000#32) reducesTo_S32768x2x8_S32768x8_d1 h_S_

def upTo (v : FVec Ideal S32768x8 .f32) : FVec Ideal S32768x8 .f32 :=
  Host.reduceWindowAdd ![32768, 1] ![1, 1] ![32767, 0] ![0, 0] v (broadcastInDim S_ ![] bcast_S_S_ (constant S_ .f32 0x00000000#32))
    reduceWindows_S32768x8_S32768x8_w32768s1p32767_0_w1s1p0_0 h_S_

/-- A column of two entries for a row's one. -/
def across (v : FVec Ideal S32768 .f32) : FVec Ideal S32768x2 .f32 :=
  broadcastInDim S32768x2 ![0, 1] bcast_S32768x1_S32768x2_0_1 (broadcastInDim S32768x1 ![0] bcast_S32768_S32768x1_0 v)

def top (v : FVec Ideal S32768x2 .f32) : FVec Ideal S32768 .f32 :=
  maximumf (broadcastInDim S32768 ![] bcast_S_S32768 (constant S_ .f32 0xFF800000#32))
    (Host.reduce FloatOps.maximumf v (constant S_ .f32 0xFF800000#32) reducesTo_S32768x2_S32768_d1 h_S_)

def total (v : FVec Ideal S32768x2 .f32) : FVec Ideal S32768 .f32 :=
  Host.reduceAdd v (constant S_ .f32 0x00000000#32) reducesTo_S32768x2_S32768_d1 h_S_

def raised (v : FVec Ideal S32768x2 .f32) : FVec Ideal S32768x2 .f32 := Host.exp (subf v (across (top v)))

def soft (v : FVec Ideal S32768x2 .f32) : FVec Ideal S32768x2 .f32 := Host.divf (raised v) (across (total (raised v)))

def counts (d : IVec S32768x2 32) : FVec Ideal S32768x8 .f32 := upTo (both (hot d))

def rankArr (d : IVec S32768x2 32) : IVec S32768x8 32 :=
  fptosi 32 (select (cmpf .ogt (both (hot d)) (broadcastInDim S32768x8 ![] bcast_S_S32768x8 (constant S_ .f32 0x00000000#32)))
    (subf (counts d) (broadcastInDim S32768x8 ![] bcast_S_S32768x8 (constant S_ .f32 0x3F800000#32)))
    (broadcastInDim S32768x8 ![] bcast_S_S32768x8 (id (constant S_ .f32 0xBF800000#32))))

def gateArr (p : FVec Ideal S32768x2 .f32 × IVec S32768x2 32) : FVec Ideal S32768x8 .f32 := both (mulf (hot p.2) (spreadOut (soft p.1)))

def countArr (d : IVec S32768x2 32) : FVec Ideal S128x1x128 .f32 :=
  pad S128x1x128 ![0, 0, 0] ![0, 0, 120] ![0, 0, 0] (shapeCast _ (extractStridedSlice S128x1x1x8 ![0, 0, 255, 0]
    (shapeCast _ (counts d) shapeCasts_S32768x8_S128x1x256x8) slices_S128x1x256x8_S128x1x1x8_0_0_255_0) shapeCasts_S128x1x1x8_S128x1x8)
    (sitofp .f32 (constantI S_ 32 0#32)) pads_S128x1x8_S128x1x128_000_000_01200 h_S_

/-! ## Each read at an index -/

theorem reduces_rows : (rows 32768).Reduces [1] (line 32768) := by decide

theorem normed_at (x : S32768x1024.Idx → EReal) (g : S1024.Idx → EReal) (r : Fin 32768) (k : Fin 1024) :
    normed x g (ix2 r k) = norm (fun k => x (ix2 r k)) (fun k => g (ix1 k)) k :=
  host_norm (n := 32768) (by decide) x g reducesTo_S32768x1024_S32768_d1 reduces_rows h_S_
    bcast_S32768_S32768x1_0 bcast_S_S32768x1 bcast_S32768x1_S32768x1024_0_1 bcast_S1024_S1x1024_1 bcast_S1x1024_S32768x1024_0_1 r k

theorem logits_at (x : S32768x1024.Idx → EReal) (g : S1024.Idx → EReal) (w : S1024x8.Idx → EReal) (r : Fin 32768) (e : Fin 8) :
    logits x g w (ix2 r e) = ∑ k : Fin 1024, norm (fun k => x (ix2 r k)) (fun k => g (ix1 k)) k * w (ix2 k e) :=
  (StackMember.dotGeneral_plain_apply (m := 32768) (k := 1024) (n := 8) none (normed x g) w r e).trans
    (Finset.sum_congr rfl fun k _ => congrArg (fun z : EReal => z * w (ix2 k e)) (normed_at x g r k))

theorem out_at {α : Type} (v : S32768x2.Idx → α) (r : Fin 32768) (i : Fin 2) (e : Fin 8) :
    broadcastInDim S32768x2x8 ![0, 1, 2] bcast_S32768x2x1_S32768x2x8_0_1_2 (broadcastInDim S32768x2x1 ![0, 1] bcast_S32768x2_S32768x2x1_0_1 v) (ix3 r i e)
      = v (ix2 r i) := by
  refine (broadcastInDim_apply (t := S32768x2x8) _ _ _ (ix3 r i e) (ix3 r i (0 : Fin 1)) fun a => ?_).trans
    (broadcastInDim_apply (t := S32768x2x1) _ _ _ (ix3 r i (0 : Fin 1)) (ix2 r i) fun a => ?_)
  · match a with
    | ⟨0, _⟩ => rfl
    | ⟨1, _⟩ => rfl
    | ⟨2, _⟩ => rfl
  · match a with
    | ⟨0, _⟩ => rfl
    | ⟨1, _⟩ => rfl

theorem hot_word : ∀ a e : Fin 8, (IntOp.cmpi .eq (BitVec.ofNat 32 a.val) (BitVec.ofNat 32 e.val)).toNat = if e = a then 1 else 0 := by decide

theorem hot_at (d : IVec S32768x2 32) (r : Fin 32768) (i : Fin 2) (e a : Fin 8) (hd : d (ix2 r i) = BitVec.ofNat 32 a.val) :
    hot d (ix3 r i e) = if e = a then 1 else 0 := by
  have hi : broadcastInDim S32768x2x8 ![0, 1, 2] bcast_S1x1x8_S32768x2x8_0_1_2 (iotaInDim S1x1x8 32 2) (ix3 r i e) = BitVec.ofNat 32 e.val :=
    broadcastInDim_apply (t := S32768x2x8) _ _ _ (ix3 r i e) (ix3 (0 : Fin 1) (0 : Fin 1) e) fun a => by
      match a with
      | ⟨0, _⟩ => rfl
      | ⟨1, _⟩ => rfl
      | ⟨2, _⟩ => rfl
  have hw : hot d (ix3 r i e) = (((IntOp.cmpi .eq (BitVec.ofNat 32 a.val) (BitVec.ofNat 32 e.val)).toNat : ℝ) : EReal) :=
    congrArg (fun z : BitVec 1 => ((z.toNat : ℝ) : EReal)) (congrArg₂ (IntOp.cmpi .eq) ((out_at d r i e).trans hd) hi)
  rw [hw, hot_word a e]
  split <;> simp

theorem reduces_both : S32768x2x8.Reduces [1] S32768x8 := by decide
theorem lift_both (r : Fin 32768) (e : Fin 8) (i : Fin 2) : reduces_both.lift (ix2 r e) i = (ix3 r i e : S32768x2x8.Idx) := by
  funext a
  apply Fin.ext
  match a with
  | ⟨0, _⟩ => rfl
  | ⟨1, _⟩ => rfl
  | ⟨2, _⟩ => rfl

theorem both_at (v : FVec Ideal S32768x2x8 .f32) (r : Fin 32768) (e : Fin 8) : both v (ix2 r e) = v (ix3 r 0 e) + v (ix3 r 1 e) := by
  unfold both
  rw [hostReduceAdd_apply, Ideal.hostReduceAdd_single reducesTo_S32768x2x8_S32768x8_d1 reduces_both]
  show Ideal.ofBits .f32 0x00000000#32 + _ = _
  rw [Ideal.ofBits_zero_f32, zero_add]
  refine (Fin.sum_univ_two (fun i : Fin 2 => v (reduces_both.lift (ix2 r e) i))).trans ?_
  rw [lift_both, lift_both]

theorem reduces_pair : S32768x2.Reduces [1] S32768 := by decide
theorem lift_pair (r : Fin 32768) (i : Fin 2) : reduces_pair.lift (ix1 r) i = (ix2 r i : S32768x2.Idx) := by
  funext a
  apply Fin.ext
  match a with
  | ⟨0, _⟩ => rfl
  | ⟨1, _⟩ => rfl

theorem total_at (v : FVec Ideal S32768x2 .f32) (r : Fin 32768) : total v (ix1 r) = v (ix2 r 0) + v (ix2 r 1) := by
  unfold total
  rw [hostReduceAdd_apply, Ideal.hostReduceAdd_single reducesTo_S32768x2_S32768_d1 reduces_pair]
  show Ideal.ofBits .f32 0x00000000#32 + _ = _
  rw [Ideal.ofBits_zero_f32, zero_add]
  refine (Fin.sum_univ_two (fun i : Fin 2 => v (reduces_pair.lift (ix1 r) i))).trans ?_
  rw [lift_pair, lift_pair]

theorem fold_pair (g : Fin 2 → EReal) (h : g 1 ≤ g 0) : Finset.univ.fold max ⊥ g = g 0 :=
  le_antisymm ((Finset.fold_max_le _).2 ⟨bot_le, fun j _ => by
      match j with
      | ⟨0, _⟩ => exact le_rfl
      | ⟨1, _⟩ => exact h⟩)
    ((Finset.le_fold_max _).2 (Or.inr ⟨0, Finset.mem_univ _, le_rfl⟩))

theorem top_at (v : FVec Ideal S32768x2 .f32) (r : Fin 32768) (h : (v (ix2 r 1) : EReal) ≤ v (ix2 r 0)) : top v (ix1 r) = v (ix2 r 0) := by
  have e : Host.reduce FloatOps.maximumf v (constant S_ .f32 0xFF800000#32) reducesTo_S32768x2_S32768_d1 h_S_ (ix1 r) = v (ix2 r 0) := by
    refine (Host.reduce_eq_fold_single FloatOps.maximumf v _ reducesTo_S32768x2_S32768_d1 reduces_pair h_S_ (ix1 r)).trans ?_
    show Finset.univ.fold max (Ideal.ofBits .f32 0xFF800000#32) (v ∘ reduces_pair.lift (ix1 r)) = _
    rw [Cert.RouterIdeal.Block.bits_bot, show v ∘ reduces_pair.lift (ix1 r) = fun i : Fin 2 => v (ix2 r i) from funext fun i => congrArg v (lift_pair r i)]
    exact fold_pair (fun i : Fin 2 => v (ix2 r i)) h
  have b : broadcastInDim S32768 ![] bcast_S_S32768 (constant (F := Ideal) S_ .f32 0xFF800000#32) (ix1 r) = (⊥ : EReal) :=
    (broadcastInDim_scalar_apply _ _ _).trans Cert.RouterIdeal.Block.bits_bot
  refine (congrArg₂ (fun p q : EReal => max p q) b e).trans ?_
  exact max_eq_right bot_le

theorem across_at (v : FVec Ideal S32768 .f32) (r : Fin 32768) (i : Fin 2) : across v (ix2 r i) = v (ix1 r) := by
  refine (broadcastInDim_apply (t := S32768x2) _ _ _ (ix2 r i) (ix2 r (0 : Fin 1)) fun a => ?_).trans
    (broadcastInDim_apply (t := S32768x1) _ _ _ (ix2 r (0 : Fin 1)) (ix1 r) fun a => ?_)
  · match a with
    | ⟨0, _⟩ => rfl
    | ⟨1, _⟩ => rfl
  · match a with
    | ⟨0, _⟩ => rfl

theorem raised_at (v : FVec Ideal S32768x2 .f32) (r : Fin 32768) (h : (v (ix2 r 1) : EReal) ≤ v (ix2 r 0)) (i : Fin 2) :
    raised v (ix2 r i) = Ideal.exp (v (ix2 r i) - v (ix2 r 0)) :=
  congrArg (fun z : EReal => Ideal.exp (v (ix2 r i) - z)) ((across_at (top v) r i).trans (top_at v r h))

theorem divided (p q : FVec Ideal S32768x2 .f32) (y : S32768x2.Idx) : Host.divf p q y = Ideal.div (p y) (q y) := rfl

theorem exp_zero : Ideal.exp 0 = 1 := by
  rw [← EReal.coe_zero, Ideal.exp_coe, Real.exp_zero, EReal.coe_one]

theorem exp_nonneg (x : EReal) : 0 ≤ Ideal.exp x := by
  induction x with
  | bot => exact le_rfl
  | top => exact le_top
  | coe x => exact EReal.coe_nonneg.2 (Real.exp_pos x).le

theorem div_split (p : EReal) (hp : 0 ≤ p) : Ideal.div p (1 + p) = p * Ideal.div 1 (1 + p) := by
  have h : (1 + p : EReal) ≠ 0 := (lt_of_lt_of_le zero_lt_one (le_add_of_nonneg_right hp)).ne'
  unfold Ideal.div
  rw [if_neg h, if_neg h, one_mul]

section
variable (v : FVec Ideal S32768x2 .f32) (r : Fin 32768) (h : (v (ix2 r 1) : EReal) ≤ v (ix2 r 0)) (hb : (v (ix2 r 0) : EReal) ≠ ⊥) (ht : (v (ix2 r 0) : EReal) ≠ ⊤)
include h hb ht

theorem raised_fst : raised v (ix2 r 0) = 1 := by
  rw [raised_at v r h 0]
  exact (congrArg Ideal.exp (EReal.sub_self ht hb)).trans exp_zero

theorem soft_at (i : Fin 2) : soft v (ix2 r i) = Ideal.div (raised v (ix2 r i)) (1 + Ideal.exp (v (ix2 r 1) - v (ix2 r 0))) := by
  unfold soft
  rw [divided, across_at, total_at]
  rw [raised_fst v r h hb ht, raised_at v r h 1]

theorem soft_fst : soft v (ix2 r 0) = Ideal.div 1 (1 + Ideal.exp (v (ix2 r 1) - v (ix2 r 0))) := by
  rw [soft_at v r h hb ht 0, raised_fst v r h hb ht]
theorem soft_snd : soft v (ix2 r 1) = Ideal.exp (v (ix2 r 1) - v (ix2 r 0)) * Ideal.div 1 (1 + Ideal.exp (v (ix2 r 1) - v (ix2 r 0))) := by
  rw [soft_at v r h hb ht 1, raised_at v r h 1]
  exact div_split _ (exp_nonneg _)
end

/-! ## The results, over each row's two experts -/

section
variable {L : Fin 32768 → Fin 8 → EReal} {f s : Fin 32768 → Fin 8} (T : ∀ r, Top (L r) (f r) (s r))
variable (X : FVec Ideal S32768x8 .f32) (hX : ∀ r e, X (ix2 r e) = L r e)
include T hX

theorem top_row (r : Fin 32768) : Top (fun e => X (ix2 r e)) (f r) (s r) := (funext fun e => hX r e : (fun e => X (ix2 r e)) = L r) ▸ T r

theorem fst_at (r : Fin 32768) : (sorted X).1 (ix2 r 0) = L r (f r) :=
  (topK_at X sliceFits_S32768x8_S32768x2 r (top_row T X hX r) 0).1.trans (hX r (f r))
theorem snd_at (r : Fin 32768) : (sorted X).1 (ix2 r 1) = L r (s r) :=
  (topK_at X sliceFits_S32768x8_S32768x2 r (top_row T X hX r) 1).1.trans (hX r (s r))
theorem fst_where (r : Fin 32768) : (sorted X).2 (ix2 r 0) = BitVec.ofNat 32 (f r).val :=
  (topK_at X sliceFits_S32768x8_S32768x2 r (top_row T X hX r) 0).2
theorem snd_where (r : Fin 32768) : (sorted X).2 (ix2 r 1) = BitVec.ofNat 32 (s r).val :=
  (topK_at X sliceFits_S32768x8_S32768x2 r (top_row T X hX r) 1).2

theorem hot_fst (r : Fin 32768) (e : Fin 8) : hot (sorted X).2 (ix3 r 0 e) = if e = f r then 1 else 0 := hot_at _ r 0 e _ (fst_where T X hX r)
theorem hot_snd (r : Fin 32768) (e : Fin 8) : hot (sorted X).2 (ix3 r 1 e) = if e = s r then 1 else 0 := hot_at _ r 1 e _ (snd_where T X hX r)

theorem nat_iff (e a : Fin 8) : nat e.val = nat a.val ↔ e = a := nat_inj.trans Fin.ext_iff.symm

theorem picked_at (r : Fin 32768) (e : Fin 8) : both (hot (sorted X).2) (ix2 r e) = picked f s r.val e.val := by
  rw [both_at, hot_fst T X hX, hot_snd T X hX, picked_row]
  simp only [nat_inj, ← Fin.ext_iff]
  by_cases h : e = f r
  · rw [if_pos h, if_pos h, if_neg (fun g => (T r).ne (g.symm.trans h)), add_zero]
  · rw [if_neg h, if_neg h, zero_add]

theorem counts_at (r : Fin 32768) (e : Fin 8) : counts (sorted X).2 (ix2 r e) = seen f s (r.val + 1) e.val := by
  have z : broadcastInDim S_ ![] bcast_S_S_ (constant (F := Ideal) S_ .f32 0x00000000#32) (Shape.Idx.first h_S_) = (0 : EReal) :=
    (broadcastInDim_scalar_apply _ _ _).trans Ideal.ofBits_zero_f32
  unfold counts upTo
  refine (summed (n := 32768) (q := 32767) _ _ _ _ _).trans ?_
  rw [z]
  exact running (n := 32768) (q := 32767) rfl (both (hot (sorted X).2)) reduceWindows_S32768x8_S32768x8_w32768s1p32767_0_w1s1p0_0 r e
    (fun t => picked f s t e.val) fun t => picked_at T X hX t e

theorem less_one (r : Fin 32768) (e : Fin 8) (h : 0 < picked f s r.val e.val) : seen f s (r.val + 1) e.val - 1 = seen f s r.val e.val := by
  obtain ⟨x, hx⟩ := seen_real f s r.val e.val
  have hp : picked f s r.val e.val = 1 := by
    rw [picked_row] at h ⊢
    split
    · rfl
    · rename_i h1
      rw [if_neg h1] at h
      split
      · rfl
      · rename_i h2
        rw [if_neg h2] at h
        exact absurd h (lt_irrefl _)
  have e1 : seen f s (r.val + 1) e.val = seen f s r.val e.val + 1 := by
    unfold seen
    rw [Finset.sum_range_succ, hp]
  rw [e1, hx, ← EReal.coe_one, ← EReal.coe_add, ← EReal.coe_sub, add_sub_cancel_right]

theorem rankArr_at (r : Fin 32768) (e : Fin 8) : rankArr (sorted X).2 (ix2 r e) = rankOf f s r e := by
  refine congrArg (FloatOps.fptosi (F := Ideal) (φ := .f32) 32) ?_
  refine (Cert.RouterIdeal.Block.choose_gt _ _ _ _ _).trans ?_
  have z : broadcastInDim S32768x8 ![] bcast_S_S32768x8 (constant (F := Ideal) S_ .f32 0x00000000#32) (ix2 r e) = (0 : EReal) :=
    (broadcastInDim_scalar_apply _ _ _).trans Ideal.ofBits_zero_f32
  have o : broadcastInDim S32768x8 ![] bcast_S_S32768x8 (constant (F := Ideal) S_ .f32 0x3F800000#32) (ix2 r e) = (1 : EReal) :=
    (broadcastInDim_scalar_apply _ _ _).trans Ideal.ofBits_one_f32
  have q : broadcastInDim S32768x8 ![] bcast_S_S32768x8 (id (constant (F := Ideal) S_ .f32 0xBF800000#32)) (ix2 r e) = Ideal.ofBits .f32 0xBF800000#32 :=
    broadcastInDim_scalar_apply _ _ _
  rw [z, picked_at T X hX, q]
  by_cases h : 0 < picked f s r.val e.val
  · rw [if_pos h, if_pos h]
    refine (congrArg₂ (fun p q : EReal => p - q) (counts_at T X hX r e) o).trans ?_
    exact less_one T X hX r e h
  · rw [if_neg h, if_neg h]

theorem gateArr_at (r : Fin 32768) (e : Fin 8) (hb : L r (f r) ≠ ⊥) (ht : L r (f r) ≠ ⊤) : gateArr (sorted X) (ix2 r e) = gateOf f s L r e := by
  have h0 := fst_at T X hX r
  have h1 := snd_at T X hX r
  have h : ((sorted X).1 (ix2 r 1) : EReal) ≤ (sorted X).1 (ix2 r 0) := by rw [h0, h1]; exact (T r).le_fst _
  have a := soft_fst (sorted X).1 r h (by rw [h0]; exact hb) (by rw [h0]; exact ht)
  have b := soft_snd (sorted X).1 r h (by rw [h0]; exact hb) (by rw [h0]; exact ht)
  rw [h0, h1] at a b
  have p : ∀ i, mulf (hot (sorted X).2) (spreadOut (soft (sorted X).1)) (ix3 r i e) = hot (sorted X).2 (ix3 r i e) * soft (sorted X).1 (ix2 r i) := fun i =>
    congrArg (fun z : EReal => hot (sorted X).2 (ix3 r i e) * z) (out_at _ r i e)
  unfold gateArr
  rw [both_at, p, p, hot_fst T X hX, hot_snd T X hX, a, b]
  unfold gateOf
  simp only [nat_inj, ← Fin.ext_iff]
  by_cases h : e = f r
  · rw [if_pos h, if_pos h, if_neg (fun g => (T r).ne (g.symm.trans h)), zero_mul, add_zero, one_mul]
  · rw [if_neg h, if_neg h, zero_mul, zero_add]
    by_cases h' : e = s r
    · rw [if_pos h', if_pos h', one_mul]
    · rw [if_neg h', if_neg h', zero_mul]

omit X hX T in
theorem seen_none (n j : ℕ) (h : 8 ≤ j) : seen f s n j = 0 := by
  refine Finset.sum_eq_zero fun t _ => ?_
  unfold picked
  split
  · rename_i ht
    have h1 := (f ⟨t, ht⟩).isLt
    have h2 := (s ⟨t, ht⟩).isLt
    rw [if_neg (fun g => by have := nat_inj.1 g; omega), if_neg (fun g => by have := nat_inj.1 g; omega)]
  · rfl

theorem countArr_at (n : Fin 128) (q : Fin 1) (j : Fin 128) : countArr (sorted X).2 (ix3 n q j) = seen f s (256 * (n.val + 1)) j.val := by
  have hn := n.isLt
  have hq := q.isLt
  unfold countArr
  by_cases h : j.val < 8
  · refine (pad_apply_of_inside _ _ _ _ _ _ _ (ix3 n q j) (ix3 n (0 : Fin 1) (⟨j.val, h⟩ : Fin 8)) fun a => ?_).trans ?_
    · match a with
      | ⟨0, _⟩ => show n.val = 0 + n.val * 1; omega
      | ⟨1, _⟩ => show q.val = 0 + 0 * 1; omega
      | ⟨2, _⟩ => show j.val = 0 + j.val * 1; omega
    · refine (shapeCast_apply _ _ (ix3 n (0 : Fin 1) (⟨j.val, h⟩ : Fin 8)) (ix4 n (0 : Fin 1) (0 : Fin 1) (⟨j.val, h⟩ : Fin 8)) ?_).trans ?_
      · rw [Shape.rowMajor_val_four, Shape.rowMajor_val_three]
        show ((n.val * 1 + 0) * 1 + 0) * 8 + j.val = (n.val * 1 + 0) * 8 + j.val
        omega
      refine (extractStridedSlice_apply _ _ _ _ (ix4 n (0 : Fin 1) (⟨255, by decide⟩ : Fin 256) (⟨j.val, h⟩ : Fin 8)) fun a => ?_).trans ?_
      · match a with
        | ⟨0, _⟩ => exact (Nat.zero_add _).symm
        | ⟨1, _⟩ => rfl
        | ⟨2, _⟩ => rfl
        | ⟨3, _⟩ => exact (Nat.zero_add _).symm
      have hr : 256 * n.val + 255 < 32768 := by omega
      refine (shapeCast_apply _ _ _ (ix2 (⟨256 * n.val + 255, hr⟩ : Fin 32768) (⟨j.val, h⟩ : Fin 8)) ?_).trans ?_
      · rw [Shape.rowMajor_val_four, Shape.rowMajor_val_two]
        show (256 * n.val + 255) * 8 + j.val = ((n.val * 1 + 0) * 256 + 255) * 8 + j.val
        omega
      · refine (counts_at T X hX _ _).trans ?_
        exact congrArg (fun k => seen f s k j.val) (by show 256 * n.val + 255 + 1 = 256 * (n.val + 1); omega)
  · refine (pad_apply_of_not_inside _ _ _ _ _ _ _ (ix3 n q j) 2 fun g => ?_).trans ?_
    · have g3 := g.2.2
      change (j.val - 0) / (0 + 1) < 8 at g3
      omega
    · rw [seen_none _ _ (by omega)]
      show (((0#32 : BitVec 32).toInt : ℝ) : EReal) = 0
      simp
end

end Cert.RouterReferenceIdeal.Route

end
-- ==== Proof.Router.Equal.lean ====
/-
  What the precondition says of the logits, and the two routers' equal results.
-/
module

public import proofs.«01_k».proof.Pre_above_mask
public import proofs.«01_k».proof.Proof.Router.Value
public import proofs.«01_k».proof.Proof.Router.Reference
public import proofs.«01_k».proof.Proof.Grouped.Experts
public import Idealize.ShloMosaic.Lib.ReduceAll

@[expose] public section

set_option maxRecDepth 16384

noncomputable section

namespace Cert.RouterReferenceIdeal.Route

open Idealize.ShloMosaic Idealize.ShloMosaic.TcCoe Idealize.ShloMosaic.ValueIdx Idealize.SL.Sem
open Cert.RouterReferenceIdeal Cert.RouterReferenceIdeal.Gen

theorem run_outcome (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v42)
          = truncf .bf16 (normed (m ((c.tc : Thread nD τ).loc main_arg0)) (m ((c.tc : Thread nD τ).loc main_arg1))) bitsLt_bf16_f32
      ∧ r.2.mem ((c.tc : Thread nD τ).loc main_v37)
          = rankArr (sorted (logits (m ((c.tc : Thread nD τ).loc main_arg0)) (m ((c.tc : Thread nD τ).loc main_arg1)) (m ((c.tc : Thread nD τ).loc main_arg2)))).2
      ∧ r.2.mem ((c.tc : Thread nD τ).loc main_v29)
          = gateArr (sorted (logits (m ((c.tc : Thread nD τ).loc main_arg0)) (m ((c.tc : Thread nD τ).loc main_arg1)) (m ((c.tc : Thread nD τ).loc main_arg2))))
      ∧ r.2.mem ((c.tc : Thread nD τ).loc main_v41)
          = countArr (sorted (logits (m ((c.tc : Thread nD τ).loc main_arg0)) (m ((c.tc : Thread nD τ).loc main_arg1)) (m ((c.tc : Thread nD τ).loc main_arg2)))).2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ

end Cert.RouterReferenceIdeal.Route

namespace Cert.RouterIdeal.Route

open Idealize.ShloMosaic Idealize.ShloMosaic.TcCoe Idealize.ShloMosaic.ValueIdx
open Cert.RouterIdeal Cert.RouterIdeal.Gen Cert.RouterIdeal.Block Cert.Norm Cert.Router.Top Cert.Router.Plan

/-! ## The precondition -/

theorem gt_of {t : Shape} (a b : FVec Ideal t .f32) (y : t.Idx) (h : cmpf .ogt a b y = 1#1) : (b y : EReal) < a y :=
  @of_decide_eq_true _ _ ((StableHlo.Predicate.ofBool_eq_one_iff _).1 h)
theorem lt_of {t : Shape} (a b : FVec Ideal t .f32) (y : t.Idx) (h : cmpf .olt a b y = 1#1) : (a y : EReal) < b y :=
  @of_decide_eq_true _ _ ((StableHlo.Predicate.ofBool_eq_one_iff _).1 h)

/-- The logits of the precondition are the reference's. -/
theorem of_pre [Cert.Pre_above_mask.Facts] (x : S32768x1024.Idx → EReal) (g : S1024.Idx → EReal) (w : S1024x8.Idx → EReal)
    (h : Cert.Pre_above_mask.fn (F := Ideal) x g w = fun _ => 1#1) (r : Fin 32768) (e : Fin 8) :
    mask < Cert.RouterReferenceIdeal.Route.logits x g w (ix2 r e) ∧ Cert.RouterReferenceIdeal.Route.logits x g w (ix2 r e) < ⊤ := by
  have q := congrFun h ix0
  unfold Cert.Pre_above_mask.fn Cert.Pre_above_mask.fn_part1 at q
  have a := Host.reduce_andi_all _ _ _ _ _ q (ix2 r e)
  obtain ⟨b, d⟩ := Cert.Experts.both _ _ a
  have b' := gt_of (Cert.RouterReferenceIdeal.Route.logits x g w) _ (ix2 r e) b
  have d' := lt_of (Cert.RouterReferenceIdeal.Route.logits x g w) _ (ix2 r e) d
  rw [broadcastInDim_scalar_apply] at b' d'
  exact ⟨b', lt_of_lt_of_eq d' bits_top⟩

variable (m : (ℓ : Loc nD τ sig) → Buf (Elt Ideal) ℓ) (c : Dev nD)

/-- The reference's logits, of the call's arguments. -/
abbrev scores : FVec Ideal S32768x8 .f32 := Cert.RouterReferenceIdeal.Route.logits (tokens m c) (gain m c) (router m c)

theorem scores_at (r : Fin 32768) (e : Fin 8) : scores m c (ix2 r e) = score m c r e :=
  Cert.RouterReferenceIdeal.Route.logits_at (tokens m c) (gain m c) (router m c) r e

section
variable (h : ∀ r e, mask < score m c r e ∧ score m c r e < ⊤)
include h

theorem exists_pair : ∃ f s : Fin 32768 → Fin 8, ∀ r, Top (score m c r) (f r) (s r) := by
  choose f s T using fun r => exists_top (score m c r)
  exact ⟨f, s, T⟩

theorem equal_rank : Cert.RouterReferenceIdeal.Route.rankArr (Cert.RouterReferenceIdeal.Route.sorted (scores m c)).2
    = ((dats m 0 c).arrAt 5 cfg0.N : S32768x8.Idx → BitVec 32) := by
  obtain ⟨f, s, T⟩ := exists_pair m c h
  rw [final_rank m c T fun r e => (h r e).1]
  funext y
  obtain ⟨r, e, rfl⟩ : ∃ (i : Fin 32768) (j : Fin 8), y = ix2 i j := ⟨y 0, y 1, eq_ix2 y⟩
  exact Cert.RouterReferenceIdeal.Route.rankArr_at T (scores m c) (scores_at m c) r e

theorem equal_gate : Cert.RouterReferenceIdeal.Route.gateArr (Cert.RouterReferenceIdeal.Route.sorted (scores m c))
    = ((dats m 0 c).arrAt 6 cfg0.N : S32768x8.Idx → EReal) := by
  obtain ⟨f, s, T⟩ := exists_pair m c h
  rw [final_gate m c T fun r e => (h r e).1]
  funext y
  obtain ⟨r, e, rfl⟩ : ∃ (i : Fin 32768) (j : Fin 8), y = ix2 i j := ⟨y 0, y 1, eq_ix2 y⟩
  exact Cert.RouterReferenceIdeal.Route.gateArr_at T (scores m c) (scores_at m c) r e (bot_le.trans_lt (h r (f r)).1).ne' (h r (f r)).2.ne

theorem equal_count : Cert.RouterReferenceIdeal.Route.countArr (Cert.RouterReferenceIdeal.Route.sorted (scores m c)).2
    = ((dats m 0 c).arrAt 7 cfg0.N : S128x1x128.Idx → EReal) := by
  obtain ⟨f, s, T⟩ := exists_pair m c h
  rw [final_count m c T fun r e => (h r e).1]
  funext y
  obtain ⟨n, q, j, rfl⟩ : ∃ (n : Fin 128) (q : Fin 1) (j : Fin 128), y = ix3 n q j := ⟨y 0, y 1, y 2, eq_ix3 y⟩
  exact Cert.RouterReferenceIdeal.Route.countArr_at T (scores m c) (scores_at m c) n q j
end

theorem equal_hn : (truncf .bf16 (Cert.RouterReferenceIdeal.Route.normed (tokens m c) (gain m c)) Cert.RouterReferenceIdeal.Gen.bitsLt_bf16_f32 : FVec Ideal S32768x1024 .bf16)
    = ((dats m 0 c).arrAt 4 cfg0.N : S32768x1024.Idx → EReal) := by
  rw [final_hn m c]
  funext y
  obtain ⟨r, k, rfl⟩ : ∃ (i : Fin 32768) (j : Fin 1024), y = ix2 i j := ⟨y 0, y 1, eq_ix2 y⟩
  exact (rounded (Cert.RouterReferenceIdeal.Route.normed (tokens m c) (gain m c)) _ (ix2 r k)).trans
    (Cert.RouterReferenceIdeal.Route.normed_at (tokens m c) (gain m c) r k)

theorem above [Cert.Pre_above_mask.Facts] (h : Cert.Pre_above_mask.fn (F := Ideal) (tokens m c) (gain m c) (router m c) = fun _ => 1#1)
    (r : Fin 32768) (e : Fin 8) : mask < score m c r e ∧ score m c r e < ⊤ := by
  rw [← scores_at m c r e]
  exact of_pre (tokens m c) (gain m c) (router m c) h r e

end Cert.RouterIdeal.Route

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Pre_experts_exist
public import proofs.«01_k».proof.Proof.Gen.Pre_above_mask
public import proofs.«01_k».proof.Proof.Grouped.Frame
public import proofs.«01_k».proof.Proof.Grouped.Tables
public import proofs.«01_k».proof.Proof.GroupedBits.Frame
public import proofs.«01_k».proof.Proof.GroupedBits.Tables
public import proofs.«01_k».proof.Proof.Equal
public import proofs.«01_k».proof.Proof.Sum.Value
public import proofs.«01_k».proof.Proof.Dense.Equal
public import proofs.«01_k».proof.Proof.Router.Equal
public import proofs.«01_k».proof.Proof.Gen.CombineIdeal.Frame
public import proofs.«01_k».proof.Proof.Gen.FfnDenseIdeal.Frame
public import proofs.«01_k».proof.Proof.Gen.CombineIdeal.Value
public import proofs.«01_k».proof.Proof.Gen.FfnDenseIdeal.Value
public import proofs.«01_k».proof.Proof.Gen.Combine
public import proofs.«01_k».proof.Proof.Gen.Combine.Frame
public import proofs.«01_k».proof.Proof.Gen.RouterReferenceIdeal
public import proofs.«01_k».proof.Proof.Gen.RouterReferenceIdeal.Run
public import proofs.«01_k».proof.Proof.Gen.Router
public import proofs.«01_k».proof.Proof.Gen.Router.Frame
public import proofs.«01_k».proof.Proof.Gen.RouterIdeal
public import proofs.«01_k».proof.Proof.Gen.RouterIdeal.Frame
public import proofs.«01_k».proof.Proof.Gen.RouterIdeal.Value
public import proofs.«01_k».proof.Proof.Gen.FfnDense
public import proofs.«01_k».proof.Proof.Gen.FfnDense.Frame
public import proofs.«01_k».proof.Proof.Gen.CombineReferenceIdeal
public import proofs.«01_k».proof.Proof.Gen.CombineReferenceIdeal.Run
public import proofs.«01_k».proof.Proof.Gen.FfnDenseReferenceIdeal
public import proofs.«01_k».proof.Proof.Gen.FfnDenseReferenceIdeal.Run
public import Idealize.ShloMosaic.Adequacy
public import Idealize.ShloMosaic.Init
public import Idealize.ShloMosaic.Lib.Claim

@[expose] public section

noncomputable section

namespace Cert.Proof

open Idealize.ShloMosaic Idealize.SL.Sem

instance : Cert.Pre_experts_exist.Facts := Cert.Pre_experts_exist.Gen.facts
instance : Cert.Pre_above_mask.Facts := Cert.Pre_above_mask.Gen.facts

/-- Where the experts exist, every block the index maps of the printed kernel name lies inside its array. -/
theorem fits_bits (m : (ℓ : Loc Cert.Kernel.nD Cert.Kernel.τ Cert.Kernel.sig) → Buf (Elt Bits) ℓ)
    (h : Cert.Pre_Kernel m) : Cert.Kernel.Grouped.Fits m :=
  Cert.Kernel.Grouped.fits_of_inRange m
    (Cert.Kernel.Grouped.inRange_of m fun x => Cert.Experts.of_pre _ _ _ _ _ _ _ (h 0) x)

/-- The same for the idealization. -/
theorem fits_ideal (m : (ℓ : Loc Cert.KernelIdeal.nD Cert.KernelIdeal.τ Cert.KernelIdeal.sig) → Buf (Elt Ideal) ℓ)
    (h : Cert.Pre_KernelIdeal m) : Cert.KernelIdeal.Grouped.Fits m :=
  Cert.KernelIdeal.Grouped.fits_of_inRange m
    (Cert.KernelIdeal.Grouped.inRange_of m fun x => Cert.Experts.of_pre _ _ _ _ _ _ _ (h 0) x)

theorem kernel_runs : Cert.quiescent_Kernel := fun m g h =>
  (θ_run _ _ _).mono (fun _ r => ⟨fun c => (r.1 c).2, r.2⟩) (Cert.Kernel.Grouped.run m g (fits_bits m h))

theorem kernelIdeal_runs : Cert.quiescent_KernelIdeal := fun m g h =>
  (θ_run _ _ _).mono (fun _ r => ⟨fun c => (r.1 c).2, r.2⟩) (Cert.KernelIdeal.Grouped.run m g (fits_ideal m h))

/-- The reference has no semaphores. -/
theorem no_sems (f : GSem Cert.ReferenceIdeal.nD Cert.ReferenceIdeal.τ Cert.ReferenceIdeal.sig → ℤ) : f = fun _ => 0 := by
  funext g
  obtain ⟨_, s⟩ := g
  rcases s with s | s
  · exact s.elim0
  · exact s.elim0

theorem reference_runs : Cert.quiescent_ReferenceIdeal := fun m g _ =>
  (θ_run _ _ _).mono (fun _ r => ⟨fun c => (r c).2, no_sems _⟩) (Cert.ReferenceIdeal.Dense.run_outcome m g)

theorem reference_runs_pre : Cert.quiescent_ReferenceIdeal_pre_experts_exist := fun m g _ =>
  (θ_run _ _ _).mono (fun _ r => ⟨fun c => (r c).2, no_sems _⟩) (Cert.ReferenceIdeal.Dense.run_outcome m g)

/-- The two programs end with the same result: `Cert.Equal.equal` between what their runs leave. -/
theorem same_result : Cert.algebraic_KernelIdeal_ReferenceIdeal := fun m g m' g' h ha => by
  have hR := Cert.KernelIdeal.Grouped.inRange_of m fun x => Cert.Experts.of_pre _ _ _ _ _ _ _ (h 0) x
  refine ⟨fun c => Cert.KernelIdeal.Grouped.result m c hR, ?_, ?_⟩
  · exact (θ_run _ _ _).mono (fun _ r c => ⟨((r.1 c).1).trans (Cert.KernelIdeal.Grouped.final m (fits_ideal m h) c hR), (r.1 c).2⟩)
      (Cert.KernelIdeal.Grouped.run m g (fits_ideal m h))
  · refine (θ_run _ _ _).mono (fun _ r c => ⟨((r c).1).trans ?_, (r c).2⟩) (Cert.ReferenceIdeal.Dense.run_outcome m' g')
    obtain ⟨h0, h1, h2, h3, h4, h5, h6⟩ := ha c
    exact Cert.Equal.equal m m' hR c h0 h1 h2 h3 h4 h5 h6

/-! ## The sum of the residual and the expert rows, and its norm -/

theorem no_sems_combine (f : GSem Cert.CombineReferenceIdeal.nD Cert.CombineReferenceIdeal.τ Cert.CombineReferenceIdeal.sig → ℤ) :
    f = fun _ => 0 := by
  funext g
  obtain ⟨_, s⟩ := g
  rcases s with s | s
  · exact s.elim0
  · exact s.elim0

theorem combineReference_runs : Cert.quiescent_CombineReferenceIdeal := fun m g _ =>
  (θ_run _ _ _).mono (fun _ r => ⟨fun c => (r c).2, no_sems_combine _⟩) (Cert.CombineReferenceIdeal.Sum.run_outcome m g)

theorem combine_same : Cert.algebraic_CombineIdeal_CombineReferenceIdeal := fun m g m' g' _ ha => by
  refine ⟨fun c => Cert.CombineIdeal.Sum.result m c, ?_, ?_⟩
  · exact (θ_run _ _ _).mono (fun _ r c => ⟨((r c).1).trans (Cert.CombineIdeal.Sum.final m c), (r c).2⟩)
      (Cert.CombineIdeal.Value.run_blocks m g)
  · refine (θ_run _ _ _).mono (fun _ r c => ⟨((r c).1).trans ?_, (r c).2⟩) (Cert.CombineReferenceIdeal.Sum.run_outcome m' g')
    obtain ⟨h0, h1, h2, h3⟩ := ha c
    rw [h0, h1, h2, h3]
    exact Cert.CombineIdeal.Sum.equal m c

/-! ## The dense feed-forward -/

theorem no_sems_dense (f : GSem Cert.FfnDenseReferenceIdeal.nD Cert.FfnDenseReferenceIdeal.τ Cert.FfnDenseReferenceIdeal.sig → ℤ) :
    f = fun _ => 0 := by
  funext g
  obtain ⟨_, s⟩ := g
  rcases s with s | s
  · exact s.elim0
  · exact s.elim0

theorem denseReference_runs : Cert.quiescent_FfnDenseReferenceIdeal := fun m g _ =>
  (θ_run _ _ _).mono (fun _ r => ⟨fun c => (r c).2, no_sems_dense _⟩) (Cert.FfnDenseReferenceIdeal.Dense.run_outcome m g)

theorem dense_same : Cert.algebraic_FfnDenseIdeal_FfnDenseReferenceIdeal := fun m g m' g' _ ha => by
  refine ⟨fun c => Cert.FfnDenseIdeal.Dense.result m c, ?_, ?_⟩
  · exact (θ_run _ _ _).mono (fun _ r c => ⟨((r c).1).trans (Cert.FfnDenseIdeal.Dense.final m c), (r c).2⟩)
      (Cert.FfnDenseIdeal.Value.run_blocks m g)
  · refine (θ_run _ _ _).mono (fun _ r c => ⟨((r c).1).trans ?_, (r c).2⟩) (Cert.FfnDenseReferenceIdeal.Dense.run_outcome m' g')
    obtain ⟨h0, h1, h2, h3, h4⟩ := ha c
    rw [h0, h1, h2, h3, h4]
    exact Cert.FfnDenseIdeal.Dense.equal m c

/-! ## The router -/

theorem no_sems_router (f : GSem Cert.RouterReferenceIdeal.nD Cert.RouterReferenceIdeal.τ Cert.RouterReferenceIdeal.sig → ℤ) :
    f = fun _ => 0 := by
  funext g
  obtain ⟨_, s⟩ := g
  rcases s with s | s
  · exact s.elim0
  · exact s.elim0

theorem routerReference_runs : Cert.quiescent_RouterReferenceIdeal := fun m g _ =>
  (θ_run _ _ _).mono (fun _ r => ⟨fun c => (r c).2.2.2.2, no_sems_router _⟩) (Cert.RouterReferenceIdeal.Route.run_outcome m g)

theorem routerReference_runs_pre : Cert.quiescent_RouterReferenceIdeal_pre_above_mask := fun m g _ =>
  (θ_run _ _ _).mono (fun _ r => ⟨fun c => (r c).2.2.2.2, no_sems_router _⟩) (Cert.RouterReferenceIdeal.Route.run_outcome m g)

theorem router_same : Cert.algebraic_RouterIdeal_RouterReferenceIdeal_pre_above_mask := fun m g m' g' h ha => by
  refine ⟨fun c => (Cert.RouterIdeal.Gen.dats m 0 c).arrAt 4 _, fun c => (Cert.RouterIdeal.Gen.dats m 0 c).arrAt 5 _,
    fun c => (Cert.RouterIdeal.Gen.dats m 0 c).arrAt 6 _, fun c => (Cert.RouterIdeal.Gen.dats m 0 c).arrAt 7 _,
    Cert.RouterIdeal.Value.run_blocks m g, ?_⟩
  refine (θ_run _ _ _).mono (fun _ r c => ?_) (Cert.RouterReferenceIdeal.Route.run_outcome m' g')
  obtain ⟨r0, r1, r2, r3, r4⟩ := r c
  obtain ⟨h0, h1, h2⟩ := ha c
  have a := Cert.RouterIdeal.Route.above m c (h c)
  rw [h0, h1] at r0
  rw [h0, h1, h2] at r1 r2 r3
  exact ⟨r0.trans (Cert.RouterIdeal.Route.equal_hn m c), r1.trans (Cert.RouterIdeal.Route.equal_rank m c a),
    r2.trans (Cert.RouterIdeal.Route.equal_gate m c a), r3.trans (Cert.RouterIdeal.Route.equal_count m c a), r4⟩

theorem claim : Cert.Claim := ⟨Cert.Kernel.Gen.facts, Cert.KernelIdeal.Gen.facts, Cert.ReferenceIdeal.Gen.facts,
  Cert.Combine.Gen.facts, Cert.CombineIdeal.Gen.facts, Cert.CombineReferenceIdeal.Gen.facts,
  Cert.FfnDense.Gen.facts, Cert.FfnDenseIdeal.Gen.facts, Cert.FfnDenseReferenceIdeal.Gen.facts,
  Cert.Router.Gen.facts, Cert.RouterIdeal.Gen.facts, Cert.RouterReferenceIdeal.Gen.facts,
  Cert.Pre_experts_exist.Gen.facts, Cert.Pre_above_mask.Gen.facts,
  kernel_runs, kernelIdeal_runs, reference_runs, reference_runs_pre,
  fun m g _ => Cert.Combine.Gen.frame m g, fun m g _ => Cert.CombineIdeal.Gen.frame m g, combineReference_runs,
  fun m g _ => Cert.FfnDense.Gen.frame m g, fun m g _ => Cert.FfnDenseIdeal.Gen.frame m g, denseReference_runs,
  fun m g _ => Cert.Router.Gen.frame m g, fun m g _ => Cert.RouterIdeal.Gen.frame m g,
  fun m g _ => Cert.RouterIdeal.Gen.frame m g, routerReference_runs, routerReference_runs_pre,
  trivial, same_result, trivial, combine_same, trivial, dense_same, trivial, router_same⟩

end Cert.Proof

end
